-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v13_1)) (v1 : (c : Dev Cert.KernelIdeal.nD) → Buf (Elt Ideal) ((c.tc : Thread Cert.KernelIdeal.nD Cert.KernelIdeal.τ).loc Cert.KernelIdeal.main_v13_2)) (v2 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_1) = v0 c
          ∧ r.2.mem ((c.tc : Thread Cert.KernelIdeal.nD Cert.KernelIdeal.τ).loc Cert.KernelIdeal.main_v13_2) = v1 c
          ∧ r.2.mem ((c.tc : Thread Cert.KernelIdeal.nD Cert.KernelIdeal.τ).loc Cert.KernelIdeal.main_v13_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v21_1)) (v1 : (c : Dev Cert.Kernel3Ideal.nD) → Buf (Elt Ideal) ((c.tc : Thread Cert.Kernel3Ideal.nD Cert.Kernel3Ideal.τ).loc Cert.Kernel3Ideal.main_v21_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_1) = v0 c
          ∧ r.2.mem ((c.tc : Thread Cert.Kernel3Ideal.nD Cert.Kernel3Ideal.τ).loc Cert.Kernel3Ideal.main_v21_2) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S128x1x1024 : Shape := ⟨3, ![128, 1, 1024]⟩
abbrev S1x128x128x2x64 : Shape := ⟨5, ![1, 128, 128, 2, 64]⟩
abbrev S1x128x4x128x128 : Shape := ⟨5, ![1, 128, 4, 128, 128]⟩
abbrev S1x8 : Shape := ⟨2, ![1, 8]⟩
abbrev S1x1024 : Shape := ⟨2, ![1, 1024]⟩
abbrev S2x512 : Shape := ⟨2, ![2, 512]⟩
abbrev S1x128 : Shape := ⟨2, ![1, 128]⟩
abbrev S1x1024x4864 : Shape := ⟨3, ![1, 1024, 4864]⟩
abbrev S1x512x1024 : Shape := ⟨3, ![1, 512, 1024]⟩
abbrev S1x1024x1024 : Shape := ⟨3, ![1, 1024, 1024]⟩
abbrev S128x1024 : Shape := ⟨2, ![128, 1024]⟩
abbrev S128x128x2x64 : Shape := ⟨4, ![128, 128, 2, 64]⟩
abbrev S128x128x128 : Shape := ⟨3, ![128, 128, 128]⟩
abbrev S128x4x128x128 : Shape := ⟨4, ![128, 4, 128, 128]⟩
abbrev S128x512x128 : Shape := ⟨3, ![128, 512, 128]⟩
abbrev S1024x4864 : Shape := ⟨2, ![1024, 4864]⟩
abbrev S512x1024 : Shape := ⟨2, ![512, 1024]⟩
abbrev S1024x1024 : Shape := ⟨2, ![1024, 1024]⟩
abbrev S16x128x128 : Shape := ⟨3, ![16, 128, 128]⟩
abbrev S16x512x128 : Shape := ⟨3, ![16, 512, 128]⟩
abbrev S128x512 : Shape := ⟨2, ![128, 512]⟩
abbrev S128x128 : Shape := ⟨2, ![128, 128]⟩
abbrev S4x64x4864 : Shape := ⟨3, ![4, 64, 4864]⟩
abbrev S4 : Shape := ⟨1, ![4]⟩
abbrev S1 : Shape := ⟨1, ![1]⟩
abbrev S_ : Shape := ⟨0, ![]⟩
abbrev S1x64x4864 : Shape := ⟨3, ![1, 64, 4864]⟩
abbrev S64x4864 : Shape := ⟨2, ![64, 4864]⟩
abbrev S2x512x1024 : Shape := ⟨3, ![2, 512, 1024]⟩
abbrev S2 : Shape := ⟨1, ![2]⟩
abbrev S128 : Shape := ⟨1, ![128]⟩
abbrev S128x1 : Shape := ⟨2, ![128, 1]⟩
abbrev S1024x512 : Shape := ⟨2, ![1024, 512]⟩
abbrev S1024x128 : Shape := ⟨2, ![1024, 128]⟩
abbrev S1x512 : Shape := ⟨2, ![1, 512]⟩
abbrev S8x1 : Shape := ⟨2, ![8, 1]⟩
abbrev S1x1 : Shape := ⟨2, ![1, 1]⟩
abbrev S16x512 : Shape := ⟨2, ![16, 512]⟩
abbrev S16x128 : Shape := ⟨2, ![16, 128]⟩
abbrev S112x128 : Shape := ⟨2, ![112, 128]⟩
abbrev S1x128x128 : Shape := ⟨3, ![1, 128, 128]⟩
abbrev S8x128 : Shape := ⟨2, ![8, 128]⟩
abbrev S8 : Shape := ⟨1, ![8]⟩

abbrev nBuf : Space → Nat
  | .hbm => 30
  | .vmem => 36
  | .smem => 1
  | _ => 0

abbrev bufTy : (tb : Table) → Fin (tcTables nBuf tb) → BufTy
  | .hbm, ⟨0, _⟩ => ⟨S128x1x1024, .f32⟩
  | .hbm, ⟨1, _⟩ => ⟨S1x128x128x2x64, .f32⟩
  | .hbm, ⟨2, _⟩ => ⟨S1x128x128x2x64, .f32⟩
  | .hbm, ⟨3, _⟩ => ⟨S1x128x4x128x128, .f32⟩
  | .hbm, ⟨4, _⟩ => ⟨S1x8, .f32⟩
  | .hbm, ⟨5, _⟩ => ⟨S1x1024, .f32⟩
  | .hbm, ⟨6, _⟩ => ⟨S1x1024, .f32⟩
  | .hbm, ⟨7, _⟩ => ⟨S2x512, .f32⟩
  | .hbm, ⟨8, _⟩ => ⟨S1x128, .f32⟩
  | .hbm, ⟨9, _⟩ => ⟨S1x1024x4864, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S128x1024, .f32⟩
  | .hbm, ⟨14, _⟩ => ⟨S128x128x2x64, .f32⟩
  | .hbm, ⟨15, _⟩ => ⟨S128x128x128, .f32⟩
  | .hbm, ⟨16, _⟩ => ⟨S128x128x128, .f32⟩
  | .hbm, ⟨17, _⟩ => ⟨S128x128x2x64, .f32⟩
  | .hbm, ⟨18, _⟩ => ⟨S128x128x128, .f32⟩
  | .hbm, ⟨19, _⟩ => ⟨S128x128x128, .f32⟩
  | .hbm, ⟨20, _⟩ => ⟨S128x4x128x128, .f32⟩
  | .hbm, ⟨21, _⟩ => ⟨S128x512x128, .f32⟩
  | .hbm, ⟨22, _⟩ => ⟨S1024x4864, .f32⟩
  | .hbm, ⟨23, _⟩ => ⟨S512x1024, .f32⟩
  | .hbm, ⟨24, _⟩ => ⟨S512x1024, .f32⟩
  | .hbm, ⟨25, _⟩ => ⟨S1024x1024, .f32⟩
  | .hbm, ⟨26, _⟩ => ⟨S128x1024, .f32⟩
  | .hbm, ⟨27, _⟩ => ⟨S128x128x128, .f32⟩
  | .hbm, ⟨28, _⟩ => ⟨S128x128x128, .f32⟩
  | .hbm, ⟨29, _⟩ => ⟨S128x512x128, .f32⟩
  | .local _ .vmem, ⟨0, _⟩ => ⟨S128x1024, .f32⟩
  | .local _ .vmem, ⟨1, _⟩ => ⟨S16x128x128, .f32⟩
  | .local _ .vmem, ⟨2, _⟩ => ⟨S16x128x128, .f32⟩
  | .local _ .vmem, ⟨3, _⟩ => ⟨S16x128x128, .f32⟩
  | .local _ .vmem, ⟨4, _⟩ => ⟨S16x128x128, .f32⟩
  | .local _ .vmem, ⟨5, _⟩ => ⟨S16x512x128, .f32⟩
  | .local _ .vmem, ⟨6, _⟩ => ⟨S16x512x128, .f32⟩
  | .local _ .vmem, ⟨7, _⟩ => ⟨S1x1024, .f32⟩
  | .local _ .vmem, ⟨8, _⟩ => ⟨S1x1024, .f32⟩
  | .local _ .vmem, ⟨9, _⟩ => ⟨S2x512, .f32⟩
  | .local _ .vmem, ⟨10, _⟩ => ⟨S1x128, .f32⟩
  | .local _ .vmem, ⟨11, _⟩ => ⟨S128x1024, .f32⟩
  | .local _ .vmem, ⟨12, _⟩ => ⟨S16x128x128, .f32⟩
  | .local _ .vmem, ⟨13, _⟩ => ⟨S16x128x128, .f32⟩
  | .local _ .vmem, ⟨14, _⟩ => ⟨S16x128x128, .f32⟩
  | .local _ .vmem, ⟨15, _⟩ => ⟨S16x128x128, .f32⟩
  | .local _ .vmem, ⟨16, _⟩ => ⟨S16x512x128, .f32⟩
  | .local _ .vmem, ⟨17, _⟩ => ⟨S16x512x128, .f32⟩
  | .local _ .vmem, ⟨18, _⟩ => ⟨S1024x4864, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S128x1024, .bf16⟩
  | .local _ .vmem, ⟨23, _⟩ => ⟨S128x512, .f32⟩
  | .local _ .vmem, ⟨24, _⟩ => ⟨S128x128, .f32⟩
  | .local _ .vmem, ⟨25, _⟩ => ⟨S128x128, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x512, .f32⟩
  | .local _ .vmem, ⟨31, _⟩ => ⟨S128x512, .f32⟩
  | .local _ .vmem, ⟨32, _⟩ => ⟨S4x64x4864, .f32⟩
  | .local _ .vmem, ⟨33, _⟩ => ⟨S1x512x1024, .f32⟩
  | .local _ .vmem, ⟨34, _⟩ => ⟨S1x512x1024, .f32⟩
  | .local _ .vmem, ⟨35, _⟩ => ⟨S2x512x1024, .f32⟩
  | .local _ .smem, ⟨0, _⟩ => ⟨S1x8, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v13_3 : Ref sig .tc := ⟨.hbm, 29, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_scratch7 : Ref sig .tc := ⟨.vmem, 25, rfl⟩
abbrev cc0_scratch8 : Ref sig .tc := ⟨.vmem, 26, rfl⟩
abbrev cc0_scratch9 : Ref sig .tc := ⟨.vmem, 27, rfl⟩
abbrev cc0_scratch10 : Ref sig .tc := ⟨.vmem, 28, rfl⟩
abbrev cc0_scratch11 : Ref sig .tc := ⟨.vmem, 29, rfl⟩
abbrev cc0_scratch12 : Ref sig .tc := ⟨.vmem, 30, rfl⟩
abbrev cc0_scratch13 : Ref sig .tc := ⟨.vmem, 31, rfl⟩
abbrev cc0_scoped0 : Ref sig .tc := ⟨.vmem, 32, rfl⟩
abbrev cc0_scoped2 : Ref sig .tc := ⟨.vmem, 33, rfl⟩
abbrev cc0_scoped4 : Ref sig .tc := ⟨.vmem, 34, rfl⟩
abbrev cc0_scoped6 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c16_i32 : BitVec 32 := 16#32
  let v52 : BitVec 32 := Scalar.muli arg0 c16_i32
  v52
def k0_off1 (i : grid0.Coords) : Fin 2 → Nat :=
  let arg0 : BitVec 32 := BitVec.ofNat 32 (i 0).val
  let c16_i32 : BitVec 32 := 16#32
  let v52 : BitVec 32 := Scalar.muli arg0 c16_i32
  let v53 : BitVec 32 := v52
  let v54 : Index := Scalar.indexCast v53
  let c0_12 : Index := 0#32
  ![v54.toNat, 0]
def k0_off2 (i : grid0.Coords) : Fin 2 → Nat :=
  let arg0 : BitVec 32 := BitVec.ofNat 32 (i 0).val
  let c16_i32 : BitVec 32 := 16#32
  let v52 : BitVec 32 := Scalar.muli arg0 c16_i32
  let v53 : BitVec 32 := v52
  let v56 : Index := Scalar.indexCast v53
  let c0_13 : Index := 0#32
  ![v56.toNat, 0]
def k0_off3 (i : grid0.Coords) : Fin 2 → Nat :=
  let arg0 : BitVec 32 := BitVec.ofNat 32 (i 0).val
  let c16_i32 : BitVec 32 := 16#32
  let v52 : BitVec 32 := Scalar.muli arg0 c16_i32
  let v53 : BitVec 32 := v52
  let v4381 : Index := Scalar.indexCast v53
  let c0_1824 : Index := 0#32
  ![v4381.toNat, 0]
def k0_off4 (i : grid0.Coords) : Fin 2 → Nat :=
  let arg0 : BitVec 32 := BitVec.ofNat 32 (i 0).val
  let c16_i32 : BitVec 32 := 16#32
  let v52 : BitVec 32 := Scalar.muli arg0 c16_i32
  let v53 : BitVec 32 := v52
  let v4467 : Index := Scalar.indexCast v53
  let c128_1842 : Index := 128#32
  ![v4467.toNat, 128]
def k0_off5 (i : grid0.Coords) : Fin 2 → Nat :=
  let arg0 : BitVec 32 := BitVec.ofNat 32 (i 0).val
  let c16_i32 : BitVec 32 := 16#32
  let v52 : BitVec 32 := Scalar.muli arg0 c16_i32
  let v53 : BitVec 32 := v52
  let v4553 : Index := Scalar.indexCast v53
  let c256_1860 : Index := 256#32
  ![v4553.toNat, 256]
def k0_off6 (i : grid0.Coords) : Fin 2 → Nat :=
  let arg0 : BitVec 32 := BitVec.ofNat 32 (i 0).val
  let c16_i32 : BitVec 32 := 16#32
  let v52 : BitVec 32 := Scalar.muli arg0 c16_i32
  let v53 : BitVec 32 := v52
  let v4639 : Index := Scalar.indexCast v53
  let c384_1878 : Index := 384#32
  ![v4639.toNat, 384]
def k0_cond2 (i : grid0.Coords) : BitVec 1 :=
  let arg0 : BitVec 32 := BitVec.ofNat 32 (i 0).val
  let c7_i32_1951 : BitVec 32 := 7#32
  let v4987 : BitVec 1 := Scalar.cmpi .eq arg0 c7_i32_1951
  let v4988 : BitVec 32 := Scalar.extui v4987
  let c0_i32_1952 : BitVec 32 := 0#32
  let v4989 : BitVec 1 := Scalar.cmpi .ne v4988 c0_i32_1952
  v4989

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S128x1x1024 : Shape := ⟨3, ![128, 1, 1024]⟩
abbrev S1x128x128x2x64 : Shape := ⟨5, ![1, 128, 128, 2, 64]⟩
abbrev S1x128x4x128x128 : Shape := ⟨5, ![1, 128, 4, 128, 128]⟩
abbrev S1x8 : Shape := ⟨2, ![1, 8]⟩
abbrev S1x1024 : Shape := ⟨2, ![1, 1024]⟩
abbrev S2x512 : Shape := ⟨2, ![2, 512]⟩
abbrev S1x128 : Shape := ⟨2, ![1, 128]⟩
abbrev S1x1024x4864 : Shape := ⟨3, ![1, 1024, 4864]⟩
abbrev S1x512x1024 : Shape := ⟨3, ![1, 512, 1024]⟩
abbrev S1x1024x1024 : Shape := ⟨3, ![1, 1024, 1024]⟩
abbrev S_ : Shape := ⟨0, ![]⟩
abbrev S512 : Shape := ⟨1, ![512]⟩
abbrev S1x512 : Shape := ⟨2, ![1, 512]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S1024x4864 : Shape := ⟨2, ![1024, 4864]⟩
abbrev S128x1x4864 : Shape := ⟨3, ![128, 1, 4864]⟩
abbrev S128x1x512 : Shape := ⟨3, ![128, 1, 512]⟩
abbrev S128x1x128 : Shape := ⟨3, ![128, 1, 128]⟩
abbrev S128x128x2x64 : Shape := ⟨4, ![128, 128, 2, 64]⟩
abbrev S128x1x2x64 : Shape := ⟨4, ![128, 1, 2, 64]⟩
abbrev S128x129x2x64 : Shape := ⟨4, ![128, 129, 2, 64]⟩
abbrev S4x128 : Shape := ⟨2, ![4, 128]⟩
abbrev S128x1x4x128 : Shape := ⟨4, ![128, 1, 4, 128]⟩
abbrev S1x1x4x128 : Shape := ⟨4, ![1, 1, 4, 128]⟩
abbrev S128x4x128 : Shape := ⟨3, ![128, 4, 128]⟩
abbrev S128x4x128x1 : Shape := ⟨4, ![128, 4, 128, 1]⟩
abbrev S128x4x128x128 : Shape := ⟨4, ![128, 4, 128, 128]⟩
abbrev S128x4x1x128 : Shape := ⟨4, ![128, 4, 1, 128]⟩
abbrev S128x128x128 : Shape := ⟨3, ![128, 128, 128]⟩
abbrev S128x512x128 : Shape := ⟨3, ![128, 512, 128]⟩

abbrev nBuf : Space → Nat
  | .hbm => 122
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1x128x128x2x64, .f32⟩
  | .hbm, ⟨2, _⟩ => ⟨S1x128x128x2x64, .f32⟩
  | .hbm, ⟨3, _⟩ => ⟨S1x128x4x128x128, .f32⟩
  | .hbm, ⟨4, _⟩ => ⟨S1x8, .f32⟩
  | .hbm, ⟨5, _⟩ => ⟨S1x1024, .f32⟩
  | .hbm, ⟨6, _⟩ => ⟨S1x1024, .f32⟩
  | .hbm, ⟨7, _⟩ => ⟨S2x512, .f32⟩
  | .hbm, ⟨8, _⟩ => ⟨S1x128, .f32⟩
  | .hbm, ⟨9, _⟩ => ⟨S1x1024x4864, .f32⟩
  | .hbm, ⟨10, _⟩ => ⟨S1x512x1024, .f32⟩
  | .hbm, ⟨11, _⟩ => ⟨S1x512x1024, .f32⟩
  | .hbm, ⟨12, _⟩ => ⟨S1x1024x1024, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S2x512, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S2x512, .f32⟩
  | .hbm, ⟨26, _⟩ => ⟨S2x512, .f32⟩
  | .hbm, ⟨27, _⟩ => ⟨S_, .f32⟩
  | .hbm, ⟨28, _⟩ => ⟨S_, .f32⟩
  | .hbm, ⟨29, _⟩ => ⟨S2x512, .f32⟩
  | .hbm, ⟨30, _⟩ => ⟨S1x512, .f32⟩
  | .hbm, ⟨31, _⟩ => ⟨S512, .f32⟩
  | .hbm, ⟨32, _⟩ => ⟨S1024, .f32⟩
  | .hbm, ⟨33, _⟩ => ⟨S128x1x1024, .f32⟩
  | .hbm, ⟨34, _⟩ => ⟨S_, .f32⟩
  | .hbm, ⟨35, _⟩ => ⟨S128x1, .f32⟩
  | .hbm, ⟨36, _⟩ => ⟨S128x1x1, .f32⟩
  | .hbm, ⟨37, _⟩ => ⟨S_, .f32⟩
  | .hbm, ⟨38, _⟩ => ⟨S128x1x1, .f32⟩
  | .hbm, ⟨39, _⟩ => ⟨S128x1x1, .f32⟩
  | .hbm, ⟨40, _⟩ => ⟨S_, .f32⟩
  | .hbm, ⟨41, _⟩ => ⟨S128x1x1, .f32⟩
  | .hbm, ⟨42, _⟩ => ⟨S128x1x1, .f32⟩
  | .hbm, ⟨43, _⟩ => ⟨S128x1x1, .f32⟩
  | .hbm, ⟨44, _⟩ => ⟨S128x1x1024, .f32⟩
  | .hbm, ⟨45, _⟩ => ⟨S128x1x1024, .f32⟩
  | .hbm, ⟨46, _⟩ => ⟨S1x1x1024, .f32⟩
  | .hbm, ⟨47, _⟩ => ⟨S128x1x1024, .f32⟩
  | .hbm, ⟨48, _⟩ => ⟨S128x1x1024, .f32⟩
  | .hbm, ⟨49, _⟩ => ⟨S1024x4864, .f32⟩
  | .hbm, ⟨50, _⟩ => ⟨S128x1x4864, .f32⟩
  | .hbm, ⟨51, _⟩ => ⟨S128x1x512, .f32⟩
  | .hbm, ⟨52, _⟩ => ⟨S128x1x128, .f32⟩
  | .hbm, ⟨53, _⟩ => ⟨S128x1x128, .f32⟩
  | .hbm, ⟨54, _⟩ => ⟨S128x1x512, .f32⟩
  | .hbm, ⟨55, _⟩ => ⟨S128x1x512, .f32⟩
  | .hbm, ⟨56, _⟩ => ⟨S128x1x512, .f32⟩
  | .hbm, ⟨57, _⟩ => ⟨S128x1x512, .f32⟩
  | .hbm, ⟨58, _⟩ => ⟨S128x1x1024, .f32⟩
  | .hbm, ⟨59, _⟩ => ⟨S128x1x1024, .f32⟩
  | .hbm, ⟨60, _⟩ => ⟨S128x128x2x64, .f32⟩
  | .hbm, ⟨61, _⟩ => ⟨S128x1x2x64, .f32⟩
  | .hbm, ⟨62, _⟩ => ⟨S128x129x2x64, .f32⟩
  | .hbm, ⟨63, _⟩ => ⟨S128x128x2x64, .f32⟩
  | .hbm, ⟨64, _⟩ => ⟨S128x1x2x64, .f32⟩
  | .hbm, ⟨65, _⟩ => ⟨S128x129x2x64, .f32⟩
  | .hbm, ⟨66, _⟩ => ⟨S4x128, .f32⟩
  | .hbm, ⟨67, _⟩ => ⟨S128x1x4x128, .f32⟩
  | .hbm, ⟨68, _⟩ => ⟨S_, .f32⟩
  | .hbm, ⟨69, _⟩ => ⟨S4x128, .f32⟩
  | .hbm, ⟨70, _⟩ => ⟨S4x128, .f32⟩
  | .hbm, ⟨71, _⟩ => ⟨S128x1x4x128, .f32⟩
  | .hbm, ⟨72, _⟩ => ⟨S128x1x4x128, .f32⟩
  | .hbm, ⟨73, _⟩ => ⟨S_, .f32⟩
  | .hbm, ⟨74, _⟩ => ⟨S128x1x4x128, .f32⟩
  | .hbm, ⟨75, _⟩ => ⟨S128x1x4x128, .f32⟩
  | .hbm, ⟨76, _⟩ => ⟨S_, .f32⟩
  | .hbm, ⟨77, _⟩ => ⟨S128x1x4x128, .f32⟩
  | .hbm, ⟨78, _⟩ => ⟨S128x1x4x128, .f32⟩
  | .hbm, ⟨79, _⟩ => ⟨S1x1x4x128, .f32⟩
  | .hbm, ⟨80, _⟩ => ⟨S128x1x4x128, .f32⟩
  | .hbm, ⟨81, _⟩ => ⟨S128x1x4x128, .f32⟩
  | .hbm, ⟨82, _⟩ => ⟨S1x1x4x128, .f32⟩
  | .hbm, ⟨83, _⟩ => ⟨S128x1x4x128, .f32⟩
  | .hbm, ⟨84, _⟩ => ⟨S128x1x4x128, .f32⟩
  | .hbm, ⟨85, _⟩ => ⟨S128x1x4x128, .f32⟩
  | .hbm, ⟨86, _⟩ => ⟨S128x1x4x128, .f32⟩
  | .hbm, ⟨87, _⟩ => ⟨S128x4x128, .f32⟩
  | .hbm, ⟨88, _⟩ => ⟨S_, .f32⟩
  | .hbm, ⟨89, _⟩ => ⟨S4x128, .f32⟩
  | .hbm, ⟨90, _⟩ => ⟨S4x128, .f32⟩
  | .hbm, ⟨91, _⟩ => ⟨S128x1x4x128, .f32⟩
  | .hbm, ⟨92, _⟩ => ⟨S128x1x4x128, .f32⟩
  | .hbm, ⟨93, _⟩ => ⟨S128x1x4x128, .f32⟩
  | .hbm, ⟨94, _⟩ => ⟨S_, .f32⟩
  | .hbm, ⟨95, _⟩ => ⟨S128x1x4x128, .f32⟩
  | .hbm, ⟨96, _⟩ => ⟨S128x1x4x128, .f32⟩
  | .hbm, ⟨97, _⟩ => ⟨S_, .f32⟩
  | .hbm, ⟨98, _⟩ => ⟨S128x1x4x128, .f32⟩
  | .hbm, ⟨99, _⟩ => ⟨S128x1x4x128, .f32⟩
  | .hbm, ⟨100, _⟩ => ⟨S1x1x4x128, .f32⟩
  | .hbm, ⟨101, _⟩ => ⟨S128x1x4x128, .f32⟩
  | .hbm, ⟨102, _⟩ => ⟨S128x1x4x128, .f32⟩
  | .hbm, ⟨103, _⟩ => ⟨S128x4x128, .f32⟩
  | .hbm, ⟨104, _⟩ => ⟨S128x4x128, .f32⟩
  | .hbm, ⟨105, _⟩ => ⟨S128x4x128x1, .f32⟩
  | .hbm, ⟨106, _⟩ => ⟨S128x4x128x128, .f32⟩
  | .hbm, ⟨107, _⟩ => ⟨S128x4x128x128, .f32⟩
  | .hbm, ⟨108, _⟩ => ⟨S128x4x128x128, .f32⟩
  | .hbm, ⟨109, _⟩ => ⟨S128x4x128x1, .f32⟩
  | .hbm, ⟨110, _⟩ => ⟨S128x4x1x128, .f32⟩
  | .hbm, ⟨111, _⟩ => ⟨S128x4x128x128, .f32⟩
  | .hbm, ⟨112, _⟩ => ⟨S128x4x128x128, .f32⟩
  | .hbm, ⟨113, _⟩ => ⟨S128x4x128x128, .f32⟩
  | .hbm, ⟨114, _⟩ => ⟨S128x4x128x128, .f32⟩
  | .hbm, ⟨115, _⟩ => ⟨S128x128x2x64, .f32⟩
  | .hbm, ⟨116, _⟩ => ⟨S128x128x128, .f32⟩
  | .hbm, ⟨117, _⟩ => ⟨S128x128x128, .f32⟩
  | .hbm, ⟨118, _⟩ => ⟨S128x128x2x64, .f32⟩
  | .hbm, ⟨119, _⟩ => ⟨S128x128x128, .f32⟩
  | .hbm, ⟨120, _⟩ => ⟨S128x128x128, .f32⟩
  | .hbm, ⟨121, _⟩ => ⟨S128x512x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call0_call0_cst : Ref sig .tc := ⟨.hbm, 27, rfl⟩
abbrev main_call0_call0_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_cst_7 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_8 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_9 : Ref sig .tc := ⟨.hbm, 94, rfl⟩
abbrev main_v69 : Ref sig .tc := ⟨.hbm, 95, rfl⟩
abbrev main_v70 : Ref sig .tc := ⟨.hbm, 96, rfl⟩
abbrev main_cst_10 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Kernel2.lean ====
abbrev S4x4096x1024 : Shape := ⟨3, ![4, 4096, 1024]⟩
abbrev S128x1x1024 : Shape := ⟨3, ![128, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S128x1024 : Shape := ⟨2, ![128, 1024]⟩
abbrev S1024x2816 : Shape := ⟨2, ![1024, 2816]⟩
abbrev S2816x1024 : Shape := ⟨2, ![2816, 1024]⟩
abbrev S1024x1024 : Shape := ⟨2, ![1024, 1024]⟩
abbrev S4x128x2816 : Shape := ⟨3, ![4, 128, 2816]⟩
abbrev S4 : Shape := ⟨1, ![4]⟩
abbrev S1 : Shape := ⟨1, ![1]⟩
abbrev S_ : Shape := ⟨0, ![]⟩
abbrev S1x128x2816 : Shape := ⟨3, ![1, 128, 2816]⟩
abbrev S128x2816 : Shape := ⟨2, ![128, 2816]⟩
abbrev S4x352x1024 : Shape := ⟨3, ![4, 352, 1024]⟩
abbrev S1x352x1024 : Shape := ⟨3, ![1, 352, 1024]⟩
abbrev S352x1024 : Shape := ⟨2, ![352, 1024]⟩
abbrev S1024 : Shape := ⟨1, ![1024]⟩
abbrev S1024x1 : Shape := ⟨2, ![1024, 1]⟩
abbrev S1024x256 : Shape := ⟨2, ![1024, 256]⟩
abbrev S256x1024 : Shape := ⟨2, ![256, 1024]⟩
abbrev S128 : Shape := ⟨1, ![128]⟩
abbrev S128x1 : Shape := ⟨2, ![128, 1]⟩
abbrev S128x256 : Shape := ⟨2, ![128, 256]⟩

abbrev nBuf : Space → Nat
  | .hbm => 14
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S128x1x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S16384x1024, .f32⟩
  | .hbm, ⟨8, _⟩ => ⟨S128x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S16384x1024, .f32⟩
  | .hbm, ⟨13, _⟩ => ⟨S128x1x1024, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S128x1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S4x128x2816, .f32⟩
  | .local _ .vmem, ⟨12, _⟩ => ⟨S4x128x2816, .f32⟩
  | .local _ .vmem, ⟨13, _⟩ => ⟨S4x352x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scoped0 : Ref sig .tc := ⟨.vmem, 11, rfl⟩
abbrev cc0_scoped2 : Ref sig .tc := ⟨.vmem, 12, rfl⟩
abbrev cc0_scoped4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![17], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c16_i32_2 : BitVec 32 := 16#32
  let v6 : BitVec 1 := Scalar.cmpi .eq arg0 c16_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4x4096x1024 : Shape := ⟨3, ![4, 4096, 1024]⟩
abbrev S128x1x1024 : Shape := ⟨3, ![128, 1, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩
abbrev S128x1 : Shape := ⟨2, ![128, 1]⟩
abbrev S128x1x1 : Shape := ⟨3, ![128, 1, 1]⟩
abbrev S128x1x2816 : Shape := ⟨3, ![128, 1, 2816]⟩
abbrev S16384x1024 : Shape := ⟨2, ![16384, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S128x1x1024, .f32⟩
  | .hbm, ⟨2, _⟩ => ⟨S1x1024, .f32⟩
  | .hbm, ⟨3, _⟩ => ⟨S1x1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S4x4096x1024, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1024, .f32⟩
  | .hbm, ⟨24, _⟩ => ⟨S4x4096x1024, .f32⟩
  | .hbm, ⟨25, _⟩ => ⟨S1x1x1024, .f32⟩
  | .hbm, ⟨26, _⟩ => ⟨S4x4096x1024, .f32⟩
  | .hbm, ⟨27, _⟩ => ⟨S4x4096x1024, .f32⟩
  | .hbm, ⟨28, _⟩ => ⟨S4x4096x2816, .f32⟩
  | .hbm, ⟨29, _⟩ => ⟨S4x4096x2816, .f32⟩
  | .hbm, ⟨30, _⟩ => ⟨S4x4096x2816, .f32⟩
  | .hbm, ⟨31, _⟩ => ⟨S_, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096, .f32⟩
  | .hbm, ⟨44, _⟩ => ⟨S4x4096x1, .f32⟩
  | .hbm, ⟨45, _⟩ => ⟨S_, .f32⟩
  | .hbm, ⟨46, _⟩ => ⟨S4x4096x1, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x1, .f32⟩
  | .hbm, ⟨52, _⟩ => ⟨S4x4096x1024, .f32⟩
  | .hbm, ⟨53, _⟩ => ⟨S4x4096x1024, .f32⟩
  | .hbm, ⟨54, _⟩ => ⟨S1x1x1024, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S128x1x1024, .f32⟩
  | .hbm, ⟨62, _⟩ => ⟨S_, .f32⟩
  | .hbm, ⟨63, _⟩ => ⟨S128x1, .f32⟩
  | .hbm, ⟨64, _⟩ => ⟨S128x1x1, .f32⟩
  | .hbm, ⟨65, _⟩ => ⟨S_, .f32⟩
  | .hbm, ⟨66, _⟩ => ⟨S128x1x1, .f32⟩
  | .hbm, ⟨67, _⟩ => ⟨S128x1x1, .f32⟩
  | .hbm, ⟨68, _⟩ => ⟨S_, .f32⟩
  | .hbm, ⟨69, _⟩ => ⟨S128x1x1, .f32⟩
  | .hbm, ⟨70, _⟩ => ⟨S128x1x1, .f32⟩
  | .hbm, ⟨71, _⟩ => ⟨S128x1x1, .f32⟩
  | .hbm, ⟨72, _⟩ => ⟨S128x1x1024, .f32⟩
  | .hbm, ⟨73, _⟩ => ⟨S128x1x1024, .f32⟩
  | .hbm, ⟨74, _⟩ => ⟨S1x1x1024, .f32⟩
  | .hbm, ⟨75, _⟩ => ⟨S128x1x1024, .f32⟩
  | .hbm, ⟨76, _⟩ => ⟨S128x1x1024, .f32⟩
  | .hbm, ⟨77, _⟩ => ⟨S128x1x2816, .f32⟩
  | .hbm, ⟨78, _⟩ => ⟨S128x1x2816, .f32⟩
  | .hbm, ⟨79, _⟩ => ⟨S128x1x2816, .f32⟩
  | .hbm, ⟨80, _⟩ => ⟨S_, .f32⟩
  | .hbm, ⟨81, _⟩ => ⟨S128x1x2816, .f32⟩
  | .hbm, ⟨82, _⟩ => ⟨S128x1x2816, .f32⟩
  | .hbm, ⟨83, _⟩ => ⟨S_, .f32⟩
  | .hbm, ⟨84, _⟩ => ⟨S128x1x2816, .f32⟩
  | .hbm, ⟨85, _⟩ => ⟨S128x1x2816, .f32⟩
  | .hbm, ⟨86, _⟩ => ⟨S128x1x2816, .f32⟩
  | .hbm, ⟨87, _⟩ => ⟨S128x1x2816, .f32⟩
  | .hbm, ⟨88, _⟩ => ⟨S128x1x2816, .f32⟩
  | .hbm, ⟨89, _⟩ => ⟨S128x1x1024, .f32⟩
  | .hbm, ⟨90, _⟩ => ⟨S128x1x1024, .f32⟩
  | .hbm, ⟨91, _⟩ => ⟨S_, .f32⟩
  | .hbm, ⟨92, _⟩ => ⟨S128x1, .f32⟩
  | .hbm, ⟨93, _⟩ => ⟨S128x1x1, .f32⟩
  | .hbm, ⟨94, _⟩ => ⟨S_, .f32⟩
  | .hbm, ⟨95, _⟩ => ⟨S128x1x1, .f32⟩
  | .hbm, ⟨96, _⟩ => ⟨S128x1x1, .f32⟩
  | .hbm, ⟨97, _⟩ => ⟨S_, .f32⟩
  | .hbm, ⟨98, _⟩ => ⟨S128x1x1, .f32⟩
  | .hbm, ⟨99, _⟩ => ⟨S128x1x1, .f32⟩
  | .hbm, ⟨100, _⟩ => ⟨S128x1x1, .f32⟩
  | .hbm, ⟨101, _⟩ => ⟨S128x1x1024, .f32⟩
  | .hbm, ⟨102, _⟩ => ⟨S128x1x1024, .f32⟩
  | .hbm, ⟨103, _⟩ => ⟨S1x1x1024, .f32⟩
  | .hbm, ⟨104, _⟩ => ⟨S128x1x1024, .f32⟩
  | .hbm, ⟨105, _⟩ => ⟨S128x1x1024, .f32⟩
  | .hbm, ⟨106, _⟩ => ⟨S_, .f32⟩
  | .hbm, ⟨107, _⟩ => ⟨S128x1x1024, .f32⟩
  | .hbm, ⟨108, _⟩ => ⟨S128x1x1024, .f32⟩
  | .hbm, ⟨109, _⟩ => ⟨S128x1x1024, .f32⟩
  | .hbm, ⟨110, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_6 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_cst_10 : Ref sig .tc := ⟨.hbm, 94, rfl⟩
abbrev main_v60 : Ref sig .tc := ⟨.hbm, 95, rfl⟩
abbrev main_v61 : Ref sig .tc := ⟨.hbm, 96, rfl⟩
abbrev main_cst_11 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_12 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x8 : Shape := ⟨2, ![1, 8]⟩
abbrev S1x1024 : Shape := ⟨2, ![1, 1024]⟩
abbrev S2x512 : Shape := ⟨2, ![2, 512]⟩
abbrev S1x128 : Shape := ⟨2, ![1, 128]⟩
abbrev S1x1024x4864 : Shape := ⟨3, ![1, 1024, 4864]⟩
abbrev S1x512x1024 : Shape := ⟨3, ![1, 512, 1024]⟩
abbrev S1x1024x1024 : Shape := ⟨3, ![1, 1024, 1024]⟩
abbrev S16384x1024 : Shape := ⟨2, ![16384, 1024]⟩
abbrev S1024x4864 : Shape := ⟨2, ![1024, 4864]⟩
abbrev S512x1024 : Shape := ⟨2, ![512, 1024]⟩
abbrev S1024x1024 : Shape := ⟨2, ![1024, 1024]⟩
abbrev S128 : Shape := ⟨1, ![128]⟩
abbrev S128x1 : Shape := ⟨2, ![128, 1]⟩
abbrev S128x128 : Shape := ⟨2, ![128, 128]⟩
abbrev S_ : Shape := ⟨0, ![]⟩
abbrev S4x128x128 : Shape := ⟨3, ![4, 128, 128]⟩
abbrev S4x512x128 : Shape := ⟨3, ![4, 512, 128]⟩
abbrev S1x128x128 : Shape := ⟨3, ![1, 128, 128]⟩
abbrev S1x512x128 : Shape := ⟨3, ![1, 512, 128]⟩
abbrev S640x128 : Shape := ⟨2, ![640, 128]⟩
abbrev S512x128 : Shape := ⟨2, ![512, 128]⟩
abbrev S512x512 : Shape := ⟨2, ![512, 512]⟩
abbrev S512x2560 : Shape := ⟨2, ![512, 2560]⟩
abbrev S7x512x512 : Shape := ⟨3, ![7, 512, 512]⟩
abbrev S4x64x4864 : Shape := ⟨3, ![4, 64, 4864]⟩
abbrev S4 : Shape := ⟨1, ![4]⟩
abbrev S1 : Shape := ⟨1, ![1]⟩
abbrev S1x64x4864 : Shape := ⟨3, ![1, 64, 4864]⟩
abbrev S64x4864 : Shape := ⟨2, ![64, 4864]⟩
abbrev S2x512x1024 : Shape := ⟨3, ![2, 512, 1024]⟩
abbrev S2 : Shape := ⟨1, ![2]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S512x768 : Shape := ⟨2, ![512, 768]⟩
abbrev S1x512 : Shape := ⟨2, ![1, 512]⟩
abbrev S128x256 : Shape := ⟨2, ![128, 256]⟩
abbrev S256x128 : Shape := ⟨2, ![256, 128]⟩
abbrev S256x256 : Shape := ⟨2, ![256, 256]⟩
abbrev S1024x256 : Shape := ⟨2, ![1024, 256]⟩
abbrev S512x256 : Shape := ⟨2, ![512, 256]⟩
abbrev S1x1 : Shape := ⟨2, ![1, 1]⟩
abbrev S1x256 : Shape := ⟨2, ![1, 256]⟩
abbrev S128x512 : Shape := ⟨2, ![128, 512]⟩
abbrev S128x1536 : Shape := ⟨2, ![128, 1536]⟩
abbrev S16x8x512 : Shape := ⟨3, ![16, 8, 512]⟩
abbrev S16x8x1 : Shape := ⟨3, ![16, 8, 1]⟩
abbrev S1x128x512 : Shape := ⟨3, ![1, 128, 512]⟩
abbrev S16x512 : Shape := ⟨2, ![16, 512]⟩
abbrev S32x512 : Shape := ⟨2, ![32, 512]⟩
abbrev S64x512 : Shape := ⟨2, ![64, 512]⟩

abbrev nBuf : Space → Nat
  | .hbm => 40
  | .vmem => 37
  | .smem => 1
  | _ => 0

abbrev bufTy : (tb : Table) → Fin (tcTables nBuf tb) → BufTy
  | .hbm, ⟨0, _⟩ => ⟨S4x4096x1024, .f32⟩
  | .hbm, ⟨1, _⟩ => ⟨S1x8, .f32⟩
  | .hbm, ⟨2, _⟩ => ⟨S1x1024, .f32⟩
  | .hbm, ⟨3, _⟩ => ⟨S1x1024, .f32⟩
  | .hbm, ⟨4, _⟩ => ⟨S2x512, .f32⟩
  | .hbm, ⟨5, _⟩ => ⟨S1x128, .f32⟩
  | .hbm, ⟨6, _⟩ => ⟨S1x1024x4864, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S16384x1024, .f32⟩
  | .hbm, ⟨11, _⟩ => ⟨S1024x4864, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i32⟩
  | .hbm, ⟨26, _⟩ => ⟨S_, .i32⟩
  | .hbm, ⟨27, _⟩ => ⟨S128x128, .i32⟩
  | .hbm, ⟨28, _⟩ => ⟨S128x128, .i32⟩
  | .hbm, ⟨29, _⟩ => ⟨S128x128, .i32⟩
  | .hbm, ⟨30, _⟩ => ⟨S128x128, .i32⟩
  | .hbm, ⟨31, _⟩ => ⟨S128x128, .i1⟩
  | .hbm, ⟨32, _⟩ => ⟨S_, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S16384x1024, .f32⟩
  | .hbm, ⟨37, _⟩ => ⟨S4x128x128, .f32⟩
  | .hbm, ⟨38, _⟩ => ⟨S4x128x128, .f32⟩
  | .hbm, ⟨39, _⟩ => ⟨S4x512x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S2x512, .f32⟩
  | .local _ .vmem, ⟨5, _⟩ => ⟨S1x128, .f32⟩
  | .local _ .vmem, ⟨6, _⟩ => ⟨S128x128, .i32⟩
  | .local _ .vmem, ⟨7, _⟩ => ⟨S512x1024, .f32⟩
  | .local _ .vmem, ⟨8, _⟩ => ⟨S512x1024, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x512x128, .f32⟩
  | .local _ .vmem, ⟨14, _⟩ => ⟨S1x512x128, .f32⟩
  | .local _ .vmem, ⟨15, _⟩ => ⟨S1024x4864, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S640x128, .f32⟩
  | .local _ .vmem, ⟨20, _⟩ => ⟨S640x128, .f32⟩
  | .local _ .vmem, ⟨21, _⟩ => ⟨S512x128, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x2560, .f32⟩
  | .local _ .vmem, ⟨29, _⟩ => ⟨S512x512, .f32⟩
  | .local _ .vmem, ⟨30, _⟩ => ⟨S7x512x512, .bf16⟩
  | .local _ .vmem, ⟨31, _⟩ => ⟨S512x512, .bf16⟩
  | .local _ .vmem, ⟨32, _⟩ => ⟨S512x512, .bf16⟩
  | .local _ .vmem, ⟨33, _⟩ => ⟨S4x64x4864, .f32⟩
  | .local _ .vmem, ⟨34, _⟩ => ⟨S1x512x1024, .f32⟩
  | .local _ .vmem, ⟨35, _⟩ => ⟨S1x512x1024, .f32⟩
  | .local _ .vmem, ⟨36, _⟩ => ⟨S2x512x1024, .f32⟩
  | .local _ .smem, ⟨0, _⟩ => ⟨S1x8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v21_3 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_scratch10 : Ref sig .tc := ⟨.vmem, 25, rfl⟩
abbrev cc0_scratch11 : Ref sig .tc := ⟨.vmem, 26, rfl⟩
abbrev cc0_scratch12 : Ref sig .tc := ⟨.vmem, 27, rfl⟩
abbrev cc0_scratch13 : Ref sig .tc := ⟨.vmem, 28, rfl⟩
abbrev cc0_scratch14 : Ref sig .tc := ⟨.vmem, 29, rfl⟩
abbrev cc0_scratch15 : Ref sig .tc := ⟨.vmem, 30, rfl⟩
abbrev cc0_scratch16 : Ref sig .tc := ⟨.vmem, 31, rfl⟩
abbrev cc0_scratch17 : Ref sig .tc := ⟨.vmem, 32, rfl⟩
abbrev cc0_scoped0 : Ref sig .tc := ⟨.vmem, 33, rfl⟩
abbrev cc0_scoped2 : Ref sig .tc := ⟨.vmem, 34, rfl⟩
abbrev cc0_scoped4 : Ref sig .tc := ⟨.vmem, 35, rfl⟩
abbrev cc0_scoped6 : Ref sig .tc := ⟨.vmem, 36, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32_1311 : BitVec 32 := 7#32
  let v3420 : BitVec 1 := Scalar.cmpi .eq arg1 c7_i32_1311
  let v3421 : BitVec 32 := Scalar.extui v3420
  let c0_i32_1312 : BitVec 32 := 0#32
  let v3422 : BitVec 1 := Scalar.cmpi .ne v3421 c0_i32_1312
  v3422

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S4x4096x1024 : Shape := ⟨3, ![4, 4096, 1024]⟩
abbrev S1x8 : Shape := ⟨2, ![1, 8]⟩
abbrev S1x1024 : Shape := ⟨2, ![1, 1024]⟩
abbrev S2x512 : Shape := ⟨2, ![2, 512]⟩
abbrev S1x128 : Shape := ⟨2, ![1, 128]⟩
abbrev S1x1024x4864 : Shape := ⟨3, ![1, 1024, 4864]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x4864 : Shape := ⟨2, ![1024, 4864]⟩
abbrev S4x4096x4864 : Shape := ⟨3, ![4, 4096, 4864]⟩
abbrev S4x4096x512 : Shape := ⟨3, ![4, 4096, 512]⟩
abbrev S4x4096x128 : Shape := ⟨3, ![4, 4096, 128]⟩
abbrev S4x4096x2x64 : Shape := ⟨4, ![4, 4096, 2, 64]⟩
abbrev S4x128x2x64 : Shape := ⟨4, ![4, 128, 2, 64]⟩
abbrev S4x128x128 : Shape := ⟨3, ![4, 128, 128]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x8, .f32⟩
  | .hbm, ⟨2, _⟩ => ⟨S1x1024, .f32⟩
  | .hbm, ⟨3, _⟩ => ⟨S1x1024, .f32⟩
  | .hbm, ⟨4, _⟩ => ⟨S2x512, .f32⟩
  | .hbm, ⟨5, _⟩ => ⟨S1x128, .f32⟩
  | .hbm, ⟨6, _⟩ => ⟨S1x1024x4864, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S1024x4864, .f32⟩
  | .hbm, ⟨28, _⟩ => ⟨S4x4096x4864, .f32⟩
  | .hbm, ⟨29, _⟩ => ⟨S4x4096x512, .f32⟩
  | .hbm, ⟨30, _⟩ => ⟨S4x4096x128, .f32⟩
  | .hbm, ⟨31, _⟩ => ⟨S4x4096x128, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S4x4096x1024, .f32⟩
  | .hbm, ⟨37, _⟩ => ⟨S4x4096x1024, .f32⟩
  | .hbm, ⟨38, _⟩ => ⟨S4x4096x2x64, .f32⟩
  | .hbm, ⟨39, _⟩ => ⟨S4x4096x2x64, .f32⟩
  | .hbm, ⟨40, _⟩ => ⟨S4x128x2x64, .f32⟩
  | .hbm, ⟨41, _⟩ => ⟨S4x128x128, .f32⟩
  | .hbm, ⟨42, _⟩ => ⟨S4x128x128, .f32⟩
  | .hbm, ⟨43, _⟩ => ⟨S4x128x2x64, .f32⟩
  | .hbm, ⟨44, _⟩ => ⟨S4x128x128, .f32⟩
  | .hbm, ⟨45, _⟩ => ⟨S4x128x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Mix.Twin.lean ====
module

public import proofs.«01_k».proof.Proof.Gen.Kernel
public import proofs.«01_k».proof.Proof.Gen.KernelIdeal

@[expose] public section

set_option maxRecDepth 16384
set_option maxHeartbeats 0

noncomputable section

namespace Cert.Kernel.Mix

open Idealize.ShloMosaic Idealize.ShloMosaic.TcCoe

variable {F : FTy → Type} [FloatOps F]

/-- The idealized program is the kernel's own text: the body, -/
theorem twin_body : Cert.KernelIdeal.cc0_mix_sample (F := F) = Cert.Kernel.cc0_mix_sample (F := F) := rfl

/-- the body's table, -/
theorem twin_table : Cert.KernelIdeal.defs₀ (F := F) = Cert.Kernel.defs₀ (F := F) := by
  refine congrArg Defs.onTc ?_
  funext l x
  match l, x with
  | 0, (t, s) => rfl

/-- the whole table, -/
theorem twin_defs : Cert.KernelIdeal.defs (F := F) = Cert.Kernel.defs (F := F) :=
  congrArg (Pipeline.defs (Cert.Kernel.pcfgs (F := F))) twin_table

/-- and the host program. -/
theorem twin_main : Cert.KernelIdeal.main (F := F) = Cert.Kernel.main (F := F) := rfl

end Cert.Kernel.Mix

end
-- ==== Proof.Mix.Kit.lean ====
/- The launch set-up of the decoding step's mixer call, over any float model: the arrays when the region is entered, the
   blocks of the windows, the branch conditions over the points, and the region invariant taken apart into its scratch,
   semaphores and the operands the body copies itself. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 0 rfl).trans ((hA c 0).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_1, k0_cond2, e0]
    word_cmp
   : ∀ t : Fin grid0.N, cond0_1 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1x8 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S16x128x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x128x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x512x128 .f32 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S1024x4864 .bf16 := Memref.whole cc0_scratch0
abbrev scM0_1 : Memref sig .tc .vmem S512x1024 .bf16 := Memref.whole cc0_scratch1
abbrev scM0_2 : Memref sig .tc .vmem S512x1024 .bf16 := Memref.whole cc0_scratch2
abbrev scM0_3 : Memref sig .tc .vmem S1024x1024 .bf16 := Memref.whole cc0_scratch3
abbrev scM0_4 : Memref sig .tc .vmem S128x1024 .bf16 := Memref.whole cc0_scratch4
abbrev scM0_5 : Memref sig .tc .vmem S128x512 .f32 := Memref.whole cc0_scratch5
abbrev scM0_6 : Memref sig .tc .vmem S128x128 .f32 := Memref.whole cc0_scratch6
abbrev scM0_7 : Memref sig .tc .vmem S128x128 .f32 := Memref.whole cc0_scratch7
abbrev scM0_8 : Memref sig .tc .vmem S128x512 .f32 := Memref.whole cc0_scratch8
abbrev scM0_9 : Memref sig .tc .vmem S128x512 .f32 := Memref.whole cc0_scratch9
abbrev scM0_10 : Memref sig .tc .vmem S128x512 .f32 := Memref.whole cc0_scratch10
abbrev scM0_11 : Memref sig .tc .vmem S128x512 .f32 := Memref.whole cc0_scratch11
abbrev scM0_12 : Memref sig .tc .vmem S128x512 .f32 := Memref.whole cc0_scratch12
abbrev scM0_13 : Memref sig .tc .vmem S128x512 .f32 := Memref.whole cc0_scratch13
abbrev scM0_14 : Memref sig .tc .vmem S4x64x4864 .f32 := Memref.whole cc0_scoped0
abbrev scM0_15 : Memref sig .tc .vmem S1x512x1024 .f32 := Memref.whole cc0_scoped2
abbrev scM0_16 : Memref sig .tc .vmem S1x512x1024 .f32 := Memref.whole cc0_scoped4
abbrev scM0_17 : Memref sig .tc .vmem S2x512x1024 .f32 := Memref.whole cc0_scoped6
/-- The scratch `arg23` the kernel carries between points, as a view: what it holds is stated through it. -/
abbrev VS0_5 : View sig .tc .vmem S128x512 .f32 := scM0_5.view
/-- The scratch `arg24` the kernel carries between points, as a view: what it holds is stated through it. -/
abbrev VS0_6 : View sig .tc .vmem S128x128 .f32 := scM0_6.view
/-- The scratch `arg25` the kernel carries between points, as a view: what it holds is stated through it. -/
abbrev VS0_7 : View sig .tc .vmem S128x128 .f32 := scM0_7.view
/-- The scratch `arg26` the kernel carries between points, as a view: what it holds is stated through it. -/
abbrev VS0_8 : View sig .tc .vmem S128x512 .f32 := scM0_8.view
/-- The operands left in HBM that the body copies into scratch itself, whole. -/
abbrev hbM0_0 : Memref sig .tc .hbm S1024x4864 .f32 := Memref.whole main_v9
abbrev hbM0_1 : Memref sig .tc .hbm S512x1024 .f32 := Memref.whole main_v10
abbrev hbM0_2 : Memref sig .tc .hbm S512x1024 .f32 := Memref.whole main_v11
abbrev hbM0_3 : Memref sig .tc .hbm S1024x1024 .f32 := Memref.whole main_v12
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 19, SemLoc.dma 20, SemLoc.dma 21, SemLoc.dma 22, SemLoc.dma 23, SemLoc.dma 24, SemLoc.dma 25, SemLoc.dma 26] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v9, main_v10, main_v11, main_v12}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v9) ∗ hbPt0 c hbM0_1 (V m c main_v10) ∗ hbPt0 c hbM0_2 (V m c main_v11) ∗ hbPt0 c hbM0_3 (V m c main_v12)) := by
  rw [BI.bigSep_eq_bigSepL_of_eq [main_v9, main_v10, main_v11, main_v12] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d)) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) ∗ iprop(hbPt0 c hbM0_0 (V m c main_v9) ∗ hbPt0 c hbM0_1 (V m c main_v10) ∗ hbPt0 c hbM0_2 (V m c main_v11) ∗ hbPt0 c hbM0_3 (V m c main_v12))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, scM0_14, scM0_15, scM0_16, scM0_17, owns_whole]; try rfl

end Cert.Kernel.Gen

end
-- ==== Proof.Ffn.Kit.lean ====
/- The launch set-up of the feed-forward call, over any float model: the arrays when the region is entered, the
   blocks of the windows, the branch conditions over the points, and the region invariant taken apart into its scratch,
   semaphores and the operands the body copies itself. -/
module

public import proofs.«01_k».proof.Proof.Gen.Kernel2.Launch
public import proofs.«01_k».proof.Proof.Gen.Kernel2.Skeleton
public import proofs.«01_k».proof.Proof.Gen.Kernel2.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel2`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [cond0_0, e0]
    word_cmp
   : ∀ t : Fin grid0.N, cond0_0 (grid0.coords t) ↔ t.val % 17 = 0)

/-- The condition of the body's `scf.if` 1 (`k0_h2`), from the grid coordinates (the skeleton's scalar
    chain substituted). -/
abbrev cond0_1 (i : grid0.Coords) : Prop := k0_cond2 i = 1#1
/-- It holds at the points before point 16 — decided over the grid. -/
theorem hcond0_1 : ∀ t : Fin cfg0.N, cond0_1 (grid0.coords t) ↔ t.val < 16 :=
  (by decide +kernel : ∀ t : Fin grid0.N, cond0_1 (grid0.coords t) ↔ t.val < 16)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 17 = 16 :=
  (fun t => by
    have ht : t.val < 17 := Nat.lt_of_lt_of_eq t.isLt N_0
    have e0 : (grid0.coords t 0).val = t.val / 1 % 17 := Pipeline.Grid.coords_val t 0 (by decide) rfl
    simp only [cond0_2, k0_cond3, e0]
    word_cmp
   : ∀ t : Fin grid0.N, cond0_2 (grid0.coords t) ↔ t.val % 17 = 16)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x1x1024 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2816 .bf16 := Memref.whole cc0_scratch0
abbrev scM0_1 : Memref sig .tc .vmem S1024x2816 .bf16 := Memref.whole cc0_scratch1
abbrev scM0_2 : Memref sig .tc .vmem S2816x1024 .bf16 := Memref.whole cc0_scratch2
abbrev scM0_3 : Memref sig .tc .vmem S4x128x2816 .f32 := Memref.whole cc0_scoped0
abbrev scM0_4 : Memref sig .tc .vmem S4x128x2816 .f32 := Memref.whole cc0_scoped2
abbrev scM0_5 : Memref sig .tc .vmem S4x352x1024 .f32 := Memref.whole cc0_scoped4
/-- The operands left in HBM that the body copies into scratch itself, whole. -/
abbrev hbM0_0 : Memref sig .tc .hbm S1024x2816 .f32 := Memref.whole main_v2
abbrev hbM0_1 : Memref sig .tc .hbm S1024x2816 .f32 := Memref.whole main_v3
abbrev hbM0_2 : Memref sig .tc .hbm S2816x1024 .f32 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 12 → SemLoc sig := fun j => (![SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19] : Fin 12 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) := by
  rw [Pipeline.ownSems0_eq_of_list c osem0 [0, 1, 2, 3, 4, 5, 6, 7, 8, 9, 10, 11] (by decide) (by decide)]; rfl
/-- The HBM operands the body moves, as references: unscoped, no window's array (`Pipeline.restRefs`). -/
def H0 : Finset (Ref sig .tc) := {main_v2, main_v3, main_v4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v2) ∗ hbPt0 c hbM0_1 (V m c main_v3) ∗ hbPt0 c hbM0_2 (V m c main_v4)) := by
  rw [BI.bigSep_eq_bigSepL_of_eq [main_v2, main_v3, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0) ∗ iprop(hbPt0 c hbM0_0 (V m c main_v2) ∗ hbPt0 c hbM0_1 (V m c main_v3) ∗ hbPt0 c hbM0_2 (V m c main_v4))) := by
  rw [Pipeline.ΦD_eq, scopedRest0_eq, ownSems00_eq, hbmPts0_eq]; simp only [scM0_0, scM0_1, scM0_2, scM0_3, scM0_4, scM0_5, owns_whole]; try rfl

end Cert.Kernel2.Gen

end
-- ==== Proof.Ffn.Stage.lean ====
module

public import proofs.«01_k».proof.Proof.Ffn.Kit
public import Idealize.ShloMosaic.Lib.ViewIndex
public import Idealize.ShloMosaic.Lib.Pipeline.ValueKit.Tiles

@[expose] public section

set_option maxRecDepth 16384

namespace Cert.Stage

open Idealize.ShloMosaic

variable {sig : RefSig} {κ : Kind} {sp : Space} {s s' : Shape} {e : EltTy} {Val : EltTy → Type}

/-- A slot of a staging buffer, read after a copy into that slot, holds what was copied: the load and the copy see
    the slot through a slice, the copy through the slice with its unit axis dropped. -/
theorem slot_same (v : View sig κ sp s e) (r : Rect s) (hn : s'.numel = r.shape.numel)
    (hc : r.shape.ShapeCasts s') (g : v.ty.Contents Val) (w : s'.Idx → Val e) :
    shapeCast s' (v.readAt Val r.toLoadRect (((v.slice r).reshape s' hn).write Val g w Finset.univ)) hc = w :=
  funext fun y => (v.slice r).read_write_reshape hn g w y

/-- Reading one slot after a copy into another reads what was there before: the slots differ along axis `a`. -/
theorem slot_other (v : View sig κ sp s e) {off off' size size' : Fin s.rank → ℕ}
    (inb : ∀ a, off a + size a ≤ s.size a) (inb' : ∀ a, off' a + size' a ≤ s.size a)
    (hn : s'.numel = (Rect.unit off' size' inb').shape.numel)
    (g : v.ty.Contents Val) (w : s'.Idx → Val e) (a : Fin s.rank)
    (hd : off a + size a ≤ off' a ∨ off' a + size' a ≤ off a) :
    v.readAt Val (Rect.unit off size inb).toLoadRect
        (((v.slice (Rect.unit off' size' inb')).reshape s' hn).write Val g w Finset.univ)
      = v.readAt Val (Rect.unit off size inb).toLoadRect g := by
  rw [View.readAt_rect, View.readAt_rect]
  refine View.read_congr fun i hi => View.write_of_not_mem _ _ _ fun hm => ?_
  obtain ⟨x, rfl⟩ := View.exists_of_mem_set_slice hi
  obtain ⟨y, -, hy⟩ := Finset.mem_map.mp hm
  have h1 : (Rect.unit off' size' inb').emb (Shape.reshapeEquiv hn y) = (Rect.unit off size inb).emb x :=
    v.emb.injective hy
  have h2 := congrArg (fun z : s.Idx => (z a : ℕ)) h1
  simp only [Rect.emb_apply] at h2
  have hx := (x a).isLt
  have hy' := (Shape.reshapeEquiv hn y a).isLt
  change off' a + 1 * (Shape.reshapeEquiv hn y a : ℕ) = off a + 1 * (x a : ℕ) at h2
  change (x a : ℕ) < size a at hx
  change (Shape.reshapeEquiv hn y a : ℕ) < size' a at hy'
  omega

/-- Pieces that agree with one array everywhere, and cover an index, leave that array's value there. -/
theorem canon_of_agree [∀ e, Nonempty (Val e)] (X : s.Idx → Val e) (L : List (View.Piece Val s e))
    (h : ∀ p ∈ L, ∀ x, p.2 x = X (p.1.emb x)) (hc : ∀ y, ∃ p ∈ L, y ∈ p.1.set) : View.canon L = X :=
  funext fun y => View.canon_eq_of_allAt L y _ (hc y) fun p hp x hx => by rw [h p hp x, hx]

end Cert.Stage

end
-- ==== Proof.Mix.Pay.lean ====
/- What the decoding step's mixer stores of a tile of 16 sequences: the shifted key and value windows and the new recurrent
   states, each as one function of the sequence (and of the head), from the values the tile loads. -/
module

public import proofs.«01_k».proof.Proof.Mix.Kit
public import proofs.«01_k».proof.Proof.Ffn.Stage
public import Idealize.ShloMosaic.Lib.ValueIdx
public import Idealize.ShloMosaic.Lib.Pipeline.ValueKit.Tiles

@[expose] public section

set_option maxRecDepth 16384

namespace Cert.Kernel.Mix

open Idealize.ShloMosaic Idealize.ShloMosaic.TcCoe Idealize.ShloMosaic.ValueIdx
open Cert.Kernel Cert.Kernel.Gen

variable {F : FTy → Type} [FloatOps F]

/-- Sixteen rows as columns: padded to 128 rows by zeros and transposed. -/
noncomputable def padCols (a : Vec F S16x128 .f32) : FVec F S128x128 .f32 :=
  transpose S128x128 [1, 0] (concatenate S128x128 0 [⟨S16x128, a⟩, ⟨S112x128, broadcast S112x128 (Scalar.ofBits .f32 0x00000000#32 : F .f32)⟩]
    concatenates_S16x128_S112x128_S128x128_d0) transposes_S128x128_p1_0_S128x128

/-- The window of sequence `k`: the cache moved one lane to the left, the new row in the last lane. -/
noncomputable def winOf (a : Vec F S16x128 .f32) (k : ℕ) (b : Vec F S1x128x128 .f32) : FVec F S128x128 .f32 :=
  select k0_pay37 (dynamicRotate 1 (BitVec.ofNat 32 (127 - k)) none (padCols a) rotates_S128x128_d1)
    (dynamicRotate 1 127#32 none (shapeCast S128x128 b shapeCasts_S1x128x128_S128x128) rotates_S128x128_d1)

theorem inbC (k : ℕ) (hk : k < 16) : ∀ a : Fin 3, (![k, 0, 0] : Fin 3 → ℕ) a + (![1, 128, 128] : Fin 3 → ℕ) a ≤ S16x128x128.size a := by
  intro a; fin_cases a
  · show k + 1 ≤ 16; omega
  · show 0 + 128 ≤ 128; omega
  · show 0 + 128 ≤ 128; omega
theorem inbS (hd k : ℕ) (hh : hd < 4) (hk : k < 16) : ∀ a : Fin 3, (![k, 128 * hd, 0] : Fin 3 → ℕ) a + (![1, 128, 128] : Fin 3 → ℕ) a ≤ S16x512x128.size a := by
  intro a; fin_cases a
  · show k + 1 ≤ 16; omega
  · show 128 * hd + 128 ≤ 512; omega
  · show 0 + 128 ≤ 128; omega

/-- What is stored of it, -/
noncomputable def winP (a : Vec F S16x128 .f32) (B : (k : ℕ) → k < 16 → Vec F S1x128x128 .f32) (k : ℕ) (hk : k < 16) : FVec F S1x128x128 .f32 :=
  shapeCast S1x128x128 (winOf a k (B k hk)) shapeCasts_S128x128_S1x128x128

/-- the sequences' caches within a tile of them, -/
noncomputable def slabC (C : Vec F S16x128x128 .f32) (k : ℕ) (hk : k < 16) : Vec F S1x128x128 .f32 :=
  View.ld C (Rect.unit (s := S16x128x128) ![k, 0, 0] S1x128x128.size (inbC k hk))

/-- sixteen slabs as one tile, -/
def tileC (P : (k : ℕ) → k < 16 → Vec F S1x128x128 .f32) : Vec F S16x128x128 .f32 :=
  fun y => P (y 0).val (y 0).isLt (ix3 0 (y 1) (y 2))

/-- and the tile's sixteen windows together. -/
noncomputable def winT (a : Vec F S16x128 .f32) (C : Vec F S16x128x128 .f32) : Vec F S16x128x128 .f32 := tileC (winP a (slabC C))

theorem slab_C (P : (k : ℕ) → k < 16 → Vec F S1x128x128 .f32) (k : ℕ) (hk : k < 16)
    (h : ∀ a, (![k, 0, 0] : Fin 3 → ℕ) a + S1x128x128.size a ≤ S16x128x128.size a)
    (x : (Rect.unit (s := S16x128x128) ![k, 0, 0] S1x128x128.size h).shape.Idx) :
    P k hk x = tileC P ((Rect.unit (s := S16x128x128) ![k, 0, 0] S1x128x128.size h).emb x) := by
  have e0 : (x 0).val < 1 := (x 0).isLt
  have hk' : k = (((Rect.unit (s := S16x128x128) ![k, 0, 0] S1x128x128.size h).emb x) 0).val := by
    show k = k + 1 * (x 0).val; omega
  have ha : ∀ (k' : ℕ) (h' : k' < 16) (z : S1x128x128.Idx), k = k' → x = z → P k hk x = P k' h' z := by
    rintro k' h' z rfl rfl; rfl
  refine ha _ _ _ hk' ?_
  refine funext fun a => ?_
  fin_cases a
  · exact Fin.ext (by show (x 0).val = 0; omega)
  · exact Fin.ext (by show (x 1).val = 0 + 1 * (x 1).val; omega)
  · exact Fin.ext (by show (x 2).val = 0 + 1 * (x 2).val; omega)

/-- Head `hd` of sixteen rows of four heads. -/
theorem slicesH : ∀ hd : Fin 4, S16x512.Slices ![0, 128 * hd.val] S16x128
  | 0 => slices_S16x512_o0_0_S16x128
  | 1 => slices_S16x512_o0_128_S16x128
  | 2 => slices_S16x512_o0_256_S16x128
  | 3 => slices_S16x512_o0_384_S16x128
@[inherit_doc slicesH]
noncomputable def headOf (a : Vec F S16x512 .f32) (hd : ℕ) (hh : hd < 4) : FVec F S16x128 .f32 :=
  extractStridedSlice S16x128 ![0, 128 * hd] a (slicesH ⟨hd, hh⟩)

theorem slicesK (k : ℕ) (hk : k < 16) : S128x128.Slices ![0, k] S128x1 := by
  interval_cases k <;> decide

/-- The outer product of sequence `k`'s key and value: a product over sixteen rows of which one is kept. -/
noncomputable def outerOf (kh vh : Vec F S16x128 .f32) (k : ℕ) : FVec F S128x128 .f32 :=
  matmul dot_S128x128_S128x128_S128x128_1_0_0_1_n_n none (truncf .bf16 (padCols kh) bitsLt_bf16_f32)
    (truncf .bf16 (select (cmpi .eq (iota .tc S128x128 32 [0] iota_S128x128_d0_w32) (broadcast S128x128 (BitVec.ofNat 32 k)))
      (concatenate S128x128 0 [⟨S16x128, vh⟩, ⟨S112x128, broadcast S112x128 (Scalar.ofBits .f32 0x00000000#32 : F .f32)⟩] concatenates_S16x128_S112x128_S128x128_d0)
      (broadcast S128x128 (Scalar.ofBits .f32 0x00000000#32 : F .f32))) bitsLt_bf16_f32) (constant S128x128 .f32 0x00000000#32)

/-- The new state of sequence `k` and head `hd`: the old one scaled row by row, plus the outer product. -/
noncomputable def stP (f kh vh : Vec F S16x512 .f32) (B : (hd k : ℕ) → hd < 4 → k < 16 → Vec F S1x128x128 .f32) (hd k : ℕ) (hh : hd < 4) (hk : k < 16) : FVec F S1x128x128 .f32 :=
  shapeCast S1x128x128 (addf (mulf
      (broadcastTo S128x128 (shapeCast S128x1 (extractStridedSlice S128x1 ![0, k] (padCols (headOf f hd hh)) (slicesK k hk)) shapeCasts_S128x1_S128x1) broadcasts_S128x1_S128x128)
      (shapeCast S128x128 (B hd k hh hk) shapeCasts_S1x128x128_S128x128))
    (outerOf (headOf kh hd hh) (headOf vh hd hh) k)) shapeCasts_S128x128_S1x128x128

/-- The states within a tile of them. -/
noncomputable def slabS (S : Vec F S16x512x128 .f32) (hd k : ℕ) (hh : hd < 4) (hk : k < 16) : Vec F S1x128x128 .f32 :=
  View.ld S (Rect.unit (s := S16x512x128) ![k, 128 * hd, 0] S1x128x128.size (inbS hd k hh hk))

/-- Sixteen times four slabs as one tile. -/
def tileS (P : (hd k : ℕ) → hd < 4 → k < 16 → Vec F S1x128x128 .f32) : Vec F S16x512x128 .f32 :=
  fun y => P ((y 1).val / 128) (y 0).val (Nat.div_lt_of_lt_mul (y 1).isLt) (y 0).isLt
    (ix3 0 ⟨(y 1).val % 128, Nat.mod_lt _ (by decide)⟩ (y 2))

/-- The tile's states together. -/
noncomputable def stT (f kh vh : Vec F S16x512 .f32) (S : Vec F S16x512x128 .f32) : Vec F S16x512x128 .f32 := tileS (stP f kh vh (slabS S))

theorem slab_S (P : (hd k : ℕ) → hd < 4 → k < 16 → Vec F S1x128x128 .f32) (hd k : ℕ) (hh : hd < 4) (hk : k < 16)
    (h : ∀ a, (![k, 128 * hd, 0] : Fin 3 → ℕ) a + S1x128x128.size a ≤ S16x512x128.size a)
    (x : (Rect.unit (s := S16x512x128) ![k, 128 * hd, 0] S1x128x128.size h).shape.Idx) :
    P hd k hh hk x = tileS P ((Rect.unit (s := S16x512x128) ![k, 128 * hd, 0] S1x128x128.size h).emb x) := by
  have e0 : (x 0).val < 1 := (x 0).isLt
  have e1 : (x 1).val < 128 := (x 1).isLt
  have ha : ∀ (d' k' : ℕ) (h1 : d' < 4) (h' : k' < 16) (z : S1x128x128.Idx), hd = d' → k = k' → x = z → P hd k hh hk x = P d' k' h1 h' z := by
    rintro d' k' h1 h' z rfl rfl rfl; rfl
  refine ha _ _ _ _ _ ?_ ?_ ?_
  · show hd = (128 * hd + 1 * (x 1).val) / 128; omega
  · show k = k + 1 * (x 0).val; omega
  · refine funext fun a => ?_
    fin_cases a
    · exact Fin.ext (by show (x 0).val = 0; omega)
    · exact Fin.ext (by show (x 1).val = (128 * hd + 1 * (x 1).val) % 128; omega)
    · exact Fin.ext (by show (x 2).val = 0 + 1 * (x 2).val; omega)

/-- The stores of the slabs, the last one first, -/
noncomputable def piecesC (P : (k : ℕ) → k < 16 → Vec F S1x128x128 .f32) : (n : ℕ) → n ≤ 16 → List (View.Piece (Elt F) S16x128x128 .f32)
  | 0, _ => []
  | n + 1, h => ⟨Rect.unit (s := S16x128x128) ![n, 0, 0] S1x128x128.size (inbC n h), P n h⟩ :: piecesC P n (Nat.le_of_succ_le h)
noncomputable def piecesS (P : (hd k : ℕ) → hd < 4 → k < 16 → Vec F S1x128x128 .f32) : (n : ℕ) → n ≤ 64 → List (View.Piece (Elt F) S16x512x128 .f32)
  | 0, _ => []
  | n + 1, h => ⟨Rect.unit (s := S16x512x128) ![n % 16, 128 * (n / 16), 0] S1x128x128.size (inbS (n / 16) (n % 16) (Nat.div_lt_of_lt_mul h) (Nat.mod_lt _ (by decide))),
      P (n / 16) (n % 16) (Nat.div_lt_of_lt_mul h) (Nat.mod_lt _ (by decide))⟩ :: piecesS P n (Nat.le_of_succ_le h)

theorem mem_piecesC (P : (k : ℕ) → k < 16 → Vec F S1x128x128 .f32) (p) : ∀ (n : ℕ) (h : n ≤ 16),
    p ∈ piecesC P n h ↔ ∃ (k : ℕ) (hk : k < 16), k < n ∧ p = ⟨Rect.unit (s := S16x128x128) ![k, 0, 0] S1x128x128.size (inbC k hk), P k hk⟩
  | 0, _ => by simp [piecesC]
  | n + 1, h => by
    rw [piecesC, List.mem_cons, mem_piecesC P p n]
    constructor
    · rintro (h' | ⟨k, hk, h1, h2⟩)
      · exact ⟨n, h, Nat.lt_succ_self n, h'⟩
      · exact ⟨k, hk, by omega, h2⟩
    · rintro ⟨k, hk, h1, h2⟩
      rcases Nat.lt_succ_iff_lt_or_eq.mp h1 with h3 | rfl
      · exact .inr ⟨k, hk, h3, h2⟩
      · exact .inl h2
theorem mem_piecesS (P : (hd k : ℕ) → hd < 4 → k < 16 → Vec F S1x128x128 .f32) (p) : ∀ (n : ℕ) (h : n ≤ 64),
    p ∈ piecesS P n h ↔ ∃ (q : ℕ) (hq : q < 64), q < n ∧ p = ⟨Rect.unit (s := S16x512x128) ![q % 16, 128 * (q / 16), 0] S1x128x128.size (inbS (q / 16) (q % 16) (Nat.div_lt_of_lt_mul hq) (Nat.mod_lt _ (by decide))), P (q / 16) (q % 16) (Nat.div_lt_of_lt_mul hq) (Nat.mod_lt _ (by decide))⟩
  | 0, _ => by simp [piecesS]
  | n + 1, h => by
    rw [piecesS, List.mem_cons, mem_piecesS P p n]
    constructor
    · rintro (h' | ⟨k, hk, h1, h2⟩)
      · exact ⟨n, h, Nat.lt_succ_self n, h'⟩
      · exact ⟨k, hk, by omega, h2⟩
    · rintro ⟨k, hk, h1, h2⟩
      rcases Nat.lt_succ_iff_lt_or_eq.mp h1 with h3 | rfl
      · exact .inr ⟨k, hk, h3, h2⟩
      · exact .inl h2

/-- make the tile. -/
theorem read_piecesC {κ : Kind} {sp : Space} (v : View sig κ sp S16x128x128 .f32) (f : v.ty.Contents (Elt F)) (P : (k : ℕ) → k < 16 → Vec F S1x128x128 .f32) :
    v.read (Elt F) (v.writes (Elt F) f (piecesC P 16 le_rfl)) = tileC P := by
  have hc : ∀ y : S16x128x128.Idx, ∃ p ∈ piecesC P 16 le_rfl, y ∈ p.1.set := fun y => by
    refine ⟨_, (mem_piecesC P _ 16 le_rfl).mpr ⟨(y 0).val, (y 0).isLt, (y 0).isLt, rfl⟩, ?_⟩
    rw [Rect.mem_set_unit]
    intro a; fin_cases a
    · exact ⟨le_rfl, Nat.lt_succ_self (y 0).val⟩
    · exact ⟨Nat.zero_le _, by show (y 1).val < 0 + 128; have := (y 1).isLt; rw [Nat.zero_add]; exact this⟩
    · exact ⟨Nat.zero_le _, by show (y 2).val < 0 + 128; have := (y 2).isLt; rw [Nat.zero_add]; exact this⟩
  refine (View.read_writes_eq_canon _ _ _ hc).trans (Cert.Stage.canon_of_agree _ _ (fun p hp x => ?_) hc)
  obtain ⟨k, hk, -, rfl⟩ := (mem_piecesC P p 16 le_rfl).mp hp
  exact slab_C P k hk (inbC k hk) x
theorem read_piecesS {κ : Kind} {sp : Space} (v : View sig κ sp S16x512x128 .f32) (f : v.ty.Contents (Elt F)) (P : (hd k : ℕ) → hd < 4 → k < 16 → Vec F S1x128x128 .f32) :
    v.read (Elt F) (v.writes (Elt F) f (piecesS P 64 le_rfl)) = tileS P := by
  have hc : ∀ y : S16x512x128.Idx, ∃ p ∈ piecesS P 64 le_rfl, y ∈ p.1.set := fun y => by
    have h0 : (y 0).val < 16 := (y 0).isLt
    have h1 : (y 1).val < 512 := (y 1).isLt
    have hq : (y 1).val / 128 * 16 + (y 0).val < 64 := by omega
    refine ⟨_, (mem_piecesS P _ 64 le_rfl).mpr ⟨(y 1).val / 128 * 16 + (y 0).val, hq, hq, rfl⟩, ?_⟩
    rw [Rect.mem_set_unit]
    intro a; fin_cases a
    · show ((y 1).val / 128 * 16 + (y 0).val) % 16 ≤ (y 0).val ∧ (y 0).val < ((y 1).val / 128 * 16 + (y 0).val) % 16 + 1
      omega
    · show 128 * (((y 1).val / 128 * 16 + (y 0).val) / 16) ≤ (y 1).val ∧ (y 1).val < 128 * (((y 1).val / 128 * 16 + (y 0).val) / 16) + 128
      omega
    · exact ⟨Nat.zero_le _, by show (y 2).val < 0 + 128; have := (y 2).isLt; rw [Nat.zero_add]; exact this⟩
  refine (View.read_writes_eq_canon _ _ _ hc).trans (Cert.Stage.canon_of_agree _ _ (fun p hp x => ?_) hc)
  obtain ⟨q, hq, -, rfl⟩ := (mem_piecesS P p 64 le_rfl).mp hp
  exact slab_S P (q / 16) (q % 16) _ _ (inbS _ _ (Nat.div_lt_of_lt_mul hq) (Nat.mod_lt _ (by decide))) x

/-- The tile's rows of a scratch array of 128 sequences. -/
noncomputable def rows2 (i : grid0.Coords) (a : Vec F S128x128 .f32) : Vec F S16x128 .f32 := View.ld a (Rect.unit (s := S128x128) (k0_off2 i) S16x128.size (k0_off2_inb i))
@[inherit_doc rows2]
noncomputable def rows1 (i : grid0.Coords) (a : Vec F S128x512 .f32) : Vec F S16x512 .f32 := View.ld a (Rect.unit (s := S128x512) (k0_off1 i) S16x512.size (k0_off1_inb i))

/-- What a run stores of the windows, its values as it loads them. -/
theorem winRun {arg3 : Memref sig .tc .vmem S16x128x128 .f32} (h3 : arg3.IsWhole) {arg24 : Memref sig .tc .vmem S128x128 .f32} (h24 : arg24.IsWhole)
    (i : grid0.Coords) (x2 : Vec F S16x128x128 .f32) (ka : Vec F S128x128 .f32) {κ : Kind} {sp : Space} (v : View sig κ sp S16x128x128 .f32) (f : v.ty.Contents (Elt F)) :
    v.read (Elt F) (v.writes (Elt F) f (piecesC (winP
      (arg24.view.readAt (Elt F) (Rect.unit (s := S128x128) (k0_off2 i) S16x128.size (k0_off2_inb i)).toLoadRect (h24.unread ka))
      (fun k hk => arg3.view.readAt (Elt F) (Rect.unit (s := S16x128x128) ![k, 0, 0] S1x128x128.size (inbC k hk)).toLoadRect (h3.unread x2))) 16 le_rfl))
    = winT (rows2 i ka) x2 := by
  rw [read_piecesC]
  simp only [View.readAt_eq_ld, Memref.IsWhole.read_unread]
  rfl

/-- What a run stores of the states, its values as it loads them. -/
theorem stRun {arg5 : Memref sig .tc .vmem S16x512x128 .f32} (h5 : arg5.IsWhole) {arg27 arg28 arg29 : Memref sig .tc .vmem S128x512 .f32} (h27 : arg27.IsWhole) (h28 : arg28.IsWhole) (h29 : arg29.IsWhole)
    (i : grid0.Coords) (x4 : Vec F S16x512x128 .f32) (kh fh vh : Vec F S128x512 .f32) {κ : Kind} {sp : Space} (v : View sig κ sp S16x512x128 .f32) (f : v.ty.Contents (Elt F)) :
    v.read (Elt F) (v.writes (Elt F) f (piecesS (stP
      (arg28.view.readAt (Elt F) (Rect.unit (s := S128x512) (k0_off1 i) S16x512.size (k0_off1_inb i)).toLoadRect (h28.unread fh))
      (arg27.view.readAt (Elt F) (Rect.unit (s := S128x512) (k0_off1 i) S16x512.size (k0_off1_inb i)).toLoadRect (h27.unread kh))
      (arg29.view.readAt (Elt F) (Rect.unit (s := S128x512) (k0_off1 i) S16x512.size (k0_off1_inb i)).toLoadRect (h29.unread vh))
      (fun hd k hh hk => arg5.view.readAt (Elt F) (Rect.unit (s := S16x512x128) ![k, 128 * hd, 0] S1x128x128.size (inbS hd k hh hk)).toLoadRect (h5.unread x4))) 64 le_rfl))
    = stT (rows1 i fh) (rows1 i kh) (rows1 i vh) x4 := by
  rw [read_piecesS]
  simp only [View.readAt_eq_ld, Memref.IsWhole.read_unread]
  rfl

end Cert.Kernel.Mix

end
-- ==== Proof.Mix.RunB.lean ====
module

public import proofs.«01_k».proof.Proof.Mix.Pay

@[expose] public section

set_option maxRecDepth 16384

noncomputable section

namespace Cert.Kernel.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

set_option maxHeartbeats 4000000 in
/-- At a point that is neither the first nor the last: the windows and the states of the tile are stored. -/
theorem runB (c : Dev nD) (i : grid0.Coords) (arg1 : Memref sig .tc .smem S1x8 .f32) (harg1 : arg1.IsWhole) (arg2 : Memref sig .tc .vmem S128x1024 .f32) (harg2 : arg2.IsWhole) (arg3 : Memref sig .tc .vmem S16x128x128 .f32) (harg3 : arg3.IsWhole) (arg4 : Memref sig .tc .vmem S16x128x128 .f32) (harg4 : arg4.IsWhole) (arg5 : Memref sig .tc .vmem S16x512x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2x512 .f32) (harg8 : arg8.IsWhole) (arg9 : Memref sig .tc .vmem S1x128 .f32) (harg9 : arg9.IsWhole) (arg14 : Memref sig .tc .vmem S128x1024 .f32) (harg14 : arg14.IsWhole) (arg15 : Memref sig .tc .vmem S16x128x128 .f32) (harg15 : arg15.IsWhole) (arg16 : Memref sig .tc .vmem S16x128x128 .f32) (harg16 : arg16.IsWhole) (arg17 : Memref sig .tc .vmem S16x512x128 .f32) (harg17 : arg17.IsWhole) (arg18 : Memref sig .tc .vmem S1024x4864 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S128x1024 .bf16) (harg22 : arg22.IsWhole) (arg23 : Memref sig .tc .vmem S128x512 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x512 .f32) (harg31 : arg31.IsWhole) (alloca_r0 : Memref sig .tc .vmem S4x64x4864 .f32) (halloca_r0 : alloca_r0.IsWhole) (alloca_r1 : Memref sig .tc .vmem S1x512x1024 .f32) (halloca_r1 : alloca_r1.IsWhole) (alloca_r2 : Memref sig .tc .vmem S1x512x1024 .f32) (halloca_r2 : alloca_r2.IsWhole) (alloca_r3 : Memref sig .tc .vmem S2x512x1024 .f32) (halloca_r3 : alloca_r3.IsWhole) (hc0 : ¬cond0_0 i) (hc1 : ¬cond0_1 i)
    (x0 : Vec F S1x8 .f32) (x2 : Vec F S16x128x128 .f32) (x3 : Vec F S16x128x128 .f32) (x4 : Vec F S16x512x128 .f32) (x8 : Vec F S1x128 .f32) (ka : Vec F S128x128 .f32) (va : Vec F S128x128 .f32) (kh : Vec F S128x512 .f32) (fh : Vec F S128x512 .f32) (vh : Vec F S128x512 .f32) :
      ∀ (W : Waits sig Unit) (K : PUnit → sProp 𝕄),
        iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg9 fullShare x8 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg23 fullShare d) ∗ owns (c : Thread nD τ) arg24 fullShare ka ∗ owns (c : Thread nD τ) arg25 fullShare va ∗ (∃ d, owns (c : Thread nD τ) arg26 fullShare d) ∗ owns (c : Thread nD τ) arg27 fullShare kh ∗ owns (c : Thread nD τ) arg28 fullShare fh ∗ owns (c : Thread nD τ) arg29 fullShare vh ∗ (∃ d, owns (c : Thread nD τ) arg30 fullShare d) ∗ (∃ d, owns (c : Thread nD τ) arg31 fullShare d) ∗ owes (c : Thread nD τ) 0 W
            ∗ (iprop(owns (c : Thread nD τ) arg1 fullShare x0 ∗ owns (c : Thread nD τ) arg3 fullShare x2 ∗ owns (c : Thread nD τ) arg4 fullShare x3 ∗ owns (c : Thread nD τ) arg5 fullShare x4 ∗ owns (c : Thread nD τ) arg9 fullShare x8 ∗ owns (c : Thread nD τ) arg15 fullShare (winT (rows2 i ka) x2) ∗ owns (c : Thread nD τ) arg16 fullShare (winT (rows2 i va) x3) ∗ owns (c : Thread nD τ) arg17 fullShare (stT (rows1 i fh) (rows1 i kh) (rows1 i vh) x4) ∗ (∃ d, owns (c : Thread nD τ) arg23 fullShare d) ∗ owns (c : Thread nD τ) arg24 fullShare ka ∗ owns (c : Thread nD τ) arg25 fullShare va ∗ (∃ d, owns (c : Thread nD τ) arg26 fullShare d) ∗ owns (c : Thread nD τ) arg27 fullShare kh ∗ owns (c : Thread nD τ) arg28 fullShare fh ∗ owns (c : Thread nD τ) arg29 fullShare vh ∗ (∃ d, owns (c : Thread nD τ) arg30 fullShare d) ∗ (∃ d, owns (c : Thread nD τ) arg31 fullShare d) ∗ (∃ W', owes (c : Thread nD τ) 0 W')) -∗ K ⟨⟩))
          ⊢ wp frame (wpE (defs₀ (F := F)) Variants.none c none) Set.univ (cc0_mix_sample i arg1 harg1 arg2 harg2 arg3 harg3 arg4 harg4 arg5 harg5 arg6 harg6 arg7 harg7 arg8 harg8 arg9 harg9 (Memref.whole main_v9) (Memref.isWhole_whole _) (Memref.whole main_v10) (Memref.isWhole_whole _) (Memref.whole main_v11) (Memref.isWhole_whole _) (Memref.whole main_v12) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 alloca_r0 halloca_r0 cc0_scoped1 alloca_r1 halloca_r1 cc0_scoped3 alloca_r2 halloca_r2 cc0_scoped5 alloca_r3 halloca_r3 cc0_scoped7) K := by
    intro W K
    simp only [cc0_mix_sample_eq_skeleton]; unfold cc0_mix_sample_skel
    simp only [k0_part134_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part135_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton]
    unfold owns
    iintro ⟨⟨%f0, %hf0, H0⟩, ⟨%f2, %hf2, H2⟩, ⟨%f3, %hf3, H3⟩, ⟨%f4, %hf4, H4⟩, ⟨%f8, %hf8, H8⟩, ⟨%d10, %f10, -, H10⟩, ⟨%d11, %f11, -, H11⟩, ⟨%d12, %f12, -, H12⟩, ⟨%dS5, %fS5, -, HS5⟩, ⟨%fS6, %hfS6, HS6⟩, ⟨%fS7, %hfS7, HS7⟩, ⟨%dS8, %fS8, -, HS8⟩, ⟨%fS9, %hfS9, HS9⟩, ⟨%fS10, %hfS10, HS10⟩, ⟨%fS11, %hfS11, HS11⟩, ⟨%dS12, %fS12, -, HS12⟩, ⟨%dS13, %fS13, -, HS13⟩, HW, Hk⟩
    obtain rfl := harg1.eq_unread hf0; obtain rfl := harg3.eq_unread hf2; obtain rfl := harg4.eq_unread hf3; obtain rfl := harg5.eq_unread hf4; obtain rfl := harg9.eq_unread hf8; obtain rfl := harg24.eq_unread hfS6; obtain rfl := harg25.eq_unread hfS7; obtain rfl := harg27.eq_unread hfS9; obtain rfl := harg28.eq_unread hfS10; obtain rfl := harg29.eq_unread hfS11
    sl_exec (disch := first | sl_exact hc0 | sl_exact hc1)
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H8]
    · iexists _; isplitr; · ipureintro; exact harg9.read_unread _
      iexact H8
    isplitl [H10]
    · iexists _; isplitr; swap; · iexact H10
      ipureintro
      refine Eq.trans ?_ (winRun harg3 harg24 i x2 ka arg15.view f10)
      rfl
    isplitl [H11]
    · iexists _; isplitr; swap; · iexact H11
      ipureintro
      refine Eq.trans ?_ (winRun harg4 harg25 i x3 va arg16.view f11)
      rfl
    isplitl [H12]
    · iexists _; isplitr; swap; · iexact H12
      ipureintro
      refine Eq.trans ?_ (stRun harg5 harg27 harg28 harg29 i x4 kh fh vh arg17.view f12)
      rfl
    isplitl [HS5]
    · iexists _; iexists _; isplitr; swap; · iexact HS5
      ipureintro; rfl
    isplitl [HS6]
    · iexists _; isplitr; · ipureintro; exact harg24.read_unread _
      iexact HS6
    isplitl [HS7]
    · iexists _; isplitr; · ipureintro; exact harg25.read_unread _
      iexact HS7
    isplitl [HS8]
    · iexists _; iexists _; isplitr; swap; · iexact HS8
      ipureintro; rfl
    isplitl [HS9]
    · iexists _; isplitr; · ipureintro; exact harg27.read_unread _
      iexact HS9
    isplitl [HS10]
    · iexists _; isplitr; · ipureintro; exact harg28.read_unread _
      iexact HS10
    isplitl [HS11]
    · iexists _; isplitr; · ipureintro; exact harg29.read_unread _
      iexact HS11
    isplitl [HS12]
    · iexists _; iexists _; isplitr; swap; · iexact HS12
      ipureintro; rfl
    isplitl [HS13]
    · iexists _; iexists _; isplitr; swap; · iexact HS13
      ipureintro; rfl
    iexists _; iexact HW

end Cert.Kernel.Mix

end
-- ==== Proof.Mix.RunC.lean ====
module

public import proofs.«01_k».proof.Proof.Mix.RunB

@[expose] public section

set_option maxRecDepth 16384

noncomputable section

namespace Cert.Kernel.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

set_option maxHeartbeats 4000000 in
/-- At the last point: besides what every point does, the rows of the output are stored. -/
theorem runC (c : Dev nD) (i : grid0.Coords) (arg1 : Memref sig .tc .smem S1x8 .f32) (harg1 : arg1.IsWhole) (arg2 : Memref sig .tc .vmem S128x1024 .f32) (harg2 : arg2.IsWhole) (arg3 : Memref sig .tc .vmem S16x128x128 .f32) (harg3 : arg3.IsWhole) (arg4 : Memref sig .tc .vmem S16x128x128 .f32) (harg4 : arg4.IsWhole) (arg5 : Memref sig .tc .vmem S16x512x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2x512 .f32) (harg8 : arg8.IsWhole) (arg9 : Memref sig .tc .vmem S1x128 .f32) (harg9 : arg9.IsWhole) (arg14 : Memref sig .tc .vmem S128x1024 .f32) (harg14 : arg14.IsWhole) (arg15 : Memref sig .tc .vmem S16x128x128 .f32) (harg15 : arg15.IsWhole) (arg16 : Memref sig .tc .vmem S16x128x128 .f32) (harg16 : arg16.IsWhole) (arg17 : Memref sig .tc .vmem S16x512x128 .f32) (harg17 : arg17.IsWhole) (arg18 : Memref sig .tc .vmem S1024x4864 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S128x1024 .bf16) (harg22 : arg22.IsWhole) (arg23 : Memref sig .tc .vmem S128x512 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x512 .f32) (harg31 : arg31.IsWhole) (alloca_r0 : Memref sig .tc .vmem S4x64x4864 .f32) (halloca_r0 : alloca_r0.IsWhole) (alloca_r1 : Memref sig .tc .vmem S1x512x1024 .f32) (halloca_r1 : alloca_r1.IsWhole) (alloca_r2 : Memref sig .tc .vmem S1x512x1024 .f32) (halloca_r2 : alloca_r2.IsWhole) (alloca_r3 : Memref sig .tc .vmem S2x512x1024 .f32) (halloca_r3 : alloca_r3.IsWhole) (hc0 : ¬cond0_0 i) (hc1 : cond0_1 i)
    (x0 : Vec F S1x8 .f32) (x1 : Vec F S128x1024 .f32) (x2 : Vec F S16x128x128 .f32) (x3 : Vec F S16x128x128 .f32) (x4 : Vec F S16x512x128 .f32) (x6 : Vec F S1x1024 .f32) (x8 : Vec F S1x128 .f32) (ka : Vec F S128x128 .f32) (va : Vec F S128x128 .f32) (kh : Vec F S128x512 .f32) (fh : Vec F S128x512 .f32) (vh : Vec F S128x512 .f32) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare ka ∗ owns (c : Thread nD τ) arg25 fullShare va ∗ (∃ d, owns (c : Thread nD τ) arg26 fullShare d) ∗ owns (c : Thread nD τ) arg27 fullShare kh ∗ owns (c : Thread nD τ) arg28 fullShare fh ∗ owns (c : Thread nD τ) arg29 fullShare vh ∗ (∃ d, owns (c : Thread nD τ) arg30 fullShare d) ∗ (∃ d, owns (c : Thread nD τ) arg31 fullShare d) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg7 fullShare x6 ∗ owns (c : Thread nD τ) arg9 fullShare x8 ∗ (∃ d, owns (c : Thread nD τ) arg14 fullShare d) ∗ owns (c : Thread nD τ) arg15 fullShare (winT (rows2 i ka) x2) ∗ owns (c : Thread nD τ) arg16 fullShare (winT (rows2 i va) x3) ∗ owns (c : Thread nD τ) arg17 fullShare (stT (rows1 i fh) (rows1 i kh) (rows1 i vh) x4) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare ka ∗ owns (c : Thread nD τ) arg25 fullShare va ∗ (∃ d, owns (c : Thread nD τ) arg26 fullShare d) ∗ owns (c : Thread nD τ) arg27 fullShare kh ∗ owns (c : Thread nD τ) arg28 fullShare fh ∗ owns (c : Thread nD τ) arg29 fullShare vh ∗ (∃ d, owns (c : Thread nD τ) arg30 fullShare d) ∗ (∃ d, owns (c : Thread nD τ) arg31 fullShare d) ∗ (∃ W', owes (c : Thread nD τ) 0 W')) -∗ K ⟨⟩))
          ⊢ wp frame (wpE (defs₀ (F := F)) Variants.none c none) Set.univ (cc0_mix_sample i arg1 harg1 arg2 harg2 arg3 harg3 arg4 harg4 arg5 harg5 arg6 harg6 arg7 harg7 arg8 harg8 arg9 harg9 (Memref.whole main_v9) (Memref.isWhole_whole _) (Memref.whole main_v10) (Memref.isWhole_whole _) (Memref.whole main_v11) (Memref.isWhole_whole _) (Memref.whole main_v12) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 alloca_r0 halloca_r0 cc0_scoped1 alloca_r1 halloca_r1 cc0_scoped3 alloca_r2 halloca_r2 cc0_scoped5 alloca_r3 halloca_r3 cc0_scoped7) K := by
    intro W K
    simp only [cc0_mix_sample_eq_skeleton]; unfold cc0_mix_sample_skel
    simp only [k0_part134_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part135_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f8, %hf8, H8⟩, ⟨%d9, %f9, -, H9⟩, ⟨%d10, %f10, -, H10⟩, ⟨%d11, %f11, -, H11⟩, ⟨%d12, %f12, -, H12⟩, ⟨%dS0, %fS0, -, HS0⟩, ⟨%dS1, %fS1, -, HS1⟩, ⟨%dS2, %fS2, -, HS2⟩, ⟨%dS3, %fS3, -, HS3⟩, ⟨%dS4, %fS4, -, HS4⟩, ⟨%dS5, %fS5, -, HS5⟩, ⟨%fS6, %hfS6, HS6⟩, ⟨%fS7, %hfS7, HS7⟩, ⟨%dS8, %fS8, -, HS8⟩, ⟨%fS9, %hfS9, HS9⟩, ⟨%fS10, %hfS10, HS10⟩, ⟨%fS11, %hfS11, HS11⟩, ⟨%dS12, %fS12, -, HS12⟩, ⟨%dS13, %fS13, -, HS13⟩, HW, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg9.eq_unread hf8; obtain rfl := harg24.eq_unread hfS6; obtain rfl := harg25.eq_unread hfS7; obtain rfl := harg27.eq_unread hfS9; obtain rfl := harg28.eq_unread hfS10; obtain rfl := harg29.eq_unread hfS11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H6]
    · iexists _; isplitr; · ipureintro; exact harg7.read_unread _
      iexact H6
    isplitl [H8]
    · iexists _; isplitr; · ipureintro; exact harg9.read_unread _
      iexact H8
    isplitl [H9]
    · iexists _; iexists _; isplitr; swap; · iexact H9
      ipureintro; rfl
    isplitl [H10]
    · iexists _; isplitr; swap; · iexact H10
      ipureintro
      refine Eq.trans ?_ (winRun harg3 harg24 i x2 ka arg15.view f10)
      rfl
    isplitl [H11]
    · iexists _; isplitr; swap; · iexact H11
      ipureintro
      refine Eq.trans ?_ (winRun harg4 harg25 i x3 va arg16.view f11)
      rfl
    isplitl [H12]
    · iexists _; isplitr; swap; · iexact H12
      ipureintro
      refine Eq.trans ?_ (stRun harg5 harg27 harg28 harg29 i x4 kh fh vh arg17.view f12)
      rfl
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    isplitl [HS3]
    · iexists _; iexists _; isplitr; swap; · iexact HS3
      ipureintro; rfl
    isplitl [HS4]
    · iexists _; iexists _; isplitr; swap; · iexact HS4
      ipureintro; rfl
    isplitl [HS5]
    · iexists _; iexists _; isplitr; swap; · iexact HS5
      ipureintro; rfl
    isplitl [HS6]
    · iexists _; isplitr; · ipureintro; exact harg24.read_unread _
      iexact HS6
    isplitl [HS7]
    · iexists _; isplitr; · ipureintro; exact harg25.read_unread _
      iexact HS7
    isplitl [HS8]
    · iexists _; iexists _; isplitr; swap; · iexact HS8
      ipureintro; rfl
    isplitl [HS9]
    · iexists _; isplitr; · ipureintro; exact harg27.read_unread _
      iexact HS9
    isplitl [HS10]
    · iexists _; isplitr; · ipureintro; exact harg28.read_unread _
      iexact HS10
    isplitl [HS11]
    · iexists _; isplitr; · ipureintro; exact harg29.read_unread _
      iexact HS11
    isplitl [HS12]
    · iexists _; iexists _; isplitr; swap; · iexact HS12
      ipureintro; rfl
    isplitl [HS13]
    · iexists _; iexists _; isplitr; swap; · iexact HS13
      ipureintro; rfl
    iexists _; iexact HW

end Cert.Kernel.Mix

end
-- ==== Proof.Mix.PayA.lean ====
module

public import proofs.«01_k».proof.Proof.Mix.Pay

@[expose] public section

set_option maxRecDepth 16384

noncomputable section

namespace Cert.Kernel.Mix

open Idealize.ShloMosaic Idealize.ShloMosaic.TcCoe
open Cert.Kernel Cert.Kernel.Gen

variable {F : FTy → Type} [FloatOps F]

/-- The projections' matrix as the scratch holds it, rounded. -/
def castW (f : Vec F S1024x4864 .f32) : Vec F S1024x4864 .bf16 := truncf .bf16 f bitsLt_bf16_f32

/-- The normed activations, rounded. -/
def hV (x : Vec F S128x1024 .f32) (pre : Vec F S1x1024 .f32) : Vec F S128x1024 .bf16 := k0_pay23 x pre

/-- The matrix's columns of the keys, -/
def colK (W : Vec F S1024x4864 .bf16) : Vec F S1024x128 .bf16 := View.ld W (Rect.unit (s := S1024x4864) ![0, 512] S1024x128.size inb_S1024x4864_S1024x128_0_512)
/-- the values, -/
def colV (W : Vec F S1024x4864 .bf16) : Vec F S1024x128 .bf16 := View.ld W (Rect.unit (s := S1024x4864) ![0, 640] S1024x128.size inb_S1024x4864_S1024x128_0_640)
/-- the recurrence's gates -/
def colF (W : Vec F S1024x4864 .bf16) : Vec F S1024x512 .bf16 := View.ld W (Rect.unit (s := S1024x4864) ![0, 1280] S1024x512.size inb_S1024x4864_S1024x512_0_1280)
/-- and its values. -/
def colI (W : Vec F S1024x4864 .bf16) : Vec F S1024x512 .bf16 := View.ld W (Rect.unit (s := S1024x4864) ![0, 1792] S1024x512.size inb_S1024x4864_S1024x512_0_1792)

/-- The new keys of all the sequences, -/
def kaV (x : Vec F S128x1024 .f32) (pre : Vec F S1x1024 .f32) (W : Vec F S1024x4864 .bf16) : Vec F S128x128 .f32 := k0_pay25 (hV x pre) (colK W)
/-- their new values, -/
def vaV (x : Vec F S128x1024 .f32) (pre : Vec F S1x1024 .f32) (W : Vec F S1024x4864 .bf16) : Vec F S128x128 .f32 := k0_pay26 (hV x pre) (colV W)
/-- and the recurrence's keys, -/
def khV (x : Vec F S128x1024 .f32) (pre : Vec F S1x1024 .f32) (l : Vec F S2x512 .f32) (W : Vec F S1024x4864 .bf16) : Vec F S128x512 .f32 := k0_pay34 (k0_pay27 l) (k0_pay29 (hV x pre) (colF W))
/-- forget gates -/
def fhV (x : Vec F S128x1024 .f32) (pre : Vec F S1x1024 .f32) (l : Vec F S2x512 .f32) (W : Vec F S1024x4864 .bf16) : Vec F S128x512 .f32 := k0_pay33 (k0_pay30 l (hV x pre) (colF W))
/-- and values. -/
def vhV (x : Vec F S128x1024 .f32) (pre : Vec F S1x1024 .f32) (W : Vec F S1024x4864 .bf16) : Vec F S128x512 .f32 := k0_pay35 (hV x pre) (colI W)

theorem full_of {M N : ℕ} {e : EltTy} (x : Vec F ⟨2, ![M, N]⟩ e) (h : ∀ a, (![0, 0] : Fin 2 → ℕ) a + (![M, N] : Fin 2 → ℕ) a ≤ (⟨2, ![M, N]⟩ : Shape).size a) :
    View.ld x (Rect.unit (s := ⟨2, ![M, N]⟩) ![0, 0] ![M, N] h) = x :=
  funext fun y => congrArg x (funext (Fin.forall_fin_two.mpr
    ⟨Fin.ext (by show 0 + 1 * (y 0).val = (y 0).val; omega), Fin.ext (by show 0 + 1 * (y 1).val = (y 1).val; omega)⟩))

/-- A load of the whole activations, gains, bounds and normed activations is what they hold. -/
theorem full_s (x : Vec F S128x1024 .f32) : View.ld x (Rect.unit ![0, 0] ![128, 1024] inb_S128x1024_S128x1024_0_0) = x := full_of x _
@[inherit_doc full_s]
theorem full_g (x : Vec F S1x1024 .f32) : View.ld x (Rect.unit ![0, 0] ![1, 1024] inb_S1x1024_S1x1024_0_0) = x := full_of x _
@[inherit_doc full_s]
theorem full_l (x : Vec F S2x512 .f32) : View.ld x (Rect.unit ![0, 0] ![2, 512] inb_S2x512_S2x512_0_0) = x := full_of x _
@[inherit_doc full_s]
theorem full_h (x : Vec F S128x1024 .bf16) : View.ld x (Rect.unit ![0, 0] ![128, 1024] inb_S128x1024_S128x1024_0_0) = x := full_of x _
@[inherit_doc full_s]
theorem full_q (x : Vec F S128x512 .f32) : View.ld x (Rect.unit ![0, 0] ![128, 512] inb_S128x512_S128x512_0_0) = x := full_of x _
@[inherit_doc full_s]
theorem full_k (x : Vec F S128x128 .f32) : View.ld x (Rect.unit ![0, 0] ![128, 128] inb_S128x128_S128x128_0_0) = x := full_of x _

/-- One store of a whole array leaves what was stored. -/
theorem canon_full {M N : ℕ} {e : EltTy} (x : Vec F ⟨2, ![M, N]⟩ e) (h : ∀ a, (![0, 0] : Fin 2 → ℕ) a + (![M, N] : Fin 2 → ℕ) a ≤ (⟨2, ![M, N]⟩ : Shape).size a) :
    View.canon [(⟨Rect.unit (s := ⟨2, ![M, N]⟩) ![0, 0] ![M, N] h, x⟩ : View.Piece (Elt F) ⟨2, ![M, N]⟩ e)] = x := by
  refine Cert.Stage.canon_of_agree _ _ (fun p hp y => ?_) (fun y => ⟨_, List.mem_cons_self, ?_⟩)
  · obtain rfl := List.mem_singleton.mp hp
    exact (congrFun (full_of x h) y).symm
  · rw [Rect.mem_set_unit]
    intro a
    fin_cases a
    · exact ⟨Nat.zero_le _, by show (y 0).val < 0 + M; rw [Nat.zero_add]; exact (y 0).isLt⟩
    · exact ⟨Nat.zero_le _, by show (y 1).val < 0 + N; rw [Nat.zero_add]; exact (y 1).isLt⟩

/-- What the first point stores of the windows, from the rows it reads back of the scratch it has just written. -/
theorem winRunA {arg3 : Memref sig .tc .vmem S16x128x128 .f32} (h3 : arg3.IsWhole) (i : grid0.Coords) (x2 : Vec F S16x128x128 .f32)
    {R : Vec F S16x128 .f32} {a : Vec F S128x128 .f32} (e : R = rows2 i a) {κ : Kind} {sp : Space} (v : View sig κ sp S16x128x128 .f32) (f : v.ty.Contents (Elt F)) :
    v.read (Elt F) (v.writes (Elt F) f (piecesC (winP R
      (fun k hk => arg3.view.readAt (Elt F) (Rect.unit (s := S16x128x128) ![k, 0, 0] S1x128x128.size (inbC k hk)).toLoadRect (h3.unread x2))) 16 le_rfl))
    = winT (rows2 i a) x2 := by
  subst e
  rw [read_piecesC]
  simp only [View.readAt_eq_ld, Memref.IsWhole.read_unread]
  rfl

/-- And of the states. -/
theorem stRunA {arg5 : Memref sig .tc .vmem S16x512x128 .f32} (h5 : arg5.IsWhole) (i : grid0.Coords) (x4 : Vec F S16x512x128 .f32)
    {Rf Rk Rv : Vec F S16x512 .f32} {f k v : Vec F S128x512 .f32} (ef : Rf = rows1 i f) (ek : Rk = rows1 i k) (ev : Rv = rows1 i v)
    {κ : Kind} {sp : Space} (w : View sig κ sp S16x512x128 .f32) (g : w.ty.Contents (Elt F)) :
    w.read (Elt F) (w.writes (Elt F) g (piecesS (stP Rf Rk Rv
      (fun hd k hh hk => arg5.view.readAt (Elt F) (Rect.unit (s := S16x512x128) ![k, 128 * hd, 0] S1x128x128.size (inbS hd k hh hk)).toLoadRect (h5.unread x4))) 64 le_rfl))
    = stT (rows1 i f) (rows1 i k) (rows1 i v) x4 := by
  subst ef ek ev
  rw [read_piecesS]
  simp only [View.readAt_eq_ld, Memref.IsWhole.read_unread]
  rfl

end Cert.Kernel.Mix

end
-- ==== Proof.Mix.RunA.lean ====
module

public import proofs.«01_k».proof.Proof.Mix.RunC

public import proofs.«01_k».proof.Proof.Mix.PayA

@[expose] public section

set_option maxRecDepth 16384

noncomputable section

namespace Cert.Kernel.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

set_option maxHeartbeats 4000000 in
set_option sl_exec.dmaWindow true in set_option sl_exec.dmaWindowSet true in
/-- At the first point: the weights arrive in the scratch, rounded to bfloat16, the projections of all the sequences are kept, and the first tile is stored. -/
theorem runA (c : Dev nD) (i : grid0.Coords) (arg1 : Memref sig .tc .smem S1x8 .f32) (harg1 : arg1.IsWhole) (arg2 : Memref sig .tc .vmem S128x1024 .f32) (harg2 : arg2.IsWhole) (arg3 : Memref sig .tc .vmem S16x128x128 .f32) (harg3 : arg3.IsWhole) (arg4 : Memref sig .tc .vmem S16x128x128 .f32) (harg4 : arg4.IsWhole) (arg5 : Memref sig .tc .vmem S16x512x128 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S2x512 .f32) (harg8 : arg8.IsWhole) (arg9 : Memref sig .tc .vmem S1x128 .f32) (harg9 : arg9.IsWhole) (arg14 : Memref sig .tc .vmem S128x1024 .f32) (harg14 : arg14.IsWhole) (arg15 : Memref sig .tc .vmem S16x128x128 .f32) (harg15 : arg15.IsWhole) (arg16 : Memref sig .tc .vmem S16x128x128 .f32) (harg16 : arg16.IsWhole) (arg17 : Memref sig .tc .vmem S16x512x128 .f32) (harg17 : arg17.IsWhole) (arg18 : Memref sig .tc .vmem S1024x4864 .bf16) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S1024x1024 .bf16) (harg21 : arg21.IsWhole) (arg22 : Memref sig .tc .vmem S128x1024 .bf16) (harg22 : arg22.IsWhole) (arg23 : Memref sig .tc .vmem S128x512 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x512 .f32) (harg26 : arg26.IsWhole) (arg27 : Memref sig .tc .vmem S128x512 .f32) (harg27 : arg27.IsWhole) (arg28 : Memref sig .tc .vmem S128x512 .f32) (harg28 : arg28.IsWhole) (arg29 : Memref sig .tc .vmem S128x512 .f32) (harg29 : arg29.IsWhole) (arg30 : Memref sig .tc .vmem S128x512 .f32) (harg30 : arg30.IsWhole) (arg31 : Memref sig .tc .vmem S128x512 .f32) (harg31 : arg31.IsWhole) (alloca_r0 : Memref sig .tc .vmem S4x64x4864 .f32) (halloca_r0 : alloca_r0.IsWhole) (alloca_r1 : Memref sig .tc .vmem S1x512x1024 .f32) (halloca_r1 : alloca_r1.IsWhole) (alloca_r2 : Memref sig .tc .vmem S1x512x1024 .f32) (halloca_r2 : alloca_r2.IsWhole) (alloca_r3 : Memref sig .tc .vmem S2x512x1024 .f32) (halloca_r3 : alloca_r3.IsWhole) (hc0 : cond0_0 i) (hc1 : ¬cond0_1 i)
    (x0 : Vec F S1x8 .f32) (x1 : Vec F S128x1024 .f32) (x2 : Vec F S16x128x128 .f32) (x3 : Vec F S16x128x128 .f32) (x4 : Vec F S16x512x128 .f32) (x5 : Vec F S1x1024 .f32) (x6 : Vec F S1x1024 .f32) (x7 : Vec F S2x512 .f32) (x8 : Vec F S1x128 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg14 fullShare d) ∗ owns (c : Thread nD τ) arg15 fullShare (winT (rows2 i (kaV x1 x5 (castW fh0))) x2) ∗ owns (c : Thread nD τ) arg16 fullShare (winT (rows2 i (vaV x1 x5 (castW fh0))) x3) ∗ owns (c : Thread nD τ) arg17 fullShare (stT (rows1 i (fhV x1 x5 x7 (castW fh0))) (rows1 i (khV x1 x5 x7 (castW fh0))) (rows1 i (vhV x1 x5 (castW fh0))) x4) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare (kaV x1 x5 (castW fh0)) ∗ owns (c : Thread nD τ) arg25 fullShare (vaV x1 x5 (castW fh0)) ∗ (∃ d, owns (c : Thread nD τ) arg26 fullShare d) ∗ owns (c : Thread nD τ) arg27 fullShare (khV x1 x5 x7 (castW fh0)) ∗ owns (c : Thread nD τ) arg28 fullShare (fhV x1 x5 x7 (castW fh0)) ∗ owns (c : Thread nD τ) arg29 fullShare (vhV x1 x5 (castW fh0)) ∗ (∃ d, owns (c : Thread nD τ) arg30 fullShare d) ∗ (∃ d, owns (c : Thread nD τ) arg31 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mix_sample i arg1 harg1 arg2 harg2 arg3 harg3 arg4 harg4 arg5 harg5 arg6 harg6 arg7 harg7 arg8 harg8 arg9 harg9 (Memref.whole main_v9) (Memref.isWhole_whole _) (Memref.whole main_v10) (Memref.isWhole_whole _) (Memref.whole main_v11) (Memref.isWhole_whole _) (Memref.whole main_v12) (Memref.isWhole_whole _) arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 alloca_r0 halloca_r0 cc0_scoped1 alloca_r1 halloca_r1 cc0_scoped3 alloca_r2 halloca_r2 cc0_scoped5 alloca_r3 halloca_r3 cc0_scoped7) K := by
    intro W K
    simp only [cc0_mix_sample_eq_skeleton]; unfold cc0_mix_sample_skel
    simp only [k0_part134_eq_skeleton, k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part135_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%dS0, %fS0, -, HS0⟩, ⟨%dS1, %fS1, -, HS1⟩, ⟨%dS2, %fS2, -, HS2⟩, ⟨%dS3, %fS3, -, HS3⟩, ⟨%dS4, %fS4, -, HS4⟩, ⟨%dS5, %fS5, -, HS5⟩, ⟨%dS6, %fS6, -, HS6⟩, ⟨%dS7, %fS7, -, HS7⟩, ⟨%dS8, %fS8, -, HS8⟩, ⟨%dS9, %fS9, -, HS9⟩, ⟨%dS10, %fS10, -, HS10⟩, ⟨%dS11, %fS11, -, HS11⟩, ⟨%dS12, %fS12, -, HS12⟩, ⟨%dS13, %fS13, -, HS13⟩, ⟨%dS14, %fS14, -, HS14⟩, ⟨%dS15, %fS15, -, HS15⟩, ⟨%dS16, %fS16, -, HS16⟩, ⟨%dS17, %fS17, -, HS17⟩, Hq0, Hq1, Hq2, Hq3, Hq4, Hq5, Hq6, Hq7, Hh0, Hh1, Hh2, Hh3, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    have t0 : View.canon (runA.sl.HS0_16 c alloca_r0 fh0 fS14) = castW fh0 := by
      refine Stage.canon_of_agree _ _ ?_ (View.cover_of_tiled_head _ _ _ rfl)
      have e0 : k0_pay3 (runA.sl.v5104_r0 c alloca_r0 fh0 fS14) = truncf .bf16 (runA.sl.dma0 c fh0) bitsLt_bf16_f32 := by
        unfold k0_pay3 runA.sl.v5104_r0
        simp only [shapeCast_self]
        repeat rw [Stage.slot_other (a := 0) (hd := by decide)]
        rw [Stage.slot_same]
      have e1 : k0_pay4 (runA.sl.v5120_r0 c alloca_r0 fh0 fS14) = truncf .bf16 (runA.sl.dma0_1 c fh0) bitsLt_bf16_f32 := by
        unfold k0_pay4 runA.sl.v5120_r0
        simp only [shapeCast_self]
        repeat rw [Stage.slot_other (a := 0) (hd := by decide)]
        rw [Stage.slot_same]
      have e2 : k0_pay5 (runA.sl.v5136_r0 c alloca_r0 fh0 fS14) = truncf .bf16 (runA.sl.dma0_2 c fh0) bitsLt_bf16_f32 := by
        unfold k0_pay5 runA.sl.v5136_r0
        simp only [shapeCast_self]
        repeat rw [Stage.slot_other (a := 0) (hd := by decide)]
        rw [Stage.slot_same]
      have e3 : k0_pay6 (runA.sl.v5152_r0 c alloca_r0 fh0 fS14) = truncf .bf16 (runA.sl.dma0_3 c fh0) bitsLt_bf16_f32 := by
        unfold k0_pay6 runA.sl.v5152_r0
        simp only [shapeCast_self]
        repeat rw [Stage.slot_other (a := 0) (hd := by decide)]
        rw [Stage.slot_same]
      have e4 : k0_pay7 (runA.sl.v5168_r0 c alloca_r0 fh0 fS14) = truncf .bf16 (runA.sl.dma3 c fh0) bitsLt_bf16_f32 := by
        unfold k0_pay7 runA.sl.v5168_r0
        simp only [shapeCast_self]
        repeat rw [Stage.slot_other (a := 0) (hd := by decide)]
        rw [Stage.slot_same]
      have e5 : k0_pay8 (runA.sl.v5184_r0 c alloca_r0 fh0 fS14) = truncf .bf16 (runA.sl.dma6 c fh0) bitsLt_bf16_f32 := by
        unfold k0_pay8 runA.sl.v5184_r0
        simp only [shapeCast_self]
        repeat rw [Stage.slot_other (a := 0) (hd := by decide)]
        rw [Stage.slot_same]
      have e6 : k0_pay9 (runA.sl.v5200_r0 c alloca_r0 fh0 fS14) = truncf .bf16 (runA.sl.dma9 c fh0) bitsLt_bf16_f32 := by
        unfold k0_pay9 runA.sl.v5200_r0
        simp only [shapeCast_self]
        repeat rw [Stage.slot_other (a := 0) (hd := by decide)]
        rw [Stage.slot_same]
      have e7 : k0_pay10 (runA.sl.v5216_r0 c alloca_r0 fh0 fS14) = truncf .bf16 (runA.sl.dma12 c fh0) bitsLt_bf16_f32 := by
        unfold k0_pay10 runA.sl.v5216_r0
        simp only [shapeCast_self]
        repeat rw [Stage.slot_other (a := 0) (hd := by decide)]
        rw [Stage.slot_same]
      have e8 : k0_pay11 (runA.sl.v5232_r0 c alloca_r0 fh0 fS14) = truncf .bf16 (runA.sl.dma15 c fh0) bitsLt_bf16_f32 := by
        unfold k0_pay11 runA.sl.v5232_r0
        simp only [shapeCast_self]
        repeat rw [Stage.slot_other (a := 0) (hd := by decide)]
        rw [Stage.slot_same]
      have e9 : k0_pay12 (runA.sl.v5248_r0 c alloca_r0 fh0 fS14) = truncf .bf16 (runA.sl.dma18 c fh0) bitsLt_bf16_f32 := by
        unfold k0_pay12 runA.sl.v5248_r0
        simp only [shapeCast_self]
        repeat rw [Stage.slot_other (a := 0) (hd := by decide)]
        rw [Stage.slot_same]
      have e10 : k0_pay13 (runA.sl.v5264_r0 c alloca_r0 fh0 fS14) = truncf .bf16 (runA.sl.dma21 c fh0) bitsLt_bf16_f32 := by
        unfold k0_pay13 runA.sl.v5264_r0
        simp only [shapeCast_self]
        repeat rw [Stage.slot_other (a := 0) (hd := by decide)]
        rw [Stage.slot_same]
      have e11 : k0_pay14 (runA.sl.v5280_r0 c alloca_r0 fh0 fS14) = truncf .bf16 (runA.sl.dma24 c fh0) bitsLt_bf16_f32 := by
        unfold k0_pay14 runA.sl.v5280_r0
        simp only [shapeCast_self]
        repeat rw [Stage.slot_other (a := 0) (hd := by decide)]
        rw [Stage.slot_same]
      have e12 : k0_pay15 (runA.sl.v5296_r0 c alloca_r0 fh0 fS14) = truncf .bf16 (runA.sl.dma27 c fh0) bitsLt_bf16_f32 := by
        unfold k0_pay15 runA.sl.v5296_r0
        simp only [shapeCast_self]
        repeat rw [Stage.slot_other (a := 0) (hd := by decide)]
        rw [Stage.slot_same]
      have e13 : k0_pay16 (runA.sl.v5307_r0 c alloca_r0 fh0 fS14) = truncf .bf16 (runA.sl.dma30 c fh0) bitsLt_bf16_f32 := by
        unfold k0_pay16 runA.sl.v5307_r0
        simp only [shapeCast_self]
        repeat rw [Stage.slot_other (a := 0) (hd := by decide)]
        rw [Stage.slot_same]
      have e14 : k0_pay17 (runA.sl.v5318_r0 c alloca_r0 fh0 fS14) = truncf .bf16 (runA.sl.dma33 c fh0) bitsLt_bf16_f32 := by
        unfold k0_pay17 runA.sl.v5318_r0
        simp only [shapeCast_self]
        repeat rw [Stage.slot_other (a := 0) (hd := by decide)]
        rw [Stage.slot_same]
      have e15 : k0_pay18 (runA.sl.v5329_r0 c alloca_r0 fh0 fS14) = truncf .bf16 (runA.sl.dma36 c fh0) bitsLt_bf16_f32 := by
        unfold k0_pay18 runA.sl.v5329_r0
        simp only [shapeCast_self]
        repeat rw [Stage.slot_other (a := 0) (hd := by decide)]
        rw [Stage.slot_same]
      unfold runA.sl.HS0_16
      simp only [e0, e1, e2, e3, e4, e5, e6, e7, e8, e9, e10, e11, e12, e13, e14, e15, List.forall_mem_cons]
      refine ⟨fun x => rfl, fun x => rfl, fun x => rfl, fun x => rfl, fun x => rfl, fun x => rfl, fun x => rfl, fun x => rfl, fun x => rfl, fun x => rfl, fun x => rfl, fun x => rfl, fun x => rfl, fun x => rfl, fun x => rfl, fun x => rfl,
        fun p hp => absurd hp List.not_mem_nil⟩
    have q0 : ∀ B : Rect S1024x4864, arg18.view.readCov (runA.sl.HS0_16 c alloca_r0 fh0 fS14) B.toLoadRect = View.ld (castW fh0) B :=
      fun B => by rw [View.readCov_eq_canon', t0]
    have t4 : View.canon (runA.sl.HS4_1 c arg2 harg2 arg6 harg6 x1 x5) = hV x1 x5 := by
      unfold runA.sl.HS4_1
      simp only [View.readAt_eq_ld, Memref.IsWhole.read_unread, full_s, full_g]
      exact canon_full _ _
    have q4 : ∀ B : Rect S128x1024, arg22.view.readCov (runA.sl.HS4_1 c arg2 harg2 arg6 harg6 x1 x5) B.toLoadRect = View.ld (hV x1 x5) B :=
      fun B => by rw [View.readCov_eq_canon', t4]
    have t6 : View.canon (runA.sl.HS6_1 c arg2 harg2 arg6 harg6 arg18 arg22 alloca_r0 x1 x5 fh0 fS14) = kaV x1 x5 (castW fh0) := by
      unfold runA.sl.HS6_1 runA.sl.v5009 runA.sl.v5018
      simp only [q0, q4, View.readAt_eq_ld, Memref.IsWhole.read_unread, full_h, full_l]
      exact canon_full _ _
    have w6 : ∀ g, arg24.view.read (Elt F) (arg24.view.writes (Elt F) g (runA.sl.HS6_1 c arg2 harg2 arg6 harg6 arg18 arg22 alloca_r0 x1 x5 fh0 fS14)) = kaV x1 x5 (castW fh0) := fun g =>
      (View.read_writes_eq_canon _ _ _ (View.cover_of_tiled_head _ _ _ rfl)).trans t6
    have e57 : runA.sl.v57 c i arg2 harg2 arg6 harg6 arg18 arg22 arg24 alloca_r0 x1 x5 fh0 fS14 = rows2 i (kaV x1 x5 (castW fh0)) := by
      unfold runA.sl.v57
      rw [View.readAt_eq_ld, w6]
      rfl
    have t7 : View.canon (runA.sl.HS7_1 c arg2 harg2 arg6 harg6 arg18 arg22 alloca_r0 x1 x5 fh0 fS14) = vaV x1 x5 (castW fh0) := by
      unfold runA.sl.HS7_1 runA.sl.v5009 runA.sl.v5024
      simp only [q0, q4, View.readAt_eq_ld, Memref.IsWhole.read_unread, full_h, full_l]
      exact canon_full _ _
    have w7 : ∀ g, arg25.view.read (Elt F) (arg25.view.writes (Elt F) g (runA.sl.HS7_1 c arg2 harg2 arg6 harg6 arg18 arg22 alloca_r0 x1 x5 fh0 fS14)) = vaV x1 x5 (castW fh0) := fun g =>
      (View.read_writes_eq_canon _ _ _ (View.cover_of_tiled_head _ _ _ rfl)).trans t7
    have e59 : runA.sl.v59 c i arg2 harg2 arg6 harg6 arg18 arg22 arg25 alloca_r0 x1 x5 fh0 fS14 = rows2 i (vaV x1 x5 (castW fh0)) := by
      unfold runA.sl.v59
      rw [View.readAt_eq_ld, w7]
      rfl
    have t9 : View.canon (runA.sl.HS9_1 c arg2 harg2 arg6 harg6 arg8 harg8 arg18 arg22 alloca_r0 x1 x5 x7 fh0 fS14) = khV x1 x5 x7 (castW fh0) := by
      unfold runA.sl.HS9_1 runA.sl.r runA.sl.r_1 runA.sl.v5009 runA.sl.v5048
      simp only [q0, q4, View.readAt_eq_ld, Memref.IsWhole.read_unread, full_h, full_l]
      exact canon_full _ _
    have w9 : ∀ g, arg27.view.read (Elt F) (arg27.view.writes (Elt F) g (runA.sl.HS9_1 c arg2 harg2 arg6 harg6 arg8 harg8 arg18 arg22 alloca_r0 x1 x5 x7 fh0 fS14)) = khV x1 x5 x7 (castW fh0) := fun g =>
      (View.read_writes_eq_canon _ _ _ (View.cover_of_tiled_head _ _ _ rfl)).trans t9
    have e63 : runA.sl.v63 c i arg2 harg2 arg6 harg6 arg8 harg8 arg18 arg22 arg27 alloca_r0 x1 x5 x7 fh0 fS14 = rows1 i (khV x1 x5 x7 (castW fh0)) := by
      unfold runA.sl.v63
      rw [View.readAt_eq_ld, w9]
      rfl
    have t10 : View.canon (runA.sl.HS10_1 c arg2 harg2 arg6 harg6 arg8 harg8 arg18 arg22 alloca_r0 x1 x5 x7 fh0 fS14) = fhV x1 x5 x7 (castW fh0) := by
      unfold runA.sl.HS10_1 runA.sl.r_2 runA.sl.v5009 runA.sl.v5048
      simp only [q0, q4, View.readAt_eq_ld, Memref.IsWhole.read_unread, full_h, full_l]
      exact canon_full _ _
    have w10 : ∀ g, arg28.view.read (Elt F) (arg28.view.writes (Elt F) g (runA.sl.HS10_1 c arg2 harg2 arg6 harg6 arg8 harg8 arg18 arg22 alloca_r0 x1 x5 x7 fh0 fS14)) = fhV x1 x5 x7 (castW fh0) := fun g =>
      (View.read_writes_eq_canon _ _ _ (View.cover_of_tiled_head _ _ _ rfl)).trans t10
    have e61 : runA.sl.v61 c i arg2 harg2 arg6 harg6 arg8 harg8 arg18 arg22 arg28 alloca_r0 x1 x5 x7 fh0 fS14 = rows1 i (fhV x1 x5 x7 (castW fh0)) := by
      unfold runA.sl.v61
      rw [View.readAt_eq_ld, w10]
      rfl
    have t11 : View.canon (runA.sl.HS11_1 c arg2 harg2 arg6 harg6 arg18 arg22 alloca_r0 x1 x5 fh0 fS14) = vhV x1 x5 (castW fh0) := by
      unfold runA.sl.HS11_1 runA.sl.v5009 runA.sl.v5073
      simp only [q0, q4, View.readAt_eq_ld, Memref.IsWhole.read_unread, full_h, full_l]
      exact canon_full _ _
    have w11 : ∀ g, arg29.view.read (Elt F) (arg29.view.writes (Elt F) g (runA.sl.HS11_1 c arg2 harg2 arg6 harg6 arg18 arg22 alloca_r0 x1 x5 fh0 fS14)) = vhV x1 x5 (castW fh0) := fun g =>
      (View.read_writes_eq_canon _ _ _ (View.cover_of_tiled_head _ _ _ rfl)).trans t11
    have e67 : runA.sl.v67 c i arg2 harg2 arg6 harg6 arg18 arg22 arg29 alloca_r0 x1 x5 fh0 fS14 = rows1 i (vhV x1 x5 (castW fh0)) := by
      unfold runA.sl.v67
      rw [View.readAt_eq_ld, w11]
      rfl
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexists _; isplitr; swap; · iexact H9
      ipureintro; rfl
    isplitl [H10]
    · iexists _; isplitr; swap; · iexact H10
      ipureintro
      refine Eq.trans ?_ (winRunA harg3 i x2 e57 arg15.view f10)
      rfl
    isplitl [H11]
    · iexists _; isplitr; swap; · iexact H11
      ipureintro
      refine Eq.trans ?_ (winRunA harg4 i x3 e59 arg16.view f11)
      rfl
    isplitl [H12]
    · iexists _; isplitr; swap; · iexact H12
      ipureintro
      refine Eq.trans ?_ (stRunA harg5 i x4 e61 e63 e67 arg17.view f12)
      rfl
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    isplitl [HS3]
    · iexists _; iexists _; isplitr; swap; · iexact HS3
      ipureintro; rfl
    isplitl [HS4]
    · iexists _; iexists _; isplitr; swap; · iexact HS4
      ipureintro; rfl
    isplitl [HS5]
    · iexists _; iexists _; isplitr; swap; · iexact HS5
      ipureintro; rfl
    isplitl [HS6]
    · iexists _; isplitr; swap; · iexact HS6
      ipureintro
      exact w6 _
    isplitl [HS7]
    · iexists _; isplitr; swap; · iexact HS7
      ipureintro
      exact w7 _
    isplitl [HS8]
    · iexists _; iexists _; isplitr; swap; · iexact HS8
      ipureintro; rfl
    isplitl [HS9]
    · iexists _; isplitr; swap; · iexact HS9
      ipureintro
      exact w9 _
    isplitl [HS10]
    · iexists _; isplitr; swap; · iexact HS10
      ipureintro
      exact w10 _
    isplitl [HS11]
    · iexists _; isplitr; swap; · iexact HS11
      ipureintro
      exact w11 _
    isplitl [HS12]
    · iexists _; iexists _; isplitr; swap; · iexact HS12
      ipureintro; rfl
    isplitl [HS13]
    · iexists _; iexists _; isplitr; swap; · iexact HS13
      ipureintro; rfl
    isplitl [HS14]
    · iexists _; iexists _; isplitr; swap; · iexact HS14
      ipureintro; rfl
    isplitl [HS15]
    · iexists _; iexists _; isplitr; swap; · iexact HS15
      ipureintro; rfl
    isplitl [HS16]
    · iexists _; iexists _; isplitr; swap; · iexact HS16
      ipureintro; rfl
    isplitl [HS17]
    · iexists _; iexists _; isplitr; swap; · iexact HS17
      ipureintro; rfl
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    isplitl [Hh0]
    · iexact Hh0
    isplitl [Hh1]
    · iexact Hh1
    isplitl [Hh2]
    · iexact Hh2
    isplitl [Hh3]
    · iexact Hh3
    iexists _; iexact HW

end Cert.Kernel.Mix

end
-- ==== Proof.Mix.Run.lean ====
module

public import proofs.«01_k».proof.Proof.Mix.RunA
public import Idealize.ShloMosaic.Lib.Claim

@[expose] public section

set_option maxRecDepth 16384

noncomputable section

namespace Cert.Kernel.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first point, whose blocks of the activations and of the gains are every point's. -/
def t0 : Fin cfg0.N := ⟨0, by rw [show cfg0.N = 8 from N_0]; decide⟩

/-- What the first point leaves in the scratch of all the sequences: their new keys, -/
def ka (c : Dev nD) : Vec F S128x128 .f32 := kaV (iblk m c 1 t0) (iblk m c 5 t0) (castW (V m c main_v9))
/-- values, -/
def va (c : Dev nD) : Vec F S128x128 .f32 := vaV (iblk m c 1 t0) (iblk m c 5 t0) (castW (V m c main_v9))
/-- and of the recurrence the keys, -/
def kh (c : Dev nD) : Vec F S128x512 .f32 := khV (iblk m c 1 t0) (iblk m c 5 t0) (iblk m c 7 t0) (castW (V m c main_v9))
/-- the forget gates -/
def fh (c : Dev nD) : Vec F S128x512 .f32 := fhV (iblk m c 1 t0) (iblk m c 5 t0) (iblk m c 7 t0) (castW (V m c main_v9))
/-- and the values. -/
def vh (c : Dev nD) : Vec F S128x512 .f32 := vhV (iblk m c 1 t0) (iblk m c 5 t0) (castW (V m c main_v9))

/-- The scratch that holds them: anything before the first point, those after it. -/
def held (c : Dev nD) : ℕ → sProp 𝕄
  | 0 => iprop((∃ d, owns (c : Thread nD τ) scM0_6 fullShare d) ∗ (∃ d, owns (c : Thread nD τ) scM0_7 fullShare d) ∗ (∃ d, owns (c : Thread nD τ) scM0_9 fullShare d) ∗ (∃ d, owns (c : Thread nD τ) scM0_10 fullShare d) ∗ (∃ d, owns (c : Thread nD τ) scM0_11 fullShare d))
  | _ + 1 => iprop(owns (c : Thread nD τ) scM0_6 fullShare (ka m c) ∗ owns (c : Thread nD τ) scM0_7 fullShare (va m c) ∗ owns (c : Thread nD τ) scM0_9 fullShare (kh m c) ∗ owns (c : Thread nD τ) scM0_10 fullShare (fh m c) ∗ owns (c : Thread nD τ) scM0_11 fullShare (vh m c))

theorem held_zero (c : Dev nD) : held m c 0 = iprop((∃ d, owns (c : Thread nD τ) scM0_6 fullShare d) ∗ (∃ d, owns (c : Thread nD τ) scM0_7 fullShare d) ∗ (∃ d, owns (c : Thread nD τ) scM0_9 fullShare d) ∗ (∃ d, owns (c : Thread nD τ) scM0_10 fullShare d) ∗ (∃ d, owns (c : Thread nD τ) scM0_11 fullShare d)) := rfl
theorem held_succ (c : Dev nD) (k : ℕ) : held m c (k + 1) = iprop(owns (c : Thread nD τ) scM0_6 fullShare (ka m c) ∗ owns (c : Thread nD τ) scM0_7 fullShare (va m c) ∗ owns (c : Thread nD τ) scM0_9 fullShare (kh m c) ∗ owns (c : Thread nD τ) scM0_10 fullShare (fh m c) ∗ owns (c : Thread nD τ) scM0_11 fullShare (vh m c)) := rfl

/-- What the body carries beside it: the other scratch, the generator's register, its copies' counters at zero and the
    four matrices in HBM. -/
def rest (c : Dev nD) : sProp 𝕄 :=
  iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_8 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ r, prngReg c r) ∗ iprop(semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0)
    ∗ iprop(hbPt0 c hbM0_0 (V m c main_v9) ∗ hbPt0 c hbM0_1 (V m c main_v10) ∗ hbPt0 c hbM0_2 (V m c main_v11) ∗ hbPt0 c hbM0_3 (V m c main_v12)))

/-- What the body leaves at point `t`: the tile's key windows, -/
def outK (c : Dev nD) (t : Fin cfg0.N) : Vec F S16x128x128 .f32 := winT (rows2 (grid0.coords t) (ka m c)) (iblk m c 2 t)
/-- its value windows -/
def outV (c : Dev nD) (t : Fin cfg0.N) : Vec F S16x128x128 .f32 := winT (rows2 (grid0.coords t) (va m c)) (iblk m c 3 t)
/-- and its states. -/
def outS (c : Dev nD) (t : Fin cfg0.N) : Vec F S16x512x128 .f32 :=
  stT (rows1 (grid0.coords t) (fh m c)) (rows1 (grid0.coords t) (kh m c)) (rows1 (grid0.coords t) (vh m c)) (iblk m c 4 t)

/-- The window of the mixer's output, of which nothing is said. -/
def forgets0 : Fin 13 → Bool := fun w => w.val == 9

/-- The call's proof data: the arrays as it finds them, each input's block left in place, three of the results named. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, _⟩ => outK m c t
    | ⟨11, _⟩ => outV m c t
    | ⟨12, _⟩ => outS m c t
  Φ t := iprop(held m c t.val ∗ rest m c)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_10 (c : Dev nD) (t : Fin cfg0.N) : (dats m 0 c).after 10 t = outK m c t := by dsimp only [dats]
theorem after_11 (c : Dev nD) (t : Fin cfg0.N) : (dats m 0 c).after 11 t = outV m c t := by dsimp only [dats]
theorem after_12 (c : Dev nD) (t : Fin cfg0.N) : (dats m 0 c).after 12 t = outS m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem leaves_0 (c : Dev nD) (t : Fin cfg0.N) :
    (dats m 0 c).leavesExact 0 t = owns (c : Thread nD τ) (ms0_0 t) fullShare (iblk m c 0 t) := by
  unfold Dat.leavesExact; rw [liveAt0_0 t, after_0]
theorem leaves_1 (c : Dev nD) (t : Fin cfg0.N) :
    (dats m 0 c).leavesExact 1 t = owns (c : Thread nD τ) (ms0_1 t) fullShare (iblk m c 1 t) := by
  unfold Dat.leavesExact; rw [liveAt0_1 t, after_1]
theorem leaves_2 (c : Dev nD) (t : Fin cfg0.N) :
    (dats m 0 c).leavesExact 2 t = owns (c : Thread nD τ) (ms0_2 t) fullShare (iblk m c 2 t) := by
  unfold Dat.leavesExact; rw [liveAt0_2 t, after_2]
theorem leaves_3 (c : Dev nD) (t : Fin cfg0.N) :
    (dats m 0 c).leavesExact 3 t = owns (c : Thread nD τ) (ms0_3 t) fullShare (iblk m c 3 t) := by
  unfold Dat.leavesExact; rw [liveAt0_3 t, after_3]
theorem leaves_4 (c : Dev nD) (t : Fin cfg0.N) :
    (dats m 0 c).leavesExact 4 t = owns (c : Thread nD τ) (ms0_4 t) fullShare (iblk m c 4 t) := by
  unfold Dat.leavesExact; rw [liveAt0_4 t, after_4]
theorem leaves_5 (c : Dev nD) (t : Fin cfg0.N) :
    (dats m 0 c).leavesExact 5 t = owns (c : Thread nD τ) (ms0_5 t) fullShare (iblk m c 5 t) := by
  unfold Dat.leavesExact; rw [liveAt0_5 t, after_5]
theorem leaves_6 (c : Dev nD) (t : Fin cfg0.N) :
    (dats m 0 c).leavesExact 6 t = owns (c : Thread nD τ) (ms0_6 t) fullShare (iblk m c 6 t) := by
  unfold Dat.leavesExact; rw [liveAt0_6 t, after_6]
theorem leaves_7 (c : Dev nD) (t : Fin cfg0.N) :
    (dats m 0 c).leavesExact 7 t = owns (c : Thread nD τ) (ms0_7 t) fullShare (iblk m c 7 t) := by
  unfold Dat.leavesExact; rw [liveAt0_7 t, after_7]
theorem leaves_8 (c : Dev nD) (t : Fin cfg0.N) :
    (dats m 0 c).leavesExact 8 t = owns (c : Thread nD τ) (ms0_8 t) fullShare (iblk m c 8 t) := by
  unfold Dat.leavesExact; rw [liveAt0_8 t, after_8]
theorem leaves_10 (c : Dev nD) (t : Fin cfg0.N) :
    (dats m 0 c).leavesExact 10 t = owns (c : Thread nD τ) (ms0_10 t) fullShare (outK m c t) := by
  unfold Dat.leavesExact; rw [show cfg0.idle 10 (grid0.coords t) = false from rfl, after_10]
theorem leaves_11 (c : Dev nD) (t : Fin cfg0.N) :
    (dats m 0 c).leavesExact 11 t = owns (c : Thread nD τ) (ms0_11 t) fullShare (outV m c t) := by
  unfold Dat.leavesExact; rw [show cfg0.idle 11 (grid0.coords t) = false from rfl, after_11]
theorem leaves_12 (c : Dev nD) (t : Fin cfg0.N) :
    (dats m 0 c).leavesExact 12 t = owns (c : Thread nD τ) (ms0_12 t) fullShare (outS m c t) := by
  unfold Dat.leavesExact; rw [show cfg0.idle 12 (grid0.coords t) = false from rfl, after_12]

theorem Phi_castSucc (c : Dev nD) (t : Fin cfg0.N) : (dats m 0 c).Φ t.castSucc = iprop(held m c t.val ∗ rest m c) := rfl
theorem Phi_succ (c : Dev nD) (t : Fin cfg0.N) : (dats m 0 c).Φ t.succ = iprop(held m c (t.val + 1) ∗ rest m c) := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (dats m 0 c).leavesExact 10 t
    ∗ (dats m 0 c).leavesExact 11 t
    ∗ (dats m 0 c).leavesExact 12 t)

/-- The activations, the gains and the bounds are the same block at every point. -/
theorem iblk1 (c : Dev nD) (t : Fin cfg0.N) : iblk m c 1 t = iblk m c 1 t0 := rfl
theorem iblk5 (c : Dev nD) (t : Fin cfg0.N) : iblk m c 5 t = iblk m c 5 t0 := rfl
theorem iblk7 (c : Dev nD) (t : Fin cfg0.N) : iblk m c 7 t = iblk m c 7 t0 := rfl

set_option maxHeartbeats 3600000 in
/-- The body at the first point. -/
theorem bodyA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [leaves_0, leaves_1, leaves_2, leaves_3, leaves_4, leaves_5, leaves_6, leaves_7, leaves_8, leaves_10, leaves_11, leaves_12, Phi_castSucc, Phi_succ]
  unfold Dat.owesAt Pipeline.owesWithin
  rw [show (dats m 0 c).owed t.castSucc = 0 from rfl, show (dats m 0 c).owed t.succ = 0 from rfl]
  rw [show t.val = 0 from h0, held_zero, held_succ]; unfold rest outK outV outS ka va kh fh vh
  rw [iblk1 m c t, iblk5 m c t, iblk7 m c t]
  iintro ⟨⟨⟨HS6, HS7, HS9, HS10, HS11⟩, HS0, HS1, HS2, HS3, HS4, HS5, HS8, HS12, HS13, HS14, HS15, HS16, HS17, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr (by omega)) (fun h => by have := (hcond0_1 t).mp h; omega) (iblk m c 0 t) (iblk m c 1 t0) (iblk m c 2 t) (iblk m c 3 t) (iblk m c 4 t) (iblk m c 5 t0) (iblk m c 6 t) (iblk m c 7 t0) (iblk m c 8 t) (V m c main_v9) (V m c main_v10) (V m c main_v11) (V m c main_v12)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, HS0, HS1, HS2, HS3, HS4, HS5, HS6, HS7, HS8, HS9, HS10, HS11, HS12, HS13, HS14, HS15, HS16, HS17, Hq0, Hq1, Hq2, Hq3, Hq4, Hq5, Hq6, Hq7, Hh0, Hh1, Hh2, Hh3, ⟨%W', HW'⟩⟩
  isplitl [HS6 HS7 HS9 HS10 HS11 HS0 HS1 HS2 HS3 HS4 HS5 HS8 HS12 HS13 HS14 HS15 HS16 HS17 Hg Hq0 Hq1 Hq2 Hq3 Hq4 Hq5 Hq6 Hq7 Hh0 Hh1 Hh2 Hh3]
  · isplitl [HS6 HS7 HS9 HS10 HS11]
    · isplitl [HS6]; · iexact HS6
      isplitl [HS7]; · iexact HS7
      isplitl [HS9]; · iexact HS9
      isplitl [HS10]; · iexact HS10
      iexact HS11
    isplitl [HS0]; · iexact HS0
    isplitl [HS1]; · iexact HS1
    isplitl [HS2]; · iexact HS2
    isplitl [HS3]; · iexact HS3
    isplitl [HS4]; · iexact HS4
    isplitl [HS5]; · iexact HS5
    isplitl [HS8]; · iexact HS8
    isplitl [HS12]; · iexact HS12
    isplitl [HS13]; · iexact HS13
    isplitl [HS14]; · iexact HS14
    isplitl [HS15]; · iexact HS15
    isplitl [HS16]; · iexact HS16
    isplitl [HS17]; · iexact HS17
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact H12

set_option maxHeartbeats 3600000 in
/-- The body at a point between. -/
theorem bodyB (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [leaves_0, leaves_1, leaves_2, leaves_3, leaves_4, leaves_5, leaves_6, leaves_7, leaves_8, leaves_10, leaves_11, leaves_12, Phi_castSucc, Phi_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [hk, held_succ, held_succ]; unfold rest outK outV outS
  iintro ⟨⟨⟨HS6, HS7, HS9, HS10, HS11⟩, HS0, HS1, HS2, HS3, HS4, HS5, HS8, HS12, HS13, HS14, HS15, HS16, HS17, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 2 t) (iblk m c 3 t) (iblk m c 4 t) (iblk m c 8 t) (ka m c) (va m c) (kh m c) (fh m c) (vh m c)) W _)
  isplitl [H0]; · iexact H0
  isplitl [H2]; · iexact H2
  isplitl [H3]; · iexact H3
  isplitl [H4]; · iexact H4
  isplitl [H8]; · iexact H8
  isplitl [H10]; · iexists _; iexact H10
  isplitl [H11]; · iexists _; iexact H11
  isplitl [H12]; · iexists _; iexact H12
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HW]; · iexact HW
  iintro ⟨H0, H2, H3, H4, H8, H10, H11, H12, HS5, HS6, HS7, HS8, HS9, HS10, HS11, HS12, HS13, ⟨%W', HW'⟩⟩
  isplitl [HS6 HS7 HS9 HS10 HS11 HS0 HS1 HS2 HS3 HS4 HS5 HS8 HS12 HS13 HS14 HS15 HS16 HS17 Hg Hq0 Hq1 Hq2 Hq3 Hq4 Hq5 Hq6 Hq7 Hh0 Hh1 Hh2 Hh3]
  · isplitl [HS6 HS7 HS9 HS10 HS11]
    · isplitl [HS6]; · iexact HS6
      isplitl [HS7]; · iexact HS7
      isplitl [HS9]; · iexact HS9
      isplitl [HS10]; · iexact HS10
      iexact HS11
    isplitl [HS0]; · iexact HS0
    isplitl [HS1]; · iexact HS1
    isplitl [HS2]; · iexact HS2
    isplitl [HS3]; · iexact HS3
    isplitl [HS4]; · iexact HS4
    isplitl [HS5]; · iexact HS5
    isplitl [HS8]; · iexact HS8
    isplitl [HS12]; · iexact HS12
    isplitl [HS13]; · iexact HS13
    isplitl [HS14]; · iexact HS14
    isplitl [HS15]; · iexact HS15
    isplitl [HS16]; · iexact HS16
    isplitl [HS17]; · iexact HS17
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexists _; iexact H9
  isplitl [H10]
  · iexact H10
  isplitl [H11]
  · iexact H11
  iexact H12

set_option maxHeartbeats 3600000 in
/-- The body at the last point. -/
theorem bodyC (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [leaves_0, leaves_1, leaves_2, leaves_3, leaves_4, leaves_5, leaves_6, leaves_7, leaves_8, leaves_10, leaves_11, leaves_12, Phi_castSucc, Phi_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [hk, held_succ, held_succ]; unfold rest outK outV outS
  iintro ⟨⟨⟨HS6, HS7, HS9, HS10, HS11⟩, HS0, HS1, HS2, HS3, HS4, HS5, HS8, HS12, HS13, HS14, HS15, HS16, HS17, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 6 t) (iblk m c 8 t) (ka m c) (va m c) (kh m c) (fh m c) (vh m c)) W _)
  isplitl [H0]; · iexact H0
  isplitl [H1]; · iexact H1
  isplitl [H2]; · iexact H2
  isplitl [H3]; · iexact H3
  isplitl [H4]; · iexact H4
  isplitl [H6]; · iexact H6
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HW]; · iexact HW
  iintro ⟨H0, H1, H2, H3, H4, H6, H8, H9, H10, H11, H12, HS0, HS1, HS2, HS3, HS4, HS5, HS6, HS7, HS8, HS9, HS10, HS11, HS12, HS13, ⟨%W', HW'⟩⟩
  isplitl [HS6 HS7 HS9 HS10 HS11 HS0 HS1 HS2 HS3 HS4 HS5 HS8 HS12 HS13 HS14 HS15 HS16 HS17 Hg Hq0 Hq1 Hq2 Hq3 Hq4 Hq5 Hq6 Hq7 Hh0 Hh1 Hh2 Hh3]
  · isplitl [HS6 HS7 HS9 HS10 HS11]
    · isplitl [HS6]; · iexact HS6
      isplitl [HS7]; · iexact HS7
      isplitl [HS9]; · iexact HS9
      isplitl [HS10]; · iexact HS10
      iexact HS11
    isplitl [HS0]; · iexact HS0
    isplitl [HS1]; · iexact HS1
    isplitl [HS2]; · iexact HS2
    isplitl [HS3]; · iexact HS3
    isplitl [HS4]; · iexact HS4
    isplitl [HS5]; · iexact HS5
    isplitl [HS8]; · iexact HS8
    isplitl [HS12]; · iexact HS12
    isplitl [HS13]; · iexact HS13
    isplitl [HS14]; · iexact HS14
    isplitl [HS15]; · iexact HS15
    isplitl [HS16]; · iexact HS16
    isplitl [HS17]; · iexact HS17
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val = 0
  · exact bodyA m c t h0
  · by_cases h1 : t.val % 8 = 7
    · exact bodyC m c t (by omega) h1
    · exact bodyB m c t (by omega) h1

theorem row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ forgets0 := fun t => by
  rw [bigSep_W0, bigSep_W0, row]
  exact triple_restated (sound_body m c t) rfl .rfl fun _ => .rfl

theorem enter (c : Dev nD) : Pipeline.ΦD osem0 spec0 H0 (V m) c ⊢ (dats m 0 c).Φ 0 := by
  rw [PhiD0_eq, show (dats m 0 c).Φ 0 = iprop(held m c 0 ∗ rest m c) from rfl]
  unfold held rest
  iintro ⟨⟨HS0, HS1, HS2, HS3, HS4, HS5, HS6, HS7, HS8, HS9, HS10, HS11, HS12, HS13, HS14, HS15, HS16, HS17⟩, Hr⟩
  isplitl [HS6 HS7 HS9 HS10 HS11]
  · isplitl [HS6]; · iexact HS6
    isplitl [HS7]; · iexact HS7
    isplitl [HS9]; · iexact HS9
    isplitl [HS10]; · iexact HS10
    iexact HS11
  isplitl [HS0]; · iexact HS0
  isplitl [HS1]; · iexact HS1
  isplitl [HS2]; · iexact HS2
  isplitl [HS3]; · iexact HS3
  isplitl [HS4]; · iexact HS4
  isplitl [HS5]; · iexact HS5
  isplitl [HS8]; · iexact HS8
  isplitl [HS12]; · iexact HS12
  isplitl [HS13]; · iexact HS13
  isplitl [HS14]; · iexact HS14
  isplitl [HS15]; · iexact HS15
  isplitl [HS16]; · iexact HS16
  isplitl [HS17]; · iexact HS17
  iexact Hr

theorem leave (c : Dev nD) : (dats m 0 c).Φ (Fin.last cfg0.N) ⊢ Pipeline.ΦD osem0 spec0 H0 (V m) c := by
  rw [PhiD0_eq, show (dats m 0 c).Φ (Fin.last cfg0.N) = iprop(held m c (7 + 1) ∗ rest m c) from rfl]
  unfold held rest
  iintro ⟨⟨HS6, HS7, HS9, HS10, HS11⟩, HS0, HS1, HS2, HS3, HS4, HS5, HS8, HS12, HS13, HS14, HS15, HS16, HS17, Hr⟩
  isplitl [HS0 HS1 HS2 HS3 HS4 HS5 HS6 HS7 HS8 HS9 HS10 HS11 HS12 HS13 HS14 HS15 HS16 HS17]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexists _; iexact HS6
    isplitl [HS7]; · iexists _; iexact HS7
    isplitl [HS8]; · iexact HS8
    isplitl [HS9]; · iexists _; iexact HS9
    isplitl [HS10]; · iexists _; iexact HS10
    isplitl [HS11]; · iexists _; iexact HS11
    isplitl [HS12]; · iexact HS12
    isplitl [HS13]; · iexact HS13
    isplitl [HS14]; · iexact HS14
    isplitl [HS15]; · iexact HS15
    isplitl [HS16]; · iexact HS16
    iexact HS17
  iexact Hr

set_option backward.isDefEq.respectTransparency.types false in
/-- THE RUN, over any element interpretation: every weakly fair execution of @main ends with each array of the call that is named at
    what the proof data names, every other argument as it was, and every counter at zero. -/
theorem run : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := enter m) (hout := leave m)

end Cert.Kernel.Mix

end
-- ==== Proof.Ffn.Pay.lean ====
module

public import proofs.«01_k».proof.Proof.Ffn.Kit

@[expose] public section

set_option maxRecDepth 16384

namespace Cert.Kernel2.Ffn

open Idealize.ShloMosaic Idealize.ShloMosaic.TcCoe
open Cert.Kernel2 Cert.Kernel2.Gen

variable {F : FTy → Type} [FloatOps F]

/-- The gate and up matrices as the scratch holds them: rounded to bfloat16, element by element. -/
noncomputable def castW (f : Vec F S1024x2816 .f32) : Vec F S1024x2816 .bf16 := truncf .bf16 f bitsLt_bf16_f32
/-- The down matrix, likewise. -/
noncomputable def castD (f : Vec F S2816x1024 .f32) : Vec F S2816x1024 .bf16 := truncf .bf16 f bitsLt_bf16_f32

theorem inbW (k : Fin 11) : ∀ a : Fin 2, (![0, 256 * k.val] : Fin 2 → ℕ) a + (![1024, 256] : Fin 2 → ℕ) a ≤ S1024x2816.size a :=
  Fin.forall_fin_two.mpr ⟨by show 0 + 1024 ≤ 1024; omega, by show 256 * k.val + 256 ≤ 2816; omega⟩
theorem inbD (k : Fin 11) : ∀ a : Fin 2, (![256 * k.val, 0] : Fin 2 → ℕ) a + (![256, 1024] : Fin 2 → ℕ) a ≤ S2816x1024.size a :=
  Fin.forall_fin_two.mpr ⟨by show 256 * k.val + 256 ≤ 2816; omega, by show 0 + 1024 ≤ 1024; omega⟩

/-- The `k`-th 256 columns of a gate or up matrix, -/
def colW (W : Vec F S1024x2816 .bf16) (k : Fin 11) : Vec F S1024x256 .bf16 :=
  View.ld W (Rect.unit (s := S1024x2816) ![0, 256 * k.val] S1024x256.size (inbW k))
/-- and the `k`-th 256 rows of a down matrix. -/
def rowD (W : Vec F S2816x1024 .bf16) (k : Fin 11) : Vec F S256x1024 .bf16 :=
  View.ld W (Rect.unit (s := S2816x1024) ![256 * k.val, 0] S256x1024.size (inbD k))

theorem full_of {M N : ℕ} (x : Vec F ⟨2, ![M, N]⟩ .f32) (h : ∀ a, (![0, 0] : Fin 2 → ℕ) a + (![M, N] : Fin 2 → ℕ) a ≤ (⟨2, ![M, N]⟩ : Shape).size a) :
    View.ld x (Rect.unit (s := ⟨2, ![M, N]⟩) ![0, 0] ![M, N] h) = x :=
  funext fun y => congrArg x (funext (Fin.forall_fin_two.mpr
    ⟨Fin.ext (by show 0 + 1 * (y 0).val = (y 0).val; omega), Fin.ext (by show 0 + 1 * (y 1).val = (y 1).val; omega)⟩))

/-- A load of a whole tile, of the whole samples, and of a whole row of gains is what they hold. -/
theorem full_x (x : Vec F S1024x1024 .f32) : View.ld x (Rect.unit ![0, 0] ![1024, 1024] inb_S1024x1024_S1024x1024_0_0) = x := full_of x _
@[inherit_doc full_x]
theorem full_s (x : Vec F S128x1024 .f32) : View.ld x (Rect.unit ![0, 0] ![128, 1024] inb_S128x1024_S128x1024_0_0) = x := full_of x _
@[inherit_doc full_x]
theorem full_g (x : Vec F S1x1024 .f32) : View.ld x (Rect.unit ![0, 0] ![1, 1024] inb_S1x1024_S1x1024_0_0) = x := full_of x _

/-- What the body stores of a tile of the prompt's rows, from the tile, the two norms' gains and the weights:
    eleven chunks of 256 hidden columns, one after the other. -/
noncomputable def ffnP (x : Vec F S1024x1024 .f32) (pre post : Vec F S1x1024 .f32)
    (W0 W1 : Vec F S1024x2816 .bf16) (W2 : Vec F S2816x1024 .bf16) : FVec F S1024x1024 .f32 :=
  have v25 : FVec F S1024x1024 .bf16 := k0_pay28 x pre
  have v35 : FVec F S1024x1024 .f32 := k0_pay29 x pre (colW W0 0) (colW W1 0) (rowD W2 0)
  have v43 : FVec F S1024x256 .bf16 := k0_pay30 x pre (colW W0 1) (colW W1 1)
  have v68 : FVec F S1024x1024 .f32 := k0_pay31 v25 v35 v43 (rowD W2 1) (colW W0 2) (colW W1 2) (rowD W2 2) (colW W0 3) (colW W1 3) (rowD W2 3)
  have v76 : FVec F S1024x256 .bf16 := k0_pay32 v25 (colW W0 4) (colW W1 4)
  have v101 : FVec F S1024x1024 .f32 := k0_pay33 v25 v68 v76 (rowD W2 4) (colW W0 5) (colW W1 5) (rowD W2 5) (colW W0 6) (colW W1 6) (rowD W2 6)
  have v109 : FVec F S1024x256 .bf16 := k0_pay34 v25 (colW W0 7) (colW W1 7)
  have v134 : FVec F S1024x1024 .f32 := k0_pay35 v25 v101 v109 (rowD W2 7) (colW W0 8) (colW W1 8) (rowD W2 8) (colW W0 9) (colW W1 9) (rowD W2 9)
  have v142 : FVec F S1024x256 .bf16 := k0_pay36 v25 (colW W0 10) (colW W1 10)
  k0_pay2 (k0_pay27 x) post v134 v142 (rowD W2 10)

/-- What it stores of the samples' rows. -/
noncomputable def ffnS (x : Vec F S128x1024 .f32) (pre post : Vec F S1x1024 .f32)
    (W0 W1 : Vec F S1024x2816 .bf16) (W2 : Vec F S2816x1024 .bf16) : FVec F S128x1x1024 .f32 :=
  have v25 : FVec F S128x1024 .bf16 := k0_pay38 x pre
  have v35 : FVec F S128x1024 .f32 := k0_pay39 x pre (colW W0 0) (colW W1 0) (rowD W2 0)
  have v43 : FVec F S128x256 .bf16 := k0_pay40 x pre (colW W0 1) (colW W1 1)
  have v68 : FVec F S128x1024 .f32 := k0_pay41 v25 v35 v43 (rowD W2 1) (colW W0 2) (colW W1 2) (rowD W2 2) (colW W0 3) (colW W1 3) (rowD W2 3)
  have v76 : FVec F S128x256 .bf16 := k0_pay42 v25 (colW W0 4) (colW W1 4)
  have v101 : FVec F S128x1024 .f32 := k0_pay43 v25 v68 v76 (rowD W2 4) (colW W0 5) (colW W1 5) (rowD W2 5) (colW W0 6) (colW W1 6) (rowD W2 6)
  have v109 : FVec F S128x256 .bf16 := k0_pay44 v25 (colW W0 7) (colW W1 7)
  have v134 : FVec F S128x1024 .f32 := k0_pay45 v25 v101 v109 (rowD W2 7) (colW W0 8) (colW W1 8) (rowD W2 8) (colW W0 9) (colW W1 9) (rowD W2 9)
  have v142 : FVec F S128x256 .bf16 := k0_pay46 v25 (colW W0 10) (colW W1 10)
  k0_pay3 (k0_pay37 x) post v134 v142 (rowD W2 10)

end Cert.Kernel2.Ffn

end
-- ==== Proof.Ffn.Math.lean ====
module

public import proofs.«01_k».proof.Proof.Ffn.Pay
public import Idealize.ShloMosaic.Lib.Pointwise

@[expose] public section

set_option maxRecDepth 16384

noncomputable section

namespace Cert.Kernel2.Ffn

open Idealize.ShloMosaic Idealize.ShloMosaic.TcCoe
open Cert.Kernel2 Cert.Kernel2.Gen

/-- The root-mean-square norm of a row of 1024 numbers, with a gain for each. -/
def rmsR (x g : Fin 1024 → EReal) (j : Fin 1024) : EReal :=
  x j * Ideal.rsqrt (Ideal.div (∑ k, x k * x k) (Ideal.ofBits .f32 0x44800000#32) + Ideal.ofBits .f32 0x358637BD#32) * g j

/-- A hidden unit: the gate's product through `silu`, times the up product. -/
def hidR {n : ℕ} (h : Fin 1024 → EReal) (g u : Fin 1024 → Fin n → EReal) (i : Fin n) : EReal :=
  (∑ k, h k * g k i) * Ideal.logistic (∑ k, h k * g k i) * ∑ k, h k * u k i

/-- The half feed-forward block of one row: norm, 2816 hidden units, the product down, norm, half of it added to the row. -/
def ffnR (x pre post : Fin 1024 → EReal) (g u : Fin 1024 → Fin 2816 → EReal) (d : Fin 2816 → Fin 1024 → EReal) (j : Fin 1024) : EReal :=
  x j + Ideal.ofBits .f32 0x3F000000#32 * rmsR (fun j => ∑ n, hidR (rmsR x pre) g u n * d n j) post j

theorem colW_at (W : Vec Ideal S1024x2816 .bf16) (k : Fin 11) (a : Fin 1024) (b : Fin 256) :
    colW W k (ix2 a b) = W (ix2 a ⟨k.val * 256 + b.val, by omega⟩) :=
  congrArg W (funext (Fin.forall_fin_two.mpr
    ⟨Fin.ext (by show 0 + 1 * a.val = a.val; omega), Fin.ext (by show 256 * k.val + 1 * b.val = k.val * 256 + b.val; omega)⟩))
theorem rowD_at (W : Vec Ideal S2816x1024 .bf16) (k : Fin 11) (a : Fin 256) (b : Fin 1024) :
    rowD W k (ix2 a b) = W (ix2 ⟨k.val * 256 + a.val, by omega⟩ b) :=
  congrArg W (funext (Fin.forall_fin_two.mpr
    ⟨Fin.ext (by show 256 * k.val + 1 * a.val = k.val * 256 + a.val; omega), Fin.ext (by show 0 + 1 * b.val = b.val; omega)⟩))

/-- One chunk's part of the product down. -/
def partR (h : Fin 1024 → EReal) (g u : Fin 1024 → Fin 2816 → EReal) (d : Fin 2816 → Fin 1024 → EReal) (j : Fin 1024) (k : Fin 11) : EReal :=
  ∑ n : Fin 256, hidR h (fun a b => g a ⟨k.val * 256 + b.val, by omega⟩) (fun a b => u a ⟨k.val * 256 + b.val, by omega⟩) n * d ⟨k.val * 256 + n.val, by omega⟩ j

/-- The eleven chunks' parts are the whole product. -/
theorem parts (h : Fin 1024 → EReal) (g u : Fin 1024 → Fin 2816 → EReal) (d : Fin 2816 → Fin 1024 → EReal) (j : Fin 1024) :
    partR h g u d j 0 + partR h g u d j 1 + partR h g u d j 2 + partR h g u d j 3 + partR h g u d j 4 + partR h g u d j 5
      + partR h g u d j 6 + partR h g u d j 7 + partR h g u d j 8 + partR h g u d j 9 + partR h g u d j 10
    = ∑ n, hidR h g u n * d n j := by
  rw [Fin.sum_univ_tiles 11 256 rfl (fun n => hidR h g u n * d n j)]
  rw [show (∑ k : Fin 11, ∑ t : Fin 256, hidR h g u ⟨k.val * 256 + t.val, by omega⟩ * d ⟨k.val * 256 + t.val, by omega⟩ j) = ∑ k : Fin 11, partR h g u d j k from rfl]
  simp only [Fin.sum_univ_succ, Fin.sum_univ_zero, add_zero, ← add_assoc]
  rfl

section prompt
variable (x : FVec Ideal S1024x1024 .f32) (pre post : FVec Ideal S1x1024 .f32)

theorem normP (r j : Fin 1024) :
    k0_pay28 (F := Ideal) x pre (ix2 r j) = rmsR (fun k => x (ix2 r k)) (fun k => pre (ix2 0 k)) j := by
  pointwise! [k0_pay28, k0_pay27, rmsR]

theorem endP (a : FVec Ideal S1024x1024 .f32) (b : FVec Ideal S1024x256 .bf16) (d : FVec Ideal S256x1024 .bf16) (r j : Fin 1024) :
    k0_pay2 (F := Ideal) (k0_pay27 x) post a b d (ix2 r j)
      = x (ix2 r j) + Ideal.ofBits .f32 0x3F000000#32 * rmsR (fun j => a (ix2 r j) + ∑ n, b (ix2 r n) * d (ix2 n j)) (fun k => post (ix2 0 k)) j := by
  pointwise! [k0_pay2, k0_pay27, rmsR]

variable (W0 W1 : FVec Ideal S1024x2816 .bf16) (W2 : FVec Ideal S2816x1024 .bf16)

/-- A tile's rows, each by itself: the chunked body computes the block of every row. -/
theorem ffnP_at (r j : Fin 1024) :
    ffnP (F := Ideal) x pre post W0 W1 W2 (ix2 r j)
      = ffnR (fun k => x (ix2 r k)) (fun k => pre (ix2 0 k)) (fun k => post (ix2 0 k)) (fun a b => W0 (ix2 a b)) (fun a b => W1 (ix2 a b))
          (fun a b => W2 (ix2 a b)) j := by
  unfold ffnP
  refine (endP x post _ _ _ r j).trans ?_
  unfold ffnR
  refine congrArg (fun y => x (ix2 r j) + Ideal.ofBits .f32 0x3F000000#32 * rmsR y (fun k => post (ix2 0 k)) j) (funext fun j => ?_)
  refine Eq.trans ?_ (parts (rmsR (fun k => x (ix2 r k)) (fun k => pre (ix2 0 k))) (fun a b => W0 (ix2 a b)) (fun a b => W1 (ix2 a b)) (fun a b => W2 (ix2 a b)) j)
  pointwise [k0_pay29, k0_pay30, k0_pay31, k0_pay32, k0_pay33, k0_pay34, k0_pay35, k0_pay36, normP, colW_at, rowD_at]
  rfl

end prompt

section samples
variable (x : FVec Ideal S128x1024 .f32) (pre post : FVec Ideal S1x1024 .f32)

theorem normS (r : Fin 128) (j : Fin 1024) :
    k0_pay38 (F := Ideal) x pre (ix2 r j) = rmsR (fun k => x (ix2 r k)) (fun k => pre (ix2 0 k)) j := by
  pointwise! [k0_pay38, k0_pay37, rmsR]

theorem endS (a : FVec Ideal S128x1024 .f32) (b : FVec Ideal S128x256 .bf16) (d : FVec Ideal S256x1024 .bf16) (r : Fin 128) (j : Fin 1024) :
    k0_pay3 (F := Ideal) (k0_pay37 x) post a b d (ix3 r 0 j)
      = x (ix2 r j) + Ideal.ofBits .f32 0x3F000000#32 * rmsR (fun j => a (ix2 r j) + ∑ n, b (ix2 r n) * d (ix2 n j)) (fun k => post (ix2 0 k)) j := by
  pointwise! [k0_pay3, k0_pay37, rmsR]

variable (W0 W1 : FVec Ideal S1024x2816 .bf16) (W2 : FVec Ideal S2816x1024 .bf16)

/-- The samples' rows, each by itself: the chunked body computes the block of every row. -/
theorem ffnS_at (r : Fin 128) (j : Fin 1024) :
    ffnS (F := Ideal) x pre post W0 W1 W2 (ix3 r 0 j)
      = ffnR (fun k => x (ix2 r k)) (fun k => pre (ix2 0 k)) (fun k => post (ix2 0 k)) (fun a b => W0 (ix2 a b)) (fun a b => W1 (ix2 a b))
          (fun a b => W2 (ix2 a b)) j := by
  unfold ffnS
  refine (endS x post _ _ _ r j).trans ?_
  unfold ffnR
  refine congrArg (fun y => x (ix2 r j) + Ideal.ofBits .f32 0x3F000000#32 * rmsR y (fun k => post (ix2 0 k)) j) (funext fun j => ?_)
  refine Eq.trans ?_ (parts (rmsR (fun k => x (ix2 r k)) (fun k => pre (ix2 0 k))) (fun a b => W0 (ix2 a b)) (fun a b => W1 (ix2 a b)) (fun a b => W2 (ix2 a b)) j)
  pointwise [k0_pay39, k0_pay40, k0_pay41, k0_pay42, k0_pay43, k0_pay44, k0_pay45, k0_pay46, normS, colW_at, rowD_at]
  rfl

end samples

end Cert.Kernel2.Ffn

end
-- ==== Proof.Mix.Math.lean ====
module

public import proofs.«01_k».proof.Proof.Mix.PayA
public import proofs.«01_k».proof.Proof.Ffn.Math
public import Idealize.ShloMosaic.Lib.Pointwise

@[expose] public section

set_option maxRecDepth 16384

noncomputable section

namespace Cert.Kernel.Mix

open Idealize.ShloMosaic Idealize.ShloMosaic.TcCoe
open Cert.Kernel Cert.Kernel.Gen
open Cert.Kernel2.Ffn (rmsR)

/-- One projection of a row: the norm of the row times a column of the matrix. -/
def projR (x g : Fin 1024 → EReal) (w : Fin 1024 → Fin 4864 → EReal) (j : Fin 4864) : EReal := ∑ k, rmsR x g k * w k j

/-- The recurrence's lower bound: the first of two numbers' softmax. -/
def lbR (a b : EReal) : EReal :=
  Ideal.div (Ideal.exp (a - max a b)) (Ideal.exp (a - max a b) + Ideal.exp (b - max a b))

/-- A forget gate, -/
def forgetR (l g : EReal) : EReal := Ideal.exp (Ideal.log (l + (Ideal.ofBits .f32 0x3F800000#32 - l) * Ideal.logistic g))
/-- and a key of the recurrence. -/
def keyR (l g : EReal) : EReal := (Ideal.ofBits .f32 0x3F800000#32 - l) * Ideal.logistic (-g)

section proj
variable (x : FVec Ideal S128x1024 .f32) (pre : FVec Ideal S1x1024 .f32) (l : FVec Ideal S2x512 .f32) (W : FVec Ideal S1024x4864 .bf16)

theorem hV_at (r : Fin 128) (j : Fin 1024) : hV (F := Ideal) x pre (ix2 r j) = rmsR (fun k => x (ix2 r k)) (fun k => pre (ix2 0 k)) j := by
  pointwise! [hV, k0_pay23, rmsR]

theorem colK_at (a : Fin 1024) (b : Fin 128) : colK (F := Ideal) W (ix2 a b) = W (ix2 a ⟨512 + b.val, by omega⟩) :=
  congrArg W (funext (Fin.forall_fin_two.mpr ⟨Fin.ext (by show 0 + 1 * a.val = a.val; omega), Fin.ext (by show 512 + 1 * b.val = 512 + b.val; omega)⟩))
theorem colV_at (a : Fin 1024) (b : Fin 128) : colV (F := Ideal) W (ix2 a b) = W (ix2 a ⟨640 + b.val, by omega⟩) :=
  congrArg W (funext (Fin.forall_fin_two.mpr ⟨Fin.ext (by show 0 + 1 * a.val = a.val; omega), Fin.ext (by show 640 + 1 * b.val = 640 + b.val; omega)⟩))
theorem colF_at (a : Fin 1024) (b : Fin 512) : colF (F := Ideal) W (ix2 a b) = W (ix2 a ⟨1280 + b.val, by omega⟩) :=
  congrArg W (funext (Fin.forall_fin_two.mpr ⟨Fin.ext (by show 0 + 1 * a.val = a.val; omega), Fin.ext (by show 1280 + 1 * b.val = 1280 + b.val; omega)⟩))
theorem colI_at (a : Fin 1024) (b : Fin 512) : colI (F := Ideal) W (ix2 a b) = W (ix2 a ⟨1792 + b.val, by omega⟩) :=
  congrArg W (funext (Fin.forall_fin_two.mpr ⟨Fin.ext (by show 0 + 1 * a.val = a.val; omega), Fin.ext (by show 1792 + 1 * b.val = 1792 + b.val; omega)⟩))

theorem kaV_at (r j : Fin 128) : kaV (F := Ideal) x pre W (ix2 r j)
    = projR (fun k => x (ix2 r k)) (fun k => pre (ix2 0 k)) (fun a b => W (ix2 a b)) ⟨512 + j.val, by omega⟩ := by
  pointwise! [kaV, k0_pay25, hV_at, colK_at, projR]
theorem vaV_at (r j : Fin 128) : vaV (F := Ideal) x pre W (ix2 r j)
    = projR (fun k => x (ix2 r k)) (fun k => pre (ix2 0 k)) (fun a b => W (ix2 a b)) ⟨640 + j.val, by omega⟩ := by
  pointwise! [vaV, k0_pay26, hV_at, colV_at, projR]
theorem vhV_at (r : Fin 128) (j : Fin 512) : vhV (F := Ideal) x pre W (ix2 r j)
    = projR (fun k => x (ix2 r k)) (fun k => pre (ix2 0 k)) (fun a b => W (ix2 a b)) ⟨1792 + j.val, by omega⟩ := by
  pointwise! [vhV, k0_pay35, hV_at, colI_at, projR]
theorem gate_at (r : Fin 128) (j : Fin 512) : k0_pay29 (F := Ideal) (hV x pre) (colF W) (ix2 r j)
    = projR (fun k => x (ix2 r k)) (fun k => pre (ix2 0 k)) (fun a b => W (ix2 a b)) ⟨1280 + j.val, by omega⟩ := by
  pointwise! [k0_pay29, hV_at, colF_at, projR]
theorem lb_at (j : Fin 512) : k0_pay27 (F := Ideal) l (ix2 0 j) = lbR (l (ix2 0 j)) (l (ix2 1 j)) := by
  pointwise! [k0_pay27, lbR]
theorem fhV_at (r : Fin 128) (j : Fin 512) : fhV (F := Ideal) x pre l W (ix2 r j)
    = forgetR (lbR (l (ix2 0 j)) (l (ix2 1 j))) (projR (fun k => x (ix2 r k)) (fun k => pre (ix2 0 k)) (fun a b => W (ix2 a b)) ⟨1280 + j.val, by omega⟩) := by
  pointwise [fhV, k0_pay33, k0_pay30, lb_at, gate_at, forgetR]
theorem khV_at (r : Fin 128) (j : Fin 512) : khV (F := Ideal) x pre l W (ix2 r j)
    = keyR (lbR (l (ix2 0 j)) (l (ix2 1 j))) (projR (fun k => x (ix2 r k)) (fun k => pre (ix2 0 k)) (fun a b => W (ix2 a b)) ⟨1280 + j.val, by omega⟩) := by
  pointwise [khV, k0_pay34, lb_at, gate_at, keyR, zero_sub]
end proj

section tiles

/-- A choice by the equality of two small numbers' words. -/
theorem sel_eq {α : Type} {m n : ℕ} (hm : m < 2 ^ 32) (hn : n < 2 ^ 32) (a b : α) :
    Scalar.select (IntOp.cmpi CmpIPredicate.eq (BitVec.ofNat 32 m) (BitVec.ofNat 32 n)) a b = if m = n then a else b := by
  have e : IntOp.cmpi CmpIPredicate.eq (BitVec.ofNat 32 m) (BitVec.ofNat 32 n) = BitVec.ofBool (decide (BitVec.ofNat 32 m = BitVec.ofNat 32 n)) := rfl
  rw [e, Scalar.select_ofBool]
  have h : BitVec.ofNat 32 m = BitVec.ofNat 32 n ↔ m = n := by
    rw [← BitVec.toNat_inj, BitVec.toNat_ofNat, BitVec.toNat_ofNat, Nat.mod_eq_of_lt hm, Nat.mod_eq_of_lt hn]
  simp only [decide_eq_true_eq, h]

theorem padCols_at (a : FVec Ideal S16x128 .f32) (d : Fin 128) (q : Fin 128) :
    padCols (F := Ideal) a (ix2 d q) = if h : q.val < 16 then a (ix2 ⟨q.val, h⟩ d) else 0 := by
  pointwise [padCols]

theorem winT_at (a : FVec Ideal S16x128 .f32) (C : FVec Ideal S16x128x128 .f32) (k : Fin 16) (d p : Fin 128) :
    winT (F := Ideal) a C (ix3 k d p) = if h : p.val < 127 then C (ix3 k d ⟨p.val + 1, by omega⟩) else a (ix2 k d) := by
  show winP (F := Ideal) a (slabC (F := Ideal) C) k.val k.isLt (ix3 0 d p) = _
  pointwise [winP, winOf, k0_pay37, slabC]
  have hp := p.isLt
  have hk := k.isLt
  rw [sel_eq (by omega) (by norm_num), BitVec.toNat_ofNat, Nat.mod_eq_of_lt (show 127 - k.val < 2 ^ 32 by omega), padCols_at]
  by_cases h : p.val < 127
  · rw [if_neg (by omega), dif_pos h]
    exact congrArg (fun z => C (ix3 k d z)) (Fin.ext (by show (p.val + 128 - 127) % 128 = p.val + 1; omega))
  · have e : (p.val + 128 - (127 - k.val) % 128) % 128 = k.val := by omega
    rw [if_pos (by omega), dif_neg h, dif_pos (by show (p.val + 128 - (127 - k.val) % 128) % 128 < 16; omega)]
    exact congrArg (fun z => a (ix2 z d)) (Fin.ext e)

theorem stT_at (f kh vh : FVec Ideal S16x512 .f32) (S : FVec Ideal S16x512x128 .f32) (k : Fin 16) (r : Fin 512) (v : Fin 128) :
    stT (F := Ideal) f kh vh S (ix3 k r v)
      = f (ix2 k r) * S (ix3 k r v) + kh (ix2 k r) * vh (ix2 k ⟨128 * (r.val / 128) + v.val, by omega⟩) := by
  show stP (F := Ideal) f kh vh (slabS (F := Ideal) S) (r.val / 128) k.val _ _ (ix3 0 ⟨r.val % 128, _⟩ v) = _
  pointwise [stP, slabS, outerOf, headOf, padCols_at]
  have hk := k.isLt
  have er : (⟨128 * (r.val / 128) + r.val % 128, by omega⟩ : Fin 512) = r := Fin.ext (Nat.div_add_mod r.val 128)
  rw [er]
  refine congrArg (fun z => f (ix2 k r) * S (ix3 k r v) + z) ?_
  have h1 : ∀ x : Fin 112, Scalar.select (IntOp.cmpi CmpIPredicate.eq (BitVec.ofNat 32 (16 + x.val)) (BitVec.ofNat 32 k.val)) ((0 : EReal) * 0) 0 = 0 := fun x => by
    rw [mul_zero]; exact Scalar.select_same _ _
  rw [Finset.sum_congr rfl fun x _ => h1 x, Finset.sum_const_zero, add_zero]
  refine (Finset.sum_eq_single k (fun x _ hx => ?_) (fun h => absurd (Finset.mem_univ k) h)).trans ?_
  · rw [sel_eq (by omega) (by omega), if_neg (fun h => hx (Fin.ext h))]
  · rw [sel_eq (by omega) (by omega), if_pos rfl, er]

end tiles

end Cert.Kernel.Mix

end
-- ==== Proof.Mix.Ref.lean ====
module

public import proofs.«01_k».proof.Proof.Mix.Math
public import proofs.«01_k».proof.Proof.Gen.ReferenceIdeal.Run

@[expose] public section

set_option maxRecDepth 16384

noncomputable section

namespace Cert.ReferenceIdeal.Mix

open Idealize.ShloMosaic Idealize.ShloMosaic.TcCoe
open Cert.ReferenceIdeal Cert.ReferenceIdeal.Gen
open Cert.Kernel2.Ffn (rmsR)
open Cert.Kernel.Mix (projR lbR forgetR keyR)

/-- The reference's projections of the samples, all 4864 columns, -/
def projS (x : FVec Ideal S128x1x1024 .f32) (pre : FVec Ideal S1x1024 .f32) (W : FVec Ideal S1x1024x4864 .f32) : FVec Ideal S128x1x4864 .f32 :=
  Host.dotGeneral dot_S128x1x1024_S1024x4864_S128x1x4864_2_0_01_1_n_n none (mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ pre shapeCasts_S1x1024_S1024)))) (shapeCast _ W shapeCasts_S1x1024x4864_S1024x4864)

/-- its softmax of the bounds' logits over the two layers, -/
def softL (l : FVec Ideal S2x512 .f32) : FVec Ideal S2x512 .f32 :=
  Host.divf (Host.exp (subf l (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf l (constant S_ .f32 0xFF800000#32) reducesTo_S2x512_S512_d0 h_S_)))))) (broadcastInDim S2x512 ![0, 1] bcast_S1x512_S2x512_0_1 (broadcastInDim S1x512 ![1] bcast_S512_S1x512_1 (Host.reduceAdd (Host.exp (subf l (broadcastInDim S2x512 ![0, 1] bcast_S1x512_S2x512_0_1 (broadcastInDim S1x512 ![1] bcast_S512_S1x512_1 (maximumf (broadcastInDim S512 ![] bcast_S_S512 (constant S_ .f32 0xFF800000#32)) (Host.reduce FloatOps.maximumf l (constant S_ .f32 0xFF800000#32) reducesTo_S2x512_S512_d0 h_S_)))))) (constant S_ .f32 0x00000000#32) reducesTo_S2x512_S512_d0 h_S_)))

/-- the first layer's bound, from the running sum, -/
def lbS (l : FVec Ideal S2x512 .f32) : FVec Ideal S4x128 .f32 :=
  shapeCast _ (shapeCast _ (extractStridedSlice S1x512 ![0, 0] (Host.reduceWindowAdd ![2, 1] ![1, 1] ![1, 0] ![0, 0] (softL l) (broadcastInDim S_ ![] bcast_S_S_ (constant S_ .f32 0x00000000#32)) reduceWindows_S2x512_S2x512_w2s1p1_0_w1s1p0_0 h_S_) slices_S2x512_S1x512_0_0) shapeCasts_S1x512_S512) shapeCasts_S512_S4x128

/-- the forget gates -/
def fS (x : FVec Ideal S128x1x1024 .f32) (pre : FVec Ideal S1x1024 .f32) (l : FVec Ideal S2x512 .f32) (W : FVec Ideal S1x1024x4864 .f32) : FVec Ideal S128x1x4x128 .f32 :=
  Host.exp (Host.log (addf (broadcastInDim S128x1x4x128 ![0, 1, 2, 3] bcast_S1x1x4x128_S128x1x4x128_0_1_2_3 (broadcastInDim S1x1x4x128 ![2, 3] bcast_S4x128_S1x1x4x128_2_3 (lbS l))) (mulf (broadcastInDim S128x1x4x128 ![0, 1, 2, 3] bcast_S1x1x4x128_S128x1x4x128_0_1_2_3 (broadcastInDim S1x1x4x128 ![2, 3] bcast_S4x128_S1x1x4x128_2_3 (subf (broadcastInDim S4x128 ![] bcast_S_S4x128 (constant S_ .f32 0x3F800000#32)) (lbS l)))) (Host.divf (broadcastInDim S128x1x4x128 ![] bcast_S_S128x1x4x128 (constant S_ .f32 0x3F800000#32)) (addf (broadcastInDim S128x1x4x128 ![] bcast_S_S128x1x4x128 (constant S_ .f32 0x3F800000#32)) (Host.exp (Host.negf (shapeCast _ (extractStridedSlice S128x1x512 ![0, 0, 1280] (projS x pre W) slices_S128x1x4864_S128x1x512_0_0_1280) shapeCasts_S128x1x512_S128x1x4x128))))))))

/-- and the recurrence's keys. -/
def kS (x : FVec Ideal S128x1x1024 .f32) (pre : FVec Ideal S1x1024 .f32) (l : FVec Ideal S2x512 .f32) (W : FVec Ideal S1x1024x4864 .f32) : FVec Ideal S128x1x4x128 .f32 :=
  mulf (broadcastInDim S128x1x4x128 ![0, 1, 2, 3] bcast_S1x1x4x128_S128x1x4x128_0_1_2_3 (broadcastInDim S1x1x4x128 ![2, 3] bcast_S4x128_S1x1x4x128_2_3 (subf (broadcastInDim S4x128 ![] bcast_S_S4x128 (constant S_ .f32 0x3F800000#32)) (lbS l)))) (Host.divf (broadcastInDim S128x1x4x128 ![] bcast_S_S128x1x4x128 (constant S_ .f32 0x3F800000#32)) (addf (broadcastInDim S128x1x4x128 ![] bcast_S_S128x1x4x128 (constant S_ .f32 0x3F800000#32)) (Host.exp (Host.negf (Host.negf (shapeCast _ (extractStridedSlice S128x1x512 ![0, 0, 1280] (projS x pre W) slices_S128x1x4864_S128x1x512_0_0_1280) shapeCasts_S128x1x512_S128x1x4x128))))))

/-- The reference's new key windows, -/
def outK (x : FVec Ideal S128x1x1024 .f32) (pre : FVec Ideal S1x1024 .f32) (W : FVec Ideal S1x1024x4864 .f32) (ck : FVec Ideal S1x128x128x2x64 .f32) : FVec Ideal S128x128x128 .f32 :=
  transpose S128x128x128 [0, 2, 1] (shapeCast _ (extractStridedSlice S128x128x2x64 ![0, 1, 0, 0] (concatenate S128x129x2x64 1 [⟨S128x128x2x64, (shapeCast _ ck shapeCasts_S1x128x128x2x64_S128x128x2x64)⟩, ⟨S128x1x2x64, (shapeCast _ (extractStridedSlice S128x1x128 ![0, 0, 512] (projS x pre W) slices_S128x1x4864_S128x1x128_0_0_512) shapeCasts_S128x1x128_S128x1x2x64)⟩] concatenates_S128x128x2x64_S128x1x2x64_S128x129x2x64_d1) slices_S128x129x2x64_S128x128x2x64_0_1_0_0) shapeCasts_S128x128x2x64_S128x128x128) transposes_S128x128x128_S128x128x128_0_2_1
/-- value windows -/
def outV (x : FVec Ideal S128x1x1024 .f32) (pre : FVec Ideal S1x1024 .f32) (W : FVec Ideal S1x1024x4864 .f32) (cv : FVec Ideal S1x128x128x2x64 .f32) : FVec Ideal S128x128x128 .f32 :=
  transpose S128x128x128 [0, 2, 1] (shapeCast _ (extractStridedSlice S128x128x2x64 ![0, 1, 0, 0] (concatenate S128x129x2x64 1 [⟨S128x128x2x64, (shapeCast _ cv shapeCasts_S1x128x128x2x64_S128x128x2x64)⟩, ⟨S128x1x2x64, (shapeCast _ (extractStridedSlice S128x1x128 ![0, 0, 640] (projS x pre W) slices_S128x1x4864_S128x1x128_0_0_640) shapeCasts_S128x1x128_S128x1x2x64)⟩] concatenates_S128x128x2x64_S128x1x2x64_S128x129x2x64_d1) slices_S128x129x2x64_S128x128x2x64_0_1_0_0) shapeCasts_S128x128x2x64_S128x128x128) transposes_S128x128x128_S128x128x128_0_2_1
/-- and states. -/
def outS (x : FVec Ideal S128x1x1024 .f32) (pre : FVec Ideal S1x1024 .f32) (l : FVec Ideal S2x512 .f32) (W : FVec Ideal S1x1024x4864 .f32) (s0 : FVec Ideal S1x128x4x128x128 .f32) : FVec Ideal S128x512x128 .f32 :=
  shapeCast _ (addf (mulf (broadcastInDim S128x4x128x128 ![0, 1, 2, 3] bcast_S128x4x128x1_S128x4x128x128_0_1_2_3 (broadcastInDim S128x4x128x1 ![0, 1, 2] bcast_S128x4x128_S128x4x128x1_0_1_2 (shapeCast _ (fS x pre l W) shapeCasts_S128x1x4x128_S128x4x128))) (shapeCast _ s0 shapeCasts_S1x128x4x128x128_S128x4x128x128)) (mulf (broadcastInDim S128x4x128x128 ![0, 1, 2, 3] bcast_S128x4x128x1_S128x4x128x128_0_1_2_3 (broadcastInDim S128x4x128x1 ![0, 1, 2] bcast_S128x4x128_S128x4x128x1_0_1_2 (shapeCast _ (kS x pre l W) shapeCasts_S128x1x4x128_S128x4x128))) (broadcastInDim S128x4x128x128 ![0, 1, 2, 3] bcast_S128x4x1x128_S128x4x128x128_0_1_2_3 (broadcastInDim S128x4x1x128 ![0, 1, 3] bcast_S128x4x128_S128x4x1x128_0_1_3 (shapeCast _ (extractStridedSlice S128x1x512 ![0, 0, 1792] (projS x pre W) slices_S128x1x4864_S128x1x512_0_0_1792) shapeCasts_S128x1x512_S128x4x128))))) shapeCasts_S128x4x128x128_S128x512x128

section values
variable (x : FVec Ideal S128x1x1024 .f32) (pre : FVec Ideal S1x1024 .f32) (l : FVec Ideal S2x512 .f32) (W : FVec Ideal S1x1024x4864 .f32)

theorem projS_at (r : Fin 128) (j : Fin 4864) : projS x pre W (ix3 r 0 j)
    = projR (fun k => x (ix3 r 0 k)) (fun k => pre (ix2 0 k)) (fun a b => W (ix3 0 a b)) j := by
  pointwise [projS, projR, rmsR]

/-- The two layers. -/
theorem univ_fin2 : (Finset.univ : Finset (Fin 2)) = {0, 1} := rfl

/-- The largest's starting value is the least. -/
theorem negInf : (Ideal.ofBits .f32 4286578688#32 : EReal) = ⊥ := by
  unfold Ideal.ofBits Ideal.ieee
  simp only []
  rw [if_pos (by decide), if_pos (by decide), if_pos (by decide)]

theorem softL_at (j : Fin 512) : softL l (ix2 0 j) = lbR (l (ix2 0 j)) (l (ix2 1 j)) := by
  pointwise [softL, lbR]
  simp only [univ_fin2, Finset.fold_insert, Finset.fold_singleton, Finset.mem_singleton, Fin.reduceEq, not_false_eq_true, negInf, bot_le, max_eq_right,
    max_bot_right, Finset.sum_insert, Finset.sum_singleton]

/-- The running sum's first row is the array's. -/
theorem cum0 (a : FVec Ideal S2x512 .f32) (j : Fin 512) :
    Host.reduceWindowAdd ![2, 1] ![1, 1] ![1, 0] ![0, 0] a (broadcastInDim S_ ![] bcast_S_S_ (constant S_ .f32 0x00000000#32))
      reduceWindows_S2x512_S2x512_w2s1p1_0_w1s1p0_0 h_S_ (ix2 0 j) = a (ix2 0 j) := by
  have e : List.finRange (Shape.numel ⟨2, ![2, 1]⟩) = [⟨0, by decide⟩, ⟨1, by decide⟩] := by decide
  have q0 : (((⟨2, ![2, 1]⟩ : Shape).rowMajor.symm ⟨0, by decide⟩) 0).val = 0 := by decide
  have q1 : (((⟨2, ![2, 1]⟩ : Shape).rowMajor.symm ⟨1, by decide⟩) 0).val = 1 := by decide
  have q2 : (((⟨2, ![2, 1]⟩ : Shape).rowMajor.symm ⟨1, by decide⟩) 1).val = 0 := by decide
  have z : (broadcastInDim S_ ![] bcast_S_S_ (constant S_ .f32 0x00000000#32) : FVec Ideal S_ .f32) (Shape.Idx.first h_S_) = (0 : EReal) := by
    pointwise
  unfold Host.reduceWindowAdd
  rw [Ideal.hostReduceWindowAdd_def]
  unfold Ideal.hostReduceWindowAdd Host.reduceWindow
  dsimp only
  rw [e, List.foldl_cons, List.foldl_cons, List.foldl_nil, dif_neg, dif_pos]
  · rw [z, zero_add, zero_add]
    refine congrArg a (funext (Fin.forall_fin_two.mpr ⟨Fin.ext ?_, Fin.ext ?_⟩))
    · show 0 * 1 + _ - 1 = 0
      rw [q1]
    · show j.val * 1 + _ - 0 = j.val
      rw [q2]; omega
  · refine Fin.forall_fin_two.mpr ⟨?_, ?_⟩
    · show 1 ≤ 0 * 1 + _ ∧ 0 * 1 + _ - 1 < 2
      rw [q1]; omega
    · show 0 ≤ j.val * 1 + _ ∧ j.val * 1 + _ - 0 < 512
      rw [q2]; omega
  · intro h
    have h0 : 1 ≤ 0 * 1 + _ := (h 0).1
    rw [q0] at h0; omega

theorem lbS_at (a : Fin 4) (b : Fin 128) : lbS l (ix2 a b) = lbR (l (ix2 0 ⟨a.val * 128 + b.val, by omega⟩)) (l (ix2 1 ⟨a.val * 128 + b.val, by omega⟩)) := by
  pointwise [lbS]
  exact (cum0 _ _).trans (softL_at l _)

theorem fS_at (r : Fin 128) (a : Fin 4) (b : Fin 128) : fS x pre l W (ix4 r 0 a b)
    = forgetR (lbR (l (ix2 0 ⟨a.val * 128 + b.val, by omega⟩)) (l (ix2 1 ⟨a.val * 128 + b.val, by omega⟩)))
        (projR (fun k => x (ix3 r 0 k)) (fun k => pre (ix2 0 k)) (fun a b => W (ix3 0 a b)) ⟨1280 + (a.val * 128 + b.val), by omega⟩) := by
  pointwise [fS, lbS_at, projS_at, forgetR, Ideal.logistic]

theorem kS_at (r : Fin 128) (a : Fin 4) (b : Fin 128) : kS x pre l W (ix4 r 0 a b)
    = keyR (lbR (l (ix2 0 ⟨a.val * 128 + b.val, by omega⟩)) (l (ix2 1 ⟨a.val * 128 + b.val, by omega⟩)))
        (projR (fun k => x (ix3 r 0 k)) (fun k => pre (ix2 0 k)) (fun a b => W (ix3 0 a b)) ⟨1280 + (a.val * 128 + b.val), by omega⟩) := by
  pointwise [kS, lbS_at, projS_at, keyR, Ideal.logistic]

theorem outK_at (ck : FVec Ideal S1x128x128x2x64 .f32) (s d p : Fin 128) : outK x pre W ck (ix3 s d p)
    = if h : p.val < 127 then ck (ix5 0 s ⟨p.val + 1, by omega⟩ ⟨d.val / 64, by omega⟩ ⟨d.val % 64, by omega⟩)
      else projR (fun k => x (ix3 s 0 k)) (fun k => pre (ix2 0 k)) (fun a b => W (ix3 0 a b)) ⟨512 + d.val, by omega⟩ := by
  pointwise [outK, projS_at]
  simp only [Nat.add_comm 1 p.val]
  by_cases h : p.val < 127
  · rw [dif_pos h, dif_pos (show p.val + 1 < 128 by omega)]
  · rw [dif_neg h, dif_neg (show ¬ p.val + 1 < 128 by omega)]
theorem outV_at (cv : FVec Ideal S1x128x128x2x64 .f32) (s d p : Fin 128) : outV x pre W cv (ix3 s d p)
    = if h : p.val < 127 then cv (ix5 0 s ⟨p.val + 1, by omega⟩ ⟨d.val / 64, by omega⟩ ⟨d.val % 64, by omega⟩)
      else projR (fun k => x (ix3 s 0 k)) (fun k => pre (ix2 0 k)) (fun a b => W (ix3 0 a b)) ⟨640 + d.val, by omega⟩ := by
  pointwise [outV, projS_at]
  simp only [Nat.add_comm 1 p.val]
  by_cases h : p.val < 127
  · rw [dif_pos h, dif_pos (show p.val + 1 < 128 by omega)]
  · rw [dif_neg h, dif_neg (show ¬ p.val + 1 < 128 by omega)]
theorem outS_at (s0 : FVec Ideal S1x128x4x128x128 .f32) (s : Fin 128) (r : Fin 512) (v : Fin 128) : outS x pre l W s0 (ix3 s r v)
    = forgetR (lbR (l (ix2 0 r)) (l (ix2 1 r))) (projR (fun k => x (ix3 s 0 k)) (fun k => pre (ix2 0 k)) (fun a b => W (ix3 0 a b)) ⟨1280 + r.val, by omega⟩)
        * s0 (ix5 0 s ⟨r.val / 128, by omega⟩ ⟨r.val % 128, by omega⟩ v)
      + keyR (lbR (l (ix2 0 r)) (l (ix2 1 r))) (projR (fun k => x (ix3 s 0 k)) (fun k => pre (ix2 0 k)) (fun a b => W (ix3 0 a b)) ⟨1280 + r.val, by omega⟩)
        * projR (fun k => x (ix3 s 0 k)) (fun k => pre (ix2 0 k)) (fun a b => W (ix3 0 a b)) ⟨1792 + (128 * (r.val / 128) + v.val), by omega⟩ := by
  pointwise [outS, fS_at, kS_at, projS_at]
  simp only [Nat.mul_comm (r.val / 128) 128, Nat.div_add_mod]

end values

variable (m : (ℓ : Loc nD τ sig) → Buf (Elt Ideal) ℓ)

/-- The reference's states are these. -/
theorem resS (c : Dev nD) : Value.res_main_v94 m c = outS (m ((c.tc : Thread nD τ).loc main_arg0)) (m ((c.tc : Thread nD τ).loc main_arg5)) (m ((c.tc : Thread nD τ).loc main_arg7)) (m ((c.tc : Thread nD τ).loc main_arg9)) (m ((c.tc : Thread nD τ).loc main_arg3)) := rfl

end Cert.ReferenceIdeal.Mix

end
-- ==== Proof.Mix.Final.lean ====
module

public import proofs.«01_k».proof.Proof.Mix.Run
public import proofs.«01_k».proof.Proof.Mix.Ref
public import Idealize.ShloMosaic.Lib.Pipeline.ValueKit
public import Idealize.ShloMosaic.Lib.Claim

@[expose] public section

set_option maxRecDepth 16384

noncomputable section

namespace Cert.Kernel.Mix

open Idealize.ShloMosaic Idealize.ShloMosaic.TcCoe Idealize.SL.Sem
open Idealize.ShloMosaic.Pipeline (Dat)
open Cert.Kernel Cert.Kernel.Gen

variable (m : (ℓ : Loc nD τ sig) → Buf (Elt Ideal) ℓ)

/-- Where the windows' blocks lie at each point, -/
theorem idx : ∀ t : Fin cfg0.N, win0_1.index t = ![0, 0] ∧ win0_5.index t = ![0, 0] ∧ win0_7.index t = ![0, 0]
    ∧ win0_2.index t = ![t.val, 0, 0] ∧ win0_3.index t = ![t.val, 0, 0] ∧ win0_4.index t = ![t.val, 0, 0]
    ∧ win0_10.index t = ![t.val, 0, 0] ∧ win0_11.index t = ![t.val, 0, 0] ∧ win0_12.index t = ![t.val, 0, 0] ∧ t.val < 8 :=
  (by decide +kernel : ∀ t : Fin grid0.N, _)

/-- and the tile's rows of the scratch. -/
theorem offs : ∀ t : Fin cfg0.N, k0_off2 (grid0.coords t) = ![16 * t.val, 0] ∧ k0_off1 (grid0.coords t) = ![16 * t.val, 0] :=
  (by decide +kernel : ∀ t : Fin grid0.N, _)

theorem rows2_at (t : Fin cfg0.N) (a : FVec Ideal S128x128 .f32) (k : Fin 16) (d : Fin 128) (h : 16 * t.val + k.val < 128) :
    rows2 (F := Ideal) (grid0.coords t) a (ix2 k d) = a (ix2 ⟨16 * t.val + k.val, h⟩ d) :=
  congrArg a (funext (Fin.forall_fin_two.mpr
    ⟨Fin.ext (by show k0_off2 (grid0.coords t) 0 + 1 * k.val = 16 * t.val + k.val; rw [(offs t).1]; show 16 * t.val + 1 * k.val = _; omega),
     Fin.ext (by show k0_off2 (grid0.coords t) 1 + 1 * d.val = d.val; rw [(offs t).1]; show 0 + 1 * d.val = _; omega)⟩))
theorem rows1_at (t : Fin cfg0.N) (a : FVec Ideal S128x512 .f32) (k : Fin 16) (d : Fin 512) (h : 16 * t.val + k.val < 128) :
    rows1 (F := Ideal) (grid0.coords t) a (ix2 k d) = a (ix2 ⟨16 * t.val + k.val, h⟩ d) :=
  congrArg a (funext (Fin.forall_fin_two.mpr
    ⟨Fin.ext (by show k0_off1 (grid0.coords t) 0 + 1 * k.val = 16 * t.val + k.val; rw [(offs t).2]; show 16 * t.val + 1 * k.val = _; omega),
     Fin.ext (by show k0_off1 (grid0.coords t) 1 + 1 * d.val = d.val; rw [(offs t).2]; show 0 + 1 * d.val = _; omega)⟩))

/-- The reshaped and transposed arguments as the body reads them. -/
theorem w_at (c : Dev nD) (a : Fin 1024) (b : Fin 4864) : (show FVec Ideal S1024x4864 .f32 from V m c main_v9) (ix2 a b)
    = (show FVec Ideal S1x1024x4864 .f32 from m ((c : Thread nD τ).loc main_arg9)) (ix3 0 a b) := by
  entry_read; pointwise
theorem x_at (c : Dev nD) (a : Fin 128) (b : Fin 1024) : (show FVec Ideal S128x1024 .f32 from V m c main_v0) (ix2 a b)
    = (show FVec Ideal S128x1x1024 .f32 from m ((c : Thread nD τ).loc main_arg0)) (ix3 a 0 b) := by
  entry_read; pointwise
theorem ck_at (c : Dev nD) (s d p : Fin 128) : (show FVec Ideal S128x128x128 .f32 from V m c main_v3) (ix3 s d p)
    = (show FVec Ideal S1x128x128x2x64 .f32 from m ((c : Thread nD τ).loc main_arg1)) (ix5 0 s p ⟨d.val / 64, by omega⟩ ⟨d.val % 64, by omega⟩) := by
  entry_read; pointwise
theorem cv_at (c : Dev nD) (s d p : Fin 128) : (show FVec Ideal S128x128x128 .f32 from V m c main_v6) (ix3 s d p)
    = (show FVec Ideal S1x128x128x2x64 .f32 from m ((c : Thread nD τ).loc main_arg2)) (ix5 0 s p ⟨d.val / 64, by omega⟩ ⟨d.val % 64, by omega⟩) := by
  entry_read; pointwise
theorem s_at (c : Dev nD) (s : Fin 128) (r : Fin 512) (v : Fin 128) : (show FVec Ideal S128x512x128 .f32 from V m c main_v8) (ix3 s r v)
    = (show FVec Ideal S1x128x4x128x128 .f32 from m ((c : Thread nD τ).loc main_arg3)) (ix5 0 s ⟨r.val / 128, by omega⟩ ⟨r.val % 128, by omega⟩ v) := by
  entry_read; pointwise

/-- The windows' blocks as the body reads them. -/
theorem b1 (c : Dev nD) (t : Fin cfg0.N) (a : Fin 128) (b : Fin 1024) : (show FVec Ideal S128x1024 .f32 from iblk m c 1 t) (ix2 a b)
    = (show FVec Ideal S128x1024 .f32 from V m c main_v0) (ix2 a b) := by
  blk_ext [iblk, idx t]
theorem b5 (c : Dev nD) (t : Fin cfg0.N) (b : Fin 1024) : (show FVec Ideal S1x1024 .f32 from iblk m c 5 t) (ix2 0 b)
    = (show FVec Ideal S1x1024 .f32 from m ((c : Thread nD τ).loc main_arg5)) (ix2 0 b) := by
  blk_ext [iblk, V, idx t]
theorem b7 (c : Dev nD) (t : Fin cfg0.N) (a : Fin 2) (b : Fin 512) : (show FVec Ideal S2x512 .f32 from iblk m c 7 t) (ix2 a b)
    = (show FVec Ideal S2x512 .f32 from m ((c : Thread nD τ).loc main_arg7)) (ix2 a b) := by
  blk_ext [iblk, V, idx t]
theorem b2 (c : Dev nD) (t : Fin cfg0.N) (k : Fin 16) (d p : Fin 128) (h : 16 * t.val + k.val < 128) : (show FVec Ideal S16x128x128 .f32 from iblk m c 2 t) (ix3 k d p)
    = (show FVec Ideal S128x128x128 .f32 from V m c main_v3) (ix3 ⟨16 * t.val + k.val, h⟩ d p) := by
  blk_ext [iblk, idx t]
theorem b3 (c : Dev nD) (t : Fin cfg0.N) (k : Fin 16) (d p : Fin 128) (h : 16 * t.val + k.val < 128) : (show FVec Ideal S16x128x128 .f32 from iblk m c 3 t) (ix3 k d p)
    = (show FVec Ideal S128x128x128 .f32 from V m c main_v6) (ix3 ⟨16 * t.val + k.val, h⟩ d p) := by
  blk_ext [iblk, idx t]
theorem b4 (c : Dev nD) (t : Fin cfg0.N) (k : Fin 16) (r : Fin 512) (p : Fin 128) (h : 16 * t.val + k.val < 128) : (show FVec Ideal S16x512x128 .f32 from iblk m c 4 t) (ix3 k r p)
    = (show FVec Ideal S128x512x128 .f32 from V m c main_v8) (ix3 ⟨16 * t.val + k.val, h⟩ r p) := by
  blk_ext [iblk, idx t]

/-- The three results over the whole arrays, as functions of the arguments: the reference's. -/
def GK (c : Dev nD) : FVec Ideal S128x128x128 .f32 := Cert.ReferenceIdeal.Mix.outK (m ((c : Thread nD τ).loc main_arg0)) (m ((c : Thread nD τ).loc main_arg5)) (m ((c : Thread nD τ).loc main_arg9)) (m ((c : Thread nD τ).loc main_arg1))
@[inherit_doc GK]
def GV (c : Dev nD) : FVec Ideal S128x128x128 .f32 := Cert.ReferenceIdeal.Mix.outV (m ((c : Thread nD τ).loc main_arg0)) (m ((c : Thread nD τ).loc main_arg5)) (m ((c : Thread nD τ).loc main_arg9)) (m ((c : Thread nD τ).loc main_arg2))
@[inherit_doc GK]
def GS (c : Dev nD) : FVec Ideal S128x512x128 .f32 := Cert.ReferenceIdeal.Mix.outS (m ((c : Thread nD τ).loc main_arg0)) (m ((c : Thread nD τ).loc main_arg5)) (m ((c : Thread nD τ).loc main_arg7)) (m ((c : Thread nD τ).loc main_arg9)) (m ((c : Thread nD τ).loc main_arg3))

/-- A projection of a sample's row, from the arguments. -/
theorem proj_eq (c : Dev nD) (r : Fin 128) :
    projR (fun k => (show FVec Ideal S128x1024 .f32 from iblk m c 1 t0) (ix2 r k)) (fun k => (show FVec Ideal S1x1024 .f32 from iblk m c 5 t0) (ix2 0 k))
        (fun a b => (show FVec Ideal S1024x4864 .bf16 from castW (F := Ideal) (V m c main_v9)) (ix2 a b))
      = projR (fun k => (show FVec Ideal S128x1x1024 .f32 from m ((c : Thread nD τ).loc main_arg0)) (ix3 r 0 k))
          (fun k => (show FVec Ideal S1x1024 .f32 from m ((c : Thread nD τ).loc main_arg5)) (ix2 0 k))
          (fun a b => (show FVec Ideal S1x1024x4864 .f32 from m ((c : Thread nD τ).loc main_arg9)) (ix3 0 a b)) := by
  congr 1
  · exact funext fun k => (b1 m c t0 r k).trans (x_at m c r k)
  · exact funext fun k => b5 m c t0 k
  · exact funext fun a => funext fun b => w_at m c a b

/-- What the body leaves of a tile's windows and states is the reference's there. -/
theorem outK_at (c : Dev nD) (t : Fin cfg0.N) (k : Fin 16) (d p : Fin 128) (h : 16 * t.val + k.val < 128) :
    outK m c t (ix3 k d p) = GK m c (ix3 ⟨16 * t.val + k.val, h⟩ d p) := by
  refine (winT_at _ _ k d p).trans (Eq.trans ?_ (Cert.ReferenceIdeal.Mix.outK_at _ _ _ _ _ d p).symm)
  split
  · exact (b2 m c t k d _ h).trans (ck_at m c _ d _)
  · exact (rows2_at t _ k d h).trans ((kaV_at _ _ _ _ d).trans (congrFun (proj_eq m c _) _))
theorem outV_at (c : Dev nD) (t : Fin cfg0.N) (k : Fin 16) (d p : Fin 128) (h : 16 * t.val + k.val < 128) :
    outV m c t (ix3 k d p) = GV m c (ix3 ⟨16 * t.val + k.val, h⟩ d p) := by
  refine (winT_at _ _ k d p).trans (Eq.trans ?_ (Cert.ReferenceIdeal.Mix.outV_at _ _ _ _ _ d p).symm)
  split
  · exact (b3 m c t k d _ h).trans (cv_at m c _ d _)
  · exact (rows2_at t _ k d h).trans ((vaV_at _ _ _ _ d).trans (congrFun (proj_eq m c _) _))
theorem outS_at (c : Dev nD) (t : Fin cfg0.N) (k : Fin 16) (r : Fin 512) (v : Fin 128) (h : 16 * t.val + k.val < 128) :
    outS m c t (ix3 k r v) = GS m c (ix3 ⟨16 * t.val + k.val, h⟩ r v) := by
  refine (stT_at _ _ _ _ k r v).trans (Eq.trans ?_ (Cert.ReferenceIdeal.Mix.outS_at _ _ _ _ _ _ r v).symm)
  have e0 : ∀ j, (show FVec Ideal S2x512 .f32 from iblk m c 7 t0) (ix2 0 j) = _ := fun j => b7 m c t0 0 j
  have e1 : ∀ j, (show FVec Ideal S2x512 .f32 from iblk m c 7 t0) (ix2 1 j) = _ := fun j => b7 m c t0 1 j
  refine congr (congrArg _ (congr (congrArg _ ?_) ((b4 m c t k r v h).trans (s_at m c _ r v)))) (congr (congrArg _ ?_) ?_)
  · refine (rows1_at t _ k r h).trans ((fhV_at _ _ _ _ _ r).trans ?_)
    rw [proj_eq m c]
    exact congrArg₂ (fun a b => forgetR (lbR a b) _) (e0 r) (e1 r)
  · refine (rows1_at t _ k r h).trans ((khV_at _ _ _ _ _ r).trans ?_)
    rw [proj_eq m c]
    exact congrArg₂ (fun a b => keyR (lbR a b) _) (e0 r) (e1 r)
  · exact (rows1_at t _ k _ h).trans ((vhV_at _ _ _ _ _).trans (congrFun (proj_eq m c _) _))

/-- The result array of window 10 after the run. -/
theorem final10 (c : Dev nD) : (dats m 0 c).arrAt 10 cfg0.N = GK m c := by
  refine (dats m 0 c).arrAt_eq_of_covers 10 _ (by decide +kernel) fun t hf y => ?_
  blk_simp
  rw [after_10]
  have ht := (idx t).2.2.2.2.2.2.2.2.2
  have e := (idx t).2.2.2.2.2.2.1
  have hy : (y 0).val < 16 := (y 0).isLt
  rw [show y = ix3 (y 0) (y 1) (y 2) from eq_ix3 y]
  refine (outK_at m c t (y 0) (y 1) (y 2) (by omega)).trans ?_
  blk_ext [e]

/-- The result array of window 11 after the run. -/
theorem final11 (c : Dev nD) : (dats m 0 c).arrAt 11 cfg0.N = GV m c := by
  refine (dats m 0 c).arrAt_eq_of_covers 11 _ (by decide +kernel) fun t hf y => ?_
  blk_simp
  rw [after_11]
  have ht := (idx t).2.2.2.2.2.2.2.2.2
  have e := (idx t).2.2.2.2.2.2.2.1
  have hy : (y 0).val < 16 := (y 0).isLt
  rw [show y = ix3 (y 0) (y 1) (y 2) from eq_ix3 y]
  refine (outV_at m c t (y 0) (y 1) (y 2) (by omega)).trans ?_
  blk_ext [e]

/-- The result array of window 12 after the run. -/
theorem final12 (c : Dev nD) : (dats m 0 c).arrAt 12 cfg0.N = GS m c := by
  refine (dats m 0 c).arrAt_eq_of_covers 12 _ (by decide +kernel) fun t hf y => ?_
  blk_simp
  rw [after_12]
  have ht := (idx t).2.2.2.2.2.2.2.2.2
  have e := (idx t).2.2.2.2.2.2.2.2.1
  have hy : (y 0).val < 16 := (y 0).isLt
  rw [show y = ix3 (y 0) (y 1) (y 2) from eq_ix3 y]
  refine (outS_at m c t (y 0) (y 1) (y 2) (by omega)).trans ?_
  blk_ext [e]

end Cert.Kernel.Mix

end
-- ==== Proof.Mix.Claims.lean ====
module

public import proofs.«01_k».proof.Defs
public import proofs.«01_k».proof.Proof.Mix.Twin
public import proofs.«01_k».proof.Proof.Mix.Final
public import Idealize.ShloMosaic.Lib.Quiescent

@[expose] public section

set_option maxRecDepth 16384
set_option maxHeartbeats 0

noncomputable section

namespace Cert.Kernel.Mix

open Idealize.ShloMosaic Idealize.ShloMosaic.TcCoe Idealize.SL.Sem
open Cert.Kernel Cert.Kernel.Gen

/-- An array the run names ends as the pipeline leaves it. -/
theorem named {F : FTy → Type} [FloatOps F] (m : (ℓ : Loc nD τ sig) → Buf (Elt F) ℓ) {c : Dev nD} {v : (w : Fin cfg0.W) → Buf (Elt F) ((cfg0.win w).arr.view.loc (c.tc : Thread nD τ))}
    (h : ∀ w, ((dats m 0 c).toRForget forgets0).ArrAt w cfg0.N (v w)) (w : Fin cfg0.W) (hw : forgets0 w = false) : v w = (dats m 0 c).arrAt w cfg0.N :=
  ((dats m 0 c).toRForget_arrAt_iff hw _ _).mp (h w)

/-- The call's run over any float values: the three result arrays as the pipeline leaves them, the arguments unchanged,
    every counter at zero. -/
theorem outcome {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v13_1) = (dats m 0 c).arrAt 10 cfg0.N
      ∧ r.2.mem ((c.tc : Thread nD τ).loc main_v13_2) = (dats m 0 c).arrAt 11 cfg0.N
      ∧ r.2.mem ((c.tc : Thread nD τ).loc main_v13_3) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  (θ_run defs _ _).mono (fun _ h => ⟨fun c => ⟨named m (h.1 c).1 10 rfl, named m (h.1 c).1 11 rfl, named m (h.1 c).1 12 rfl,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (named m (h.1 c).1 0 rfl).trans (((dats m 0 c).arrAt_in 0 rfl _).trans ((A_eq m c 0).trans (V_main_arg4 m c))),
      (named m (h.1 c).1 5 rfl).trans (((dats m 0 c).arrAt_in 5 rfl _).trans ((A_eq m c 5).trans (V_main_arg5 m c))),
      (named m (h.1 c).1 6 rfl).trans (((dats m 0 c).arrAt_in 6 rfl _).trans ((A_eq m c 6).trans (V_main_arg6 m c))),
      (named m (h.1 c).1 7 rfl).trans (((dats m 0 c).arrAt_in 7 rfl _).trans ((A_eq m c 7).trans (V_main_arg7 m c))),
      (named m (h.1 c).1 8 rfl).trans (((dats m 0 c).arrAt_in 8 rfl _).trans ((A_eq m c 8).trans (V_main_arg8 m c))),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩, h.2⟩) (run m ρ)

/-- The frames: the kernel's, -/
theorem quiet : Cert.quiescent_Kernel := fun m ρ _ =>
  (θ_run defs _ _).mono (fun _ h => ⟨fun c => (h.1 c).2.2.2, h.2⟩) (outcome m ρ)

/-- the idealized program's, which is the same text, -/
theorem quietI : Cert.quiescent_KernelIdeal := fun m ρ _ => by
  rw [twin_defs, twin_main]
  exact (θ_run defs _ _).mono (fun _ h => ⟨fun c => (h.1 c).2.2.2, h.2⟩) (outcome (F := Ideal) m ρ)

/-- and the reference's. -/
theorem quietR : Cert.quiescent_ReferenceIdeal := fun m ρ _ =>
  (θ_run _ _ _).mono (fun r h => ⟨fun c => (h c).2.2.2, sem_eq_zero_of_no_sems (by decide) r.2⟩) (Cert.ReferenceIdeal.Value.run m ρ)

/-- The kernel computes the reference's function. -/
theorem algebraic : Cert.algebraic_KernelIdeal_ReferenceIdeal := fun m g m' g' _ hag => by
  refine ⟨fun c => GK m c, fun c => GV m c, fun c => GS m c, ?_, ?_⟩
  · rw [twin_defs, twin_main]
    exact (θ_run defs _ _).mono (fun _ h c => ⟨(h.1 c).1.trans (final10 m c), (h.1 c).2.1.trans (final11 m c),
      (h.1 c).2.2.1.trans (final12 m c), (h.1 c).2.2.2⟩) (outcome (F := Ideal) m g)
  · refine (θ_run _ _ _).mono (fun r h c => ?_) (Cert.ReferenceIdeal.Value.run m' g')
    obtain ⟨a0, a1, a2, a3, a4, a5, a6, a7, a8, a9, a10, a11, a12⟩ := hag c
    refine ⟨(h c).1.trans ?_, (h c).2.1.trans ?_, (h c).2.2.1.trans ?_, (h c).2.2.2⟩
    · rw [a0, a1, a5, a9]; rfl
    · rw [a0, a2, a5, a9]; rfl
    · rw [Cert.ReferenceIdeal.Mix.resS, a0, a3, a5, a7, a9]; rfl

end Cert.Kernel.Mix

end
-- ==== Proof.Ffn.Twin.lean ====
module

public import proofs.«01_k».proof.Proof.Gen.Kernel2
public import proofs.«01_k».proof.Proof.Gen.Kernel2Ideal

@[expose] public section

set_option maxRecDepth 16384

noncomputable section

namespace Cert.Kernel2.Ffn

open Idealize.ShloMosaic Idealize.ShloMosaic.TcCoe

variable {F : FTy → Type} [FloatOps F]

/-- The idealized program is the kernel's own text: the body, -/
theorem twin_body : Cert.Kernel2Ideal.cc0_ffn_half (F := F) = Cert.Kernel2.cc0_ffn_half (F := F) := rfl

/-- the body's table, -/
theorem twin_table : Cert.Kernel2Ideal.defs₀ (F := F) = Cert.Kernel2.defs₀ (F := F) := by
  refine congrArg Defs.onTc ?_
  funext l x
  match l, x with
  | 0, (t, s) => rfl

/-- the whole table, -/
theorem twin_defs : Cert.Kernel2Ideal.defs (F := F) = Cert.Kernel2.defs (F := F) :=
  congrArg (Pipeline.defs (Cert.Kernel2.pcfgs (F := F))) twin_table

/-- and the host program. -/
theorem twin_main : Cert.Kernel2Ideal.main (F := F) = Cert.Kernel2.main (F := F) := rfl

end Cert.Kernel2.Ffn

end
-- ==== Proof.Ffn.RunA.lean ====
module

public import proofs.«01_k».proof.Proof.Ffn.Pay
public import proofs.«01_k».proof.Proof.Ffn.Stage
public import Idealize.ShloMosaic.Lib.VecWindow

@[expose] public section

set_option maxRecDepth 16384

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2 Cert.Kernel2.Gen

variable {F : FTy → Type} [FloatOps F]

local notation "𝕄" => MT nD τ sig Unit (Elt F) ℕ (Pipeline.UD sig nD τ) ℕ

set_option maxHeartbeats 4000000 in set_option sl_exec.dmaWindow true in set_option sl_exec.dmaWindowSet true in
/-- At the first point: the three weight matrices arrive in the scratch, each rounded to bfloat16, and the first tile's window ends
    holding `ffnP` of the tile, the gains and the rounded weights. -/
theorem runA (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1024 .f32) (harg3 : arg3.IsWhole) (arg4 : Memref sig .tc .vmem S1x1024 .f32) (harg4 : arg4.IsWhole) (arg8 : Memref sig .tc .vmem S1024x1024 .f32) (harg8 : arg8.IsWhole) (arg9 : Memref sig .tc .vmem S128x1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole) (hc0 : cond0_0 i) (hc1 : cond0_1 i) (hc2 : ¬cond0_2 i)
    (x0 : Vec F S1024x1024 .f32) (x2 : Vec F S1x1024 .f32) (x3 : Vec F S1x1024 .f32) (fh0 : HbBuf0 (F := F) c hbM0_0) (fh1 : HbBuf0 (F := F) c hbM0_1) (fh2 : HbBuf0 (F := F) c hbM0_2) :
      ∀ (W : Waits sig Unit) (K : PUnit → sProp 𝕄),
        iprop(owns (c : Thread nD τ) arg1 fullShare x0 ∗ owns (c : Thread nD τ) arg3 fullShare x2 ∗ owns (c : Thread nD τ) arg4 fullShare x3 ∗ (∃ d, owns (c : Thread nD τ) arg8 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ owes (c : Thread nD τ) 0 W
            ∗ (iprop(owns (c : Thread nD τ) arg1 fullShare x0 ∗ owns (c : Thread nD τ) arg3 fullShare x2 ∗ owns (c : Thread nD τ) arg4 fullShare x3 ∗ owns (c : Thread nD τ) arg8 fullShare (ffnP x0 x2 x3 (castW fh0) (castW fh1) (castD fh2)) ∗ owns (c : Thread nD τ) arg10 fullShare (castW fh0) ∗ owns (c : Thread nD τ) arg11 fullShare (castW fh1) ∗ owns (c : Thread nD τ) arg12 fullShare (castD fh2) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ hbPt0 c hbM0_0 fh0 ∗ hbPt0 c hbM0_1 fh1 ∗ hbPt0 c hbM0_2 fh2 ∗ (∃ W', owes (c : Thread nD τ) 0 W')) -∗ K ⟨⟩))
          ⊢ wp frame (wpE (defs₀ (F := F)) Variants.none c none) Set.univ (cc0_ffn_half i arg1 harg1 arg2 harg2 arg3 harg3 arg4 harg4 (Memref.whole main_v2) (Memref.isWhole_whole _) (Memref.whole main_v3) (Memref.isWhole_whole _) (Memref.whole main_v4) (Memref.isWhole_whole _) arg8 harg8 arg9 harg9 arg10 harg10 arg11 harg11 arg12 harg12 alloca_r0 halloca_r0 cc0_scoped1 alloca_r1 halloca_r1 cc0_scoped3 alloca_r2 halloca_r2 cc0_scoped5) K := by
    intro W K
    simp only [cc0_ffn_half_eq_skeleton]; unfold cc0_ffn_half_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%f0, %hf0, H0⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hh0, Hh1, Hh2, HW, Hk⟩
    obtain rfl := harg1.eq_unread hf0; obtain rfl := harg3.eq_unread hf2; obtain rfl := harg4.eq_unread hf3
    sl_exec (disch := first | sl_exact hc0 | sl_exact hc1 | sl_exact hc2)
    sl_step
    have t0 : View.canon (runA.sl.HS0_8 c alloca_r0 fh0 fs3) = castW fh0 := by
      refine Stage.canon_of_agree _ _ ?_ (View.cover_of_tiled_head _ _ _ rfl)
      have e35 : k0_pay4 (runA.sl.v35_r0 c alloca_r0 fh0 fs3) = truncf .bf16 (runA.sl.dma0 c fh0) bitsLt_bf16_f32 := by
        unfold k0_pay4 runA.sl.v35_r0
        simp only [shapeCast_self]
        repeat rw [Stage.slot_other (a := 0) (hd := by decide)]
        rw [Stage.slot_same]
      have e51 : k0_pay5 (runA.sl.v51_r0 c alloca_r0 fh0 fs3) = truncf .bf16 (runA.sl.dma0_1 c fh0) bitsLt_bf16_f32 := by
        unfold k0_pay5 runA.sl.v51_r0
        simp only [shapeCast_self]
        repeat rw [Stage.slot_other (a := 0) (hd := by decide)]
        rw [Stage.slot_same]
      have e67 : k0_pay6 (runA.sl.v67_r0 c alloca_r0 fh0 fs3) = truncf .bf16 (runA.sl.dma0_2 c fh0) bitsLt_bf16_f32 := by
        unfold k0_pay6 runA.sl.v67_r0
        simp only [shapeCast_self]
        repeat rw [Stage.slot_other (a := 0) (hd := by decide)]
        rw [Stage.slot_same]
      have e83 : k0_pay7 (runA.sl.v83_r0 c alloca_r0 fh0 fs3) = truncf .bf16 (runA.sl.dma0_3 c fh0) bitsLt_bf16_f32 := by
        unfold k0_pay7 runA.sl.v83_r0
        simp only [shapeCast_self]
        repeat rw [Stage.slot_other (a := 0) (hd := by decide)]
        rw [Stage.slot_same]
      have e99 : k0_pay8 (runA.sl.v99_r0 c alloca_r0 fh0 fs3) = truncf .bf16 (runA.sl.dma3 c fh0) bitsLt_bf16_f32 := by
        unfold k0_pay8 runA.sl.v99_r0
        simp only [shapeCast_self]
        repeat rw [Stage.slot_other (a := 0) (hd := by decide)]
        rw [Stage.slot_same]
      have e110 : k0_pay9 (runA.sl.v110_r0 c alloca_r0 fh0 fs3) = truncf .bf16 (runA.sl.dma6 c fh0) bitsLt_bf16_f32 := by
        unfold k0_pay9 runA.sl.v110_r0
        simp only [shapeCast_self]
        repeat rw [Stage.slot_other (a := 0) (hd := by decide)]
        rw [Stage.slot_same]
      have e121 : k0_pay10 (runA.sl.v121_r0 c alloca_r0 fh0 fs3) = truncf .bf16 (runA.sl.dma9 c fh0) bitsLt_bf16_f32 := by
        unfold k0_pay10 runA.sl.v121_r0
        simp only [shapeCast_self]
        repeat rw [Stage.slot_other (a := 0) (hd := by decide)]
        rw [Stage.slot_same]
      have e132 : k0_pay11 (runA.sl.v132_r0 c alloca_r0 fh0 fs3) = truncf .bf16 (runA.sl.dma12 c fh0) bitsLt_bf16_f32 := by
        unfold k0_pay11 runA.sl.v132_r0
        simp only [shapeCast_self]
        repeat rw [Stage.slot_other (a := 0) (hd := by decide)]
        rw [Stage.slot_same]
      unfold runA.sl.HS0_8
      simp only [e35, e51, e67, e83, e99, e110, e121, e132, List.forall_mem_cons]
      refine ⟨fun x => rfl, fun x => rfl, fun x => rfl, fun x => rfl, fun x => rfl, fun x => rfl, fun x => rfl, fun x => rfl,
        fun p hp => absurd hp List.not_mem_nil⟩
    have t1 : View.canon (runA.sl.HS1_8 c alloca_r1 fh1 fs4) = castW fh1 := by
      refine Stage.canon_of_agree _ _ ?_ (View.cover_of_tiled_head _ _ _ rfl)
      have e35 : k0_pay12 (runA.sl.v35_r1 c alloca_r1 fh1 fs4) = truncf .bf16 (runA.sl.dma24 c fh1) bitsLt_bf16_f32 := by
        unfold k0_pay12 runA.sl.v35_r1
        simp only [shapeCast_self]
        repeat rw [Stage.slot_other (a := 0) (hd := by decide)]
        rw [Stage.slot_same]
      have e51 : k0_pay13 (runA.sl.v51_r1 c alloca_r1 fh1 fs4) = truncf .bf16 (runA.sl.dma24_1 c fh1) bitsLt_bf16_f32 := by
        unfold k0_pay13 runA.sl.v51_r1
        simp only [shapeCast_self]
        repeat rw [Stage.slot_other (a := 0) (hd := by decide)]
        rw [Stage.slot_same]
      have e67 : k0_pay14 (runA.sl.v67_r1 c alloca_r1 fh1 fs4) = truncf .bf16 (runA.sl.dma24_2 c fh1) bitsLt_bf16_f32 := by
        unfold k0_pay14 runA.sl.v67_r1
        simp only [shapeCast_self]
        repeat rw [Stage.slot_other (a := 0) (hd := by decide)]
        rw [Stage.slot_same]
      have e83 : k0_pay15 (runA.sl.v83_r1 c alloca_r1 fh1 fs4) = truncf .bf16 (runA.sl.dma24_3 c fh1) bitsLt_bf16_f32 := by
        unfold k0_pay15 runA.sl.v83_r1
        simp only [shapeCast_self]
        repeat rw [Stage.slot_other (a := 0) (hd := by decide)]
        rw [Stage.slot_same]
      have e99 : k0_pay16 (runA.sl.v99_r1 c alloca_r1 fh1 fs4) = truncf .bf16 (runA.sl.dma27 c fh1) bitsLt_bf16_f32 := by
        unfold k0_pay16 runA.sl.v99_r1
        simp only [shapeCast_self]
        repeat rw [Stage.slot_other (a := 0) (hd := by decide)]
        rw [Stage.slot_same]
      have e110 : k0_pay17 (runA.sl.v110_r1 c alloca_r1 fh1 fs4) = truncf .bf16 (runA.sl.dma30 c fh1) bitsLt_bf16_f32 := by
        unfold k0_pay17 runA.sl.v110_r1
        simp only [shapeCast_self]
        repeat rw [Stage.slot_other (a := 0) (hd := by decide)]
        rw [Stage.slot_same]
      have e121 : k0_pay18 (runA.sl.v121_r1 c alloca_r1 fh1 fs4) = truncf .bf16 (runA.sl.dma33 c fh1) bitsLt_bf16_f32 := by
        unfold k0_pay18 runA.sl.v121_r1
        simp only [shapeCast_self]
        repeat rw [Stage.slot_other (a := 0) (hd := by decide)]
        rw [Stage.slot_same]
      have e132 : k0_pay19 (runA.sl.v132_r1 c alloca_r1 fh1 fs4) = truncf .bf16 (runA.sl.dma36 c fh1) bitsLt_bf16_f32 := by
        unfold k0_pay19 runA.sl.v132_r1
        simp only [shapeCast_self]
        repeat rw [Stage.slot_other (a := 0) (hd := by decide)]
        rw [Stage.slot_same]
      unfold runA.sl.HS1_8
      simp only [e35, e51, e67, e83, e99, e110, e121, e132, List.forall_mem_cons]
      refine ⟨fun x => rfl, fun x => rfl, fun x => rfl, fun x => rfl, fun x => rfl, fun x => rfl, fun x => rfl, fun x => rfl,
        fun p hp => absurd hp List.not_mem_nil⟩
    have t2 : View.canon (runA.sl.HS2_8 c alloca_r2 fh2 fs5) = castD fh2 := by
      refine Stage.canon_of_agree _ _ ?_ (View.cover_of_tiled_head _ _ _ rfl)
      have e35 : k0_pay20 (runA.sl.v35_r2 c alloca_r2 fh2 fs5) = truncf .bf16 (runA.sl.dma48 c fh2) bitsLt_bf16_f32 := by
        unfold k0_pay20 runA.sl.v35_r2
        simp only [shapeCast_self]
        repeat rw [Stage.slot_other (a := 0) (hd := by decide)]
        rw [Stage.slot_same]
      have e51 : k0_pay21 (runA.sl.v51_r2 c alloca_r2 fh2 fs5) = truncf .bf16 (runA.sl.dma48_1 c fh2) bitsLt_bf16_f32 := by
        unfold k0_pay21 runA.sl.v51_r2
        simp only [shapeCast_self]
        repeat rw [Stage.slot_other (a := 0) (hd := by decide)]
        rw [Stage.slot_same]
      have e67 : k0_pay22 (runA.sl.v67_r2 c alloca_r2 fh2 fs5) = truncf .bf16 (runA.sl.dma48_2 c fh2) bitsLt_bf16_f32 := by
        unfold k0_pay22 runA.sl.v67_r2
        simp only [shapeCast_self]
        repeat rw [Stage.slot_other (a := 0) (hd := by decide)]
        rw [Stage.slot_same]
      have e83 : k0_pay23 (runA.sl.v83_r2 c alloca_r2 fh2 fs5) = truncf .bf16 (runA.sl.dma48_3 c fh2) bitsLt_bf16_f32 := by
        unfold k0_pay23 runA.sl.v83_r2
        simp only [shapeCast_self]
        repeat rw [Stage.slot_other (a := 0) (hd := by decide)]
        rw [Stage.slot_same]
      have e99 : k0_pay24 (runA.sl.v99_r2 c alloca_r2 fh2 fs5) = truncf .bf16 (runA.sl.dma51 c fh2) bitsLt_bf16_f32 := by
        unfold k0_pay24 runA.sl.v99_r2
        simp only [shapeCast_self]
        repeat rw [Stage.slot_other (a := 0) (hd := by decide)]
        rw [Stage.slot_same]
      have e110 : k0_pay25 (runA.sl.v110_r2 c alloca_r2 fh2 fs5) = truncf .bf16 (runA.sl.dma54 c fh2) bitsLt_bf16_f32 := by
        unfold k0_pay25 runA.sl.v110_r2
        simp only [shapeCast_self]
        repeat rw [Stage.slot_other (a := 0) (hd := by decide)]
        rw [Stage.slot_same]
      have e121 : k0_pay26 (runA.sl.v121_r2 c alloca_r2 fh2 fs5) = truncf .bf16 (runA.sl.dma57 c fh2) bitsLt_bf16_f32 := by
        unfold k0_pay26 runA.sl.v121_r2
        simp only [shapeCast_self]
        repeat rw [Stage.slot_other (a := 0) (hd := by decide)]
        rw [Stage.slot_same]
      have e132 : k0_pay1 (runA.sl.v132_r2 c alloca_r2 fh2 fs5) = truncf .bf16 (runA.sl.dma60 c fh2) bitsLt_bf16_f32 := by
        unfold k0_pay1 runA.sl.v132_r2
        simp only [shapeCast_self]
        repeat rw [Stage.slot_other (a := 0) (hd := by decide)]
        rw [Stage.slot_same]
      unfold runA.sl.HS2_8
      simp only [e35, e51, e67, e83, e99, e110, e121, e132, List.forall_mem_cons]
      refine ⟨fun x => rfl, fun x => rfl, fun x => rfl, fun x => rfl, fun x => rfl, fun x => rfl, fun x => rfl, fun x => rfl,
        fun p hp => absurd hp List.not_mem_nil⟩
    have q0 : ∀ B : Rect S1024x2816, arg10.view.readCov (runA.sl.HS0_8 c alloca_r0 fh0 fs3) B.toLoadRect = View.ld (castW fh0) B :=
      fun B => by rw [View.readCov_eq_canon', t0]
    have q1 : ∀ B : Rect S1024x2816, arg11.view.readCov (runA.sl.HS1_8 c alloca_r1 fh1 fs4) B.toLoadRect = View.ld (castW fh1) B :=
      fun B => by rw [View.readCov_eq_canon', t1]
    have q2 : ∀ B : Rect S2816x1024, arg12.view.readCov (runA.sl.HS2_8 c alloca_r2 fh2 fs5) B.toLoadRect = View.ld (castD fh2) B :=
      fun B => by rw [View.readCov_eq_canon', t2]
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      unfold runA.sl.r_10 runA.sl.r_9 runA.sl.r_8 runA.sl.r_7 runA.sl.r_6 runA.sl.r_5 runA.sl.r_4 runA.sl.r_3 runA.sl.r_2 runA.sl.r_1 runA.sl.r
      unfold runA.sl.v26 runA.sl.v28 runA.sl.v34 runA.sl.v36 runA.sl.v38 runA.sl.v44 runA.sl.v47 runA.sl.v49 runA.sl.v55 runA.sl.v58 runA.sl.v60 runA.sl.v66 runA.sl.v69 runA.sl.v71 runA.sl.v77 runA.sl.v80 runA.sl.v82 runA.sl.v88 runA.sl.v91 runA.sl.v93 runA.sl.v99 runA.sl.v102 runA.sl.v104 runA.sl.v110 runA.sl.v113 runA.sl.v115 runA.sl.v121 runA.sl.v124 runA.sl.v126 runA.sl.v132 runA.sl.v135 runA.sl.v137 runA.sl.v143
      simp only [q0, q1, q2, View.readAt_eq_ld, Memref.IsWhole.read_unread, full_x, full_s, full_g]
      rfl
    isplitl [HS0]
    · iexists _; isplitr; swap; · iexact HS0
      ipureintro
      exact (View.read_writes_eq_canon _ _ _ (View.cover_of_tiled_head _ _ _ rfl)).trans t0
    isplitl [HS1]
    · iexists _; isplitr; swap; · iexact HS1
      ipureintro
      exact (View.read_writes_eq_canon _ _ _ (View.cover_of_tiled_head _ _ _ rfl)).trans t1
    isplitl [HS2]
    · iexists _; isplitr; swap; · iexact HS2
      ipureintro
      exact (View.read_writes_eq_canon _ _ _ (View.cover_of_tiled_head _ _ _ rfl)).trans t2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    iexists _; iexact HW

end Cert.Kernel2.Ffn

end
-- ==== Proof.Ffn.RunB.lean ====
module

public import proofs.«01_k».proof.Proof.Ffn.Pay
public import Idealize.ShloMosaic.Lib.VecWindow

@[expose] public section

set_option maxRecDepth 16384

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2 Cert.Kernel2.Gen

variable {F : FTy → Type} [FloatOps F]

local notation "𝕄" => MT nD τ sig Unit (Elt F) ℕ (Pipeline.UD sig nD τ) ℕ

set_option maxHeartbeats 1000000 in
/-- At a point of the prompt after the first: the tile's window ends holding `ffnP` of the tile, the gains and the
    weights the scratch holds, and everything else is as it was. -/
theorem runB (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1024 .f32) (harg3 : arg3.IsWhole) (arg4 : Memref sig .tc .vmem S1x1024 .f32) (harg4 : arg4.IsWhole) (arg8 : Memref sig .tc .vmem S1024x1024 .f32) (harg8 : arg8.IsWhole) (arg9 : Memref sig .tc .vmem S128x1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole) (hc0 : ¬cond0_0 i) (hc1 : cond0_1 i) (hc2 : ¬cond0_2 i)
    (x0 : Vec F S1024x1024 .f32) (x2 : Vec F S1x1024 .f32) (x3 : Vec F S1x1024 .f32) (W0 : Vec F S1024x2816 .bf16) (W1 : Vec F S1024x2816 .bf16) (W2 : Vec F S2816x1024 .bf16) :
      ∀ (W : Waits sig Unit) (K : PUnit → sProp 𝕄),
        iprop(owns (c : Thread nD τ) arg1 fullShare x0 ∗ owns (c : Thread nD τ) arg3 fullShare x2 ∗ owns (c : Thread nD τ) arg4 fullShare x3 ∗ (∃ d, owns (c : Thread nD τ) arg8 fullShare d) ∗ owns (c : Thread nD τ) arg10 fullShare W0 ∗ owns (c : Thread nD τ) arg11 fullShare W1 ∗ owns (c : Thread nD τ) arg12 fullShare W2 ∗ owes (c : Thread nD τ) 0 W
            ∗ (iprop(owns (c : Thread nD τ) arg1 fullShare x0 ∗ owns (c : Thread nD τ) arg3 fullShare x2 ∗ owns (c : Thread nD τ) arg4 fullShare x3 ∗ owns (c : Thread nD τ) arg8 fullShare (ffnP x0 x2 x3 W0 W1 W2) ∗ owns (c : Thread nD τ) arg10 fullShare W0 ∗ owns (c : Thread nD τ) arg11 fullShare W1 ∗ owns (c : Thread nD τ) arg12 fullShare W2 ∗ (∃ W', owes (c : Thread nD τ) 0 W')) -∗ K ⟨⟩))
          ⊢ wp frame (wpE (defs₀ (F := F)) Variants.none c none) Set.univ (cc0_ffn_half i arg1 harg1 arg2 harg2 arg3 harg3 arg4 harg4 (Memref.whole main_v2) (Memref.isWhole_whole _) (Memref.whole main_v3) (Memref.isWhole_whole _) (Memref.whole main_v4) (Memref.isWhole_whole _) arg8 harg8 arg9 harg9 arg10 harg10 arg11 harg11 arg12 harg12 alloca_r0 halloca_r0 cc0_scoped1 alloca_r1 halloca_r1 cc0_scoped3 alloca_r2 halloca_r2 cc0_scoped5) K := by
    intro W K
    simp only [cc0_ffn_half_eq_skeleton]; unfold cc0_ffn_half_skel
    simp only [k0_part15_eq_skeleton, k0_part16_eq_skeleton, k0_part17_eq_skeleton, k0_part18_eq_skeleton]
    unfold owns
    iintro ⟨⟨%f0, %hf0, H0⟩, ⟨%f2, %hf2, H2⟩, ⟨%f3, %hf3, H3⟩, ⟨%d4, %f4, -, H4⟩, ⟨%g0, %hg0, HS0⟩, ⟨%g1, %hg1, HS1⟩, ⟨%g2, %hg2, HS2⟩, HW, Hk⟩
    obtain rfl := harg1.eq_unread hf0; obtain rfl := harg3.eq_unread hf2; obtain rfl := harg4.eq_unread hf3
    obtain rfl := harg10.eq_unread hg0; obtain rfl := harg11.eq_unread hg1; obtain rfl := harg12.eq_unread hg2
    sl_exec (disch := first | sl_exact hc0 | sl_exact hc1 | sl_exact hc2)
    sl_step
    iapply Hk
    isplitl [H0]
    · iexists _; isplitr; · ipureintro; exact harg1.read_unread _
      iexact H0
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      unfold runB.sl.r_10 runB.sl.r_9 runB.sl.r_8 runB.sl.r_7 runB.sl.r_6 runB.sl.r_5 runB.sl.r_4 runB.sl.r_3 runB.sl.r_2 runB.sl.r_1 runB.sl.r
      simp only [View.readAt_eq_ld, Memref.IsWhole.read_unread, full_x, full_s, full_g]
      rfl
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    iexists _; iexact HW

end Cert.Kernel2.Ffn

end
-- ==== Proof.Ffn.RunC.lean ====
module

public import proofs.«01_k».proof.Proof.Ffn.RunB
public import Idealize.ShloMosaic.Lib.VecWindow

@[expose] public section

set_option maxRecDepth 16384

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2 Cert.Kernel2.Gen

variable {F : FTy → Type} [FloatOps F]

local notation "𝕄" => MT nD τ sig Unit (Elt F) ℕ (Pipeline.UD sig nD τ) ℕ

set_option maxHeartbeats 1000000 in
/-- At the samples' point: the samples' window ends holding `ffnS` of the samples, the gains and the weights the scratch
    holds, and everything else is as it was. -/
theorem runC (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1024 .f32) (harg3 : arg3.IsWhole) (arg4 : Memref sig .tc .vmem S1x1024 .f32) (harg4 : arg4.IsWhole) (arg8 : Memref sig .tc .vmem S1024x1024 .f32) (harg8 : arg8.IsWhole) (arg9 : Memref sig .tc .vmem S128x1x1024 .f32) (harg9 : arg9.IsWhole) (arg10 : Memref sig .tc .vmem S1024x2816 .bf16) (harg10 : arg10.IsWhole) (arg11 : Memref sig .tc .vmem S1024x2816 .bf16) (harg11 : arg11.IsWhole) (arg12 : Memref sig .tc .vmem S2816x1024 .bf16) (harg12 : arg12.IsWhole) (alloca_r0 : Memref sig .tc .vmem S4x128x2816 .f32) (halloca_r0 : alloca_r0.IsWhole) (alloca_r1 : Memref sig .tc .vmem S4x128x2816 .f32) (halloca_r1 : alloca_r1.IsWhole) (alloca_r2 : Memref sig .tc .vmem S4x352x1024 .f32) (halloca_r2 : alloca_r2.IsWhole) (hc0 : ¬cond0_0 i) (hc1 : ¬cond0_1 i) (hc2 : cond0_2 i)
    (x1 : Vec F S128x1024 .f32) (x2 : Vec F S1x1024 .f32) (x3 : Vec F S1x1024 .f32) (W0 : Vec F S1024x2816 .bf16) (W1 : Vec F S1024x2816 .bf16) (W2 : Vec F S2816x1024 .bf16) :
      ∀ (W : Waits sig Unit) (K : PUnit → sProp 𝕄),
        iprop(owns (c : Thread nD τ) arg2 fullShare x1 ∗ owns (c : Thread nD τ) arg3 fullShare x2 ∗ owns (c : Thread nD τ) arg4 fullShare x3 ∗ (∃ d, owns (c : Thread nD τ) arg9 fullShare d) ∗ owns (c : Thread nD τ) arg10 fullShare W0 ∗ owns (c : Thread nD τ) arg11 fullShare W1 ∗ owns (c : Thread nD τ) arg12 fullShare W2 ∗ owes (c : Thread nD τ) 0 W
            ∗ (iprop(owns (c : Thread nD τ) arg2 fullShare x1 ∗ owns (c : Thread nD τ) arg3 fullShare x2 ∗ owns (c : Thread nD τ) arg4 fullShare x3 ∗ owns (c : Thread nD τ) arg9 fullShare (ffnS x1 x2 x3 W0 W1 W2) ∗ owns (c : Thread nD τ) arg10 fullShare W0 ∗ owns (c : Thread nD τ) arg11 fullShare W1 ∗ owns (c : Thread nD τ) arg12 fullShare W2 ∗ (∃ W', owes (c : Thread nD τ) 0 W')) -∗ K ⟨⟩))
          ⊢ wp frame (wpE (defs₀ (F := F)) Variants.none c none) Set.univ (cc0_ffn_half i arg1 harg1 arg2 harg2 arg3 harg3 arg4 harg4 (Memref.whole main_v2) (Memref.isWhole_whole _) (Memref.whole main_v3) (Memref.isWhole_whole _) (Memref.whole main_v4) (Memref.isWhole_whole _) arg8 harg8 arg9 harg9 arg10 harg10 arg11 harg11 arg12 harg12 alloca_r0 halloca_r0 cc0_scoped1 alloca_r1 halloca_r1 cc0_scoped3 alloca_r2 halloca_r2 cc0_scoped5) K := by
    intro W K
    simp only [cc0_ffn_half_eq_skeleton]; unfold cc0_ffn_half_skel
    simp only [k0_part19_eq_skeleton, k0_part20_eq_skeleton, k0_part21_eq_skeleton, k0_part22_eq_skeleton]
    unfold owns
    iintro ⟨⟨%f0, %hf0, H0⟩, ⟨%f2, %hf2, H2⟩, ⟨%f3, %hf3, H3⟩, ⟨%d4, %f4, -, H4⟩, ⟨%g0, %hg0, HS0⟩, ⟨%g1, %hg1, HS1⟩, ⟨%g2, %hg2, HS2⟩, HW, Hk⟩
    obtain rfl := harg2.eq_unread hf0; obtain rfl := harg3.eq_unread hf2; obtain rfl := harg4.eq_unread hf3
    obtain rfl := harg10.eq_unread hg0; obtain rfl := harg11.eq_unread hg1; obtain rfl := harg12.eq_unread hg2
    sl_exec (disch := first | sl_exact hc0 | sl_exact hc1 | sl_exact hc2)
    sl_step
    iapply Hk
    isplitl [H0]
    · iexists _; isplitr; · ipureintro; exact harg2.read_unread _
      iexact H0
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_full _ _ _ _ _).trans ?_
      unfold runC.sl.r_10 runC.sl.r_9 runC.sl.r_8 runC.sl.r_7 runC.sl.r_6 runC.sl.r_5 runC.sl.r_4 runC.sl.r_3 runC.sl.r_2 runC.sl.r_1 runC.sl.r
      simp only [View.readAt_eq_ld, Memref.IsWhole.read_unread, full_x, full_s, full_g]
      rfl
    isplitl [HS0]
    · iexists _; isplitr; · ipureintro; exact harg10.read_unread _
      iexact HS0
    isplitl [HS1]
    · iexists _; isplitr; · ipureintro; exact harg11.read_unread _
      iexact HS1
    isplitl [HS2]
    · iexists _; isplitr; · ipureintro; exact harg12.read_unread _
      iexact HS2
    iexists _; iexact HW

end Cert.Kernel2.Ffn

end
-- ==== Proof.Ffn.Run.lean ====
module

public import proofs.«01_k».proof.Proof.Ffn.RunA
public import proofs.«01_k».proof.Proof.Ffn.RunC
public import Idealize.ShloMosaic.Lib.Claim

@[expose] public section

set_option maxRecDepth 16384

noncomputable section

namespace Cert.Kernel2.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2 Cert.Kernel2.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch that holds the weights: anything before the first point, the rounded matrices after it. -/
def held (c : Dev nD) : ℕ → sProp 𝕄
  | 0 => iprop((∃ d, owns (c : Thread nD τ) scM0_0 fullShare d) ∗ (∃ d, owns (c : Thread nD τ) scM0_1 fullShare d) ∗ (∃ d, owns (c : Thread nD τ) scM0_2 fullShare d))
  | _ + 1 => iprop(owns (c : Thread nD τ) scM0_0 fullShare (castW (V m c main_v2)) ∗ owns (c : Thread nD τ) scM0_1 fullShare (castW (V m c main_v3)) ∗ owns (c : Thread nD τ) scM0_2 fullShare (castD (V m c main_v4)))

theorem held_zero (c : Dev nD) : held m c 0 = iprop((∃ d, owns (c : Thread nD τ) scM0_0 fullShare d) ∗ (∃ d, owns (c : Thread nD τ) scM0_1 fullShare d) ∗ (∃ d, owns (c : Thread nD τ) scM0_2 fullShare d)) := rfl
theorem held_succ (c : Dev nD) (k : ℕ) : held m c (k + 1) = iprop(owns (c : Thread nD τ) scM0_0 fullShare (castW (V m c main_v2)) ∗ owns (c : Thread nD τ) scM0_1 fullShare (castW (V m c main_v3)) ∗ owns (c : Thread nD τ) scM0_2 fullShare (castD (V m c main_v4))) := rfl

/-- What the body carries beside it: the staging buffers, the generator's register, its copies' counters at zero and the
    three matrices in HBM. -/
def rest (c : Dev nD) : sProp 𝕄 :=
  iprop((∃ d, owns (c : Thread nD τ) scM0_3 fullShare d) ∗ (∃ d, owns (c : Thread nD τ) scM0_4 fullShare d) ∗ (∃ d, owns (c : Thread nD τ) scM0_5 fullShare d) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0)
    ∗ iprop(hbPt0 c hbM0_0 (V m c main_v2) ∗ hbPt0 c hbM0_1 (V m c main_v3) ∗ hbPt0 c hbM0_2 (V m c main_v4)))

/-- What the body leaves of the prompt at point `t`: its rows of the result, -/
def outP (c : Dev nD) (t : Fin cfg0.N) : FVec F S1024x1024 .f32 :=
  ffnP (iblk m c 0 t) (iblk m c 2 t) (iblk m c 3 t) (castW (V m c main_v2)) (castW (V m c main_v3)) (castD (V m c main_v4))
/-- and of the samples. -/
def outS (c : Dev nD) (t : Fin cfg0.N) : FVec F S128x1x1024 .f32 :=
  ffnS (iblk m c 1 t) (iblk m c 2 t) (iblk m c 3 t) (castW (V m c main_v2)) (castW (V m c main_v3)) (castD (V m c main_v4))

/-- The call's proof data: the arrays as it finds them, each input's block left in place, the two results named. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP m c t
    | ⟨5, _⟩ => outS m c t
  Φ t := iprop(held m c t.val ∗ rest m c)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outP m c t := by dsimp only [dats]
theorem after_5 (c : Dev nD) (t : Fin cfg0.N) : (dats m 0 c).after 5 t = outS m c t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) :
    (dats m 0 c).leavesExact 0 t = owns (c : Thread nD τ) (ms0_0 t) fullShare (iblk m c 0 t) := by
  unfold Dat.leavesExact; rw [liveAt0_0 t, after_0]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) :
    (dats m 0 c).leavesExact 1 t = owns (c : Thread nD τ) (ms0_1 t) fullShare (iblk m c 1 t) := by
  unfold Dat.leavesExact; rw [liveAt0_1 t, after_1]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) :
    (dats m 0 c).leavesExact 2 t = owns (c : Thread nD τ) (ms0_2 t) fullShare (iblk m c 2 t) := by
  unfold Dat.leavesExact; rw [liveAt0_2 t, after_2]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) :
    (dats m 0 c).leavesExact 3 t = owns (c : Thread nD τ) (ms0_3 t) fullShare (iblk m c 3 t) := by
  unfold Dat.leavesExact; rw [liveAt0_3 t, after_3]

theorem Phi_castSucc (c : Dev nD) (t : Fin cfg0.N) : (dats m 0 c).Φ t.castSucc = iprop(held m c t.val ∗ rest m c) := rfl
theorem Phi_succ (c : Dev nD) (t : Fin cfg0.N) : (dats m 0 c).Φ t.succ = iprop(held m c (t.val + 1) ∗ rest m c) := rfl

/-- The prompt's window is live at the first sixteen points, the samples' at the last. -/
theorem idle4 : ∀ t : Fin cfg0.N, cfg0.idle 4 (grid0.coords t) = !decide (t.val < 16) := by decide +kernel
@[inherit_doc idle4]
theorem idle5 : ∀ t : Fin cfg0.N, cfg0.idle 5 (grid0.coords t) = !decide (t.val % 17 = 16) := by decide +kernel
/-- The prompt's window is written back at every point but the sixteenth: the last two points share their rows. -/
theorem flush4 : ∀ t : Fin cfg0.N, (cfg0.win 4).flush t = !decide (t.val = 15) := by decide +kernel
/-- The prompt's rows are fetched at every point but the last. -/
theorem fetch0 : ∀ t : Fin cfg0.N, (cfg0.win 0).fetch t = !decide (t.val = 16) := by decide +kernel

/-- A window no transfer cuts is left as the body left it. -/
theorem kept_full {c : Dev nD} (dat : Dat τ (Elt F) Unit ℕ (Pipeline.UD sig nD τ) ℕ cfg0 c) (w : Fin cfg0.W) (t : Fin cfg0.N)
    (h : ∀ a, (cfg0.win w).clip (cfg0.grid.coords t) a = none) (d) : dat.kept w t d = dat.after w t := by
  unfold Dat.kept
  funext j
  have hm : (cfg0.win w).moved (cfg0.grid.coords t) j = true :=
    ((cfg0.win w).moved_iff _ j).mpr fun a => by have := (j a).isLt; unfold Window.xsize; rw [h a]; exact this
  unfold Window.fill; rw [dif_pos hm]

/-- The point before. -/
abbrev prev (t : Fin cfg0.N) : Fin cfg0.N := ⟨t.val - 1, Nat.lt_of_le_of_lt (Nat.sub_le _ _) t.isLt⟩

/-- The last two points see the same rows of the prompt, the same gains at every point. -/
theorem iblk0_last (c : Dev nD) (t : Fin cfg0.N) (h : t.val % 17 = 16) : iblk m c 0 t = iblk m c 0 (prev t) := by
  have hN : t.val < 17 := lt_of_lt_of_eq t.isLt (show cfg0.N = 17 from N_0)
  rw [← before_0 m c t (iblk m c 0 t), (dats m 0 c).before_of_pos 0 t (by omega) (by rw [fetch0, decide_eq_true (by omega)]; rfl)]
  rw [show (cfg0.win 0).flush (prev t) = false from rfl, if_neg Bool.false_ne_true]
  unfold Dat.left; rw [show cfg0.idle 0 (cfg0.grid.coords (prev t)) = false from rfl]
  exact (kept_full _ 0 _ (fun _ => rfl) _).trans (after_0 m c _)
theorem iblk2_prev (c : Dev nD) (t : Fin cfg0.N) : iblk m c 2 t = iblk m c 2 (prev t) := rfl
theorem iblk3_prev (c : Dev nD) (t : Fin cfg0.N) : iblk m c 3 t = iblk m c 3 (prev t) := rfl

theorem leaves4_live (c : Dev nD) (t : Fin cfg0.N) (h : t.val < 16) :
    (dats m 0 c).leavesExact 4 t = owns (c : Thread nD τ) (ms0_4 t) fullShare (outP m c t) := by
  have hi : cfg0.idle 4 (cfg0.grid.coords t) = false := by rw [idle4, decide_eq_true h]; rfl
  unfold Dat.leavesExact; rw [hi, after_4]
theorem leaves4_last (c : Dev nD) (t : Fin cfg0.N) (h : t.val % 17 = 16) :
    (dats m 0 c).leavesExact 4 t = owns (c : Thread nD τ) (ms0_4 t) fullShare (outP m c t) := by
  have hi : cfg0.idle 4 (cfg0.grid.coords t) = true := by rw [idle4, decide_eq_false (by omega)]; rfl
  have hf : (cfg0.win 4).flush t = true := by rw [flush4, decide_eq_false (by omega)]; rfl
  unfold Dat.leavesExact; rw [hi, hf, after_4]
theorem leaves5_live (c : Dev nD) (t : Fin cfg0.N) (h : t.val % 17 = 16) :
    (dats m 0 c).leavesExact 5 t = owns (c : Thread nD τ) (ms0_5 t) fullShare (outS m c t) := by
  have hi : cfg0.idle 5 (cfg0.grid.coords t) = false := by rw [idle5, decide_eq_true h]; rfl
  unfold Dat.leavesExact; rw [hi, after_5]
theorem leaves5_idle (c : Dev nD) (t : Fin cfg0.N) (h : ¬t.val % 17 = 16) :
    (dats m 0 c).leavesExact 5 t = iprop(∃ d, owns (c : Thread nD τ) (ms0_5 t) fullShare ((dats m 0 c).before 5 t d)) := by
  have hi : cfg0.idle 5 (cfg0.grid.coords t) = true := by rw [idle5, decide_eq_false h]; rfl
  exact (dats m 0 c).leavesExact_idle 5 t hi (Bool.eq_false_iff.mpr fun hf => h ((flush0_5 t).mp hf))
/-- At the last point the prompt's window still holds what the point before left, which is what it is to write back. -/
theorem before4_last (c : Dev nD) (t : Fin cfg0.N) (h : t.val % 17 = 16) (d) : (dats m 0 c).before 4 t d = outP m c t := by
  have hN : t.val < 17 := lt_of_lt_of_eq t.isLt (show cfg0.N = 17 from N_0)
  rw [(dats m 0 c).before_of_pos 4 t (by omega) rfl]
  have hf : (cfg0.win 4).flush ⟨t.val - 1, Nat.lt_of_le_of_lt (Nat.sub_le _ _) t.isLt⟩ = false := by
    rw [flush4, decide_eq_true (by show t.val - 1 = 15; omega)]; rfl
  have hi : cfg0.idle 4 (cfg0.grid.coords ⟨t.val - 1, Nat.lt_of_le_of_lt (Nat.sub_le _ _) t.isLt⟩) = false := by
    rw [idle4, decide_eq_true (by show t.val - 1 < 16; omega)]; rfl
  rw [hf, if_neg Bool.false_ne_true]
  unfold Dat.left; rw [hi]
  refine (kept_full _ 4 _ (fun _ => rfl) _).trans ((after_4 m c _).trans ?_)
  unfold outP; rw [iblk0_last m c t h, iblk2_prev m c t, iblk3_prev m c t]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 3600000 in
/-- The body at the first point. -/
theorem bodyA (c : Dev nD) (t : Fin cfg0.N) (h0 : t.val = 0) (h1 : t.val < 16) (h2 : ¬t.val % 17 = 16) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, Phi_castSucc, Phi_succ]
  unfold Dat.owesAt Pipeline.owesWithin
  rw [show (dats m 0 c).owed t.castSucc = 0 from rfl, show (dats m 0 c).owed t.succ = 0 from rfl]
  rw [show t.val = 0 from h0, held_zero, held_succ]; unfold rest
  rw [leaves4_live m c t h1, leaves5_idle m c t h2]
  iintro ⟨⟨⟨HS0, HS1, HS2⟩, HS3, HS4, HS5, Hg, ⟨Hq0, Hq1, Hq2, Hq3, Hq4, Hq5, Hq6, Hq7, Hq8, Hq9, Hq10, Hq11⟩, ⟨Hh0, Hh1, Hh2⟩⟩, ⟨%W, -, HW⟩, ⟨%d0, H0⟩, ⟨%d1, H1⟩, ⟨%d2, H2⟩, ⟨%d3, H3⟩, ⟨%d4, H4⟩, ⟨%d5, H5⟩⟩
  iapply ((runA c (grid0.coords t) _ _ _ _ _ _ _ _ _ _ _ _ _ _ _ _ _ _ _ _ _ _ _ _ ((hcond0_0 t).mpr (by omega)) ((hcond0_1 t).mpr h1) (fun h => h2 ((hcond0_2 t).mp h)) (iblk m c 0 t) (iblk m c 2 t) (iblk m c 3 t) (V m c main_v2) (V m c main_v3) (V m c main_v4)) W _)
  isplitl [H0]; · iexact H0
  isplitl [H2]; · iexact H2
  isplitl [H3]; · iexact H3
  isplitl [H4]; · iexists _; iexact H4
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hh0]; · iexact Hh0
  isplitl [Hh1]; · iexact Hh1
  isplitl [Hh2]; · iexact Hh2
  isplitl [HW]; · iexact HW
  iintro ⟨H0, H2, H3, H4, HS0, HS1, HS2, HS3, HS4, HS5, Hq0, Hq1, Hq2, Hq3, Hq4, Hq5, Hq6, Hq7, Hq8, Hq9, Hq10, Hq11, Hh0, Hh1, Hh2, ⟨%W', HW'⟩⟩
  isplitl [HS0 HS1 HS2 HS3 HS4 HS5 Hg Hq0 Hq1 Hq2 Hq3 Hq4 Hq5 Hq6 Hq7 Hq8 Hq9 Hq10 Hq11 Hh0 Hh1 Hh2]
  · isplitl [HS0 HS1 HS2]
    · isplitl [HS0]; · iexact HS0
      isplitl [HS1]; · iexact HS1
      iexact HS2
    isplitl [HS3]; · iexact HS3
    isplitl [HS4]; · iexact HS4
    isplitl [HS5]; · iexact HS5
    isplitl [Hg]; · iexact Hg
    isplitl [Hq0 Hq1 Hq2 Hq3 Hq4 Hq5 Hq6 Hq7 Hq8 Hq9 Hq10 Hq11]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      iexact Hq11
    isplitl [Hh0]; · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 3600000 in
/-- The body at a later point of the prompt. -/
theorem bodyB (c : Dev nD) (t : Fin cfg0.N) (h0 : ¬t.val % 17 = 0) (h1 : t.val < 16) (h2 : ¬t.val % 17 = 16) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, Phi_castSucc, Phi_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [hk, held_succ, held_succ]
  rw [leaves4_live m c t h1, leaves5_idle m c t h2]
  iintro ⟨⟨⟨HS0, HS1, HS2⟩, Hr⟩, ⟨%W, -, HW⟩, ⟨%d0, H0⟩, ⟨%d1, H1⟩, ⟨%d2, H2⟩, ⟨%d3, H3⟩, ⟨%d4, H4⟩, ⟨%d5, H5⟩⟩
  iapply ((runB c (grid0.coords t) _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 2 t) (iblk m c 3 t) (castW (V m c main_v2)) (castW (V m c main_v3)) (castD (V m c main_v4))) W _)
  isplitl [H0]; · iexact H0
  isplitl [H2]; · iexact H2
  isplitl [H3]; · iexact H3
  isplitl [H4]; · iexists _; iexact H4
  isplitl [HS0]; · iexact HS0
  isplitl [HS1]; · iexact HS1
  isplitl [HS2]; · iexact HS2
  isplitl [HW]; · iexact HW
  iintro ⟨H0, H2, H3, H4, HS0, HS1, HS2, ⟨%W', HW'⟩⟩
  isplitl [HS0 HS1 HS2 Hr]
  · isplitl [HS0 HS1 HS2]
    · isplitl [HS0]; · iexact HS0
      isplitl [HS1]; · iexact HS1
      iexact HS2
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 3600000 in
/-- The body at the samples' point. -/
theorem bodyC (c : Dev nD) (t : Fin cfg0.N) (h0 : ¬t.val % 17 = 0) (h1 : ¬t.val < 16) (h2 : t.val % 17 = 16) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [leaves_0, leaves_1, leaves_2, leaves_3, Phi_castSucc, Phi_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [hk, held_succ, held_succ]
  simp only [before4_last m c t h2]
  rw [leaves4_last m c t h2, leaves5_live m c t h2]
  iintro ⟨⟨⟨HS0, HS1, HS2⟩, Hr⟩, ⟨%W, -, HW⟩, ⟨%d0, H0⟩, ⟨%d1, H1⟩, ⟨%d2, H2⟩, ⟨%d3, H3⟩, ⟨%d4, H4⟩, ⟨%d5, H5⟩⟩
  iapply ((runC c (grid0.coords t) _ _ _ _ _ _ _ _ _ _ _ _ _ _ _ _ _ _ _ _ _ _ _ _ (fun h => h0 ((hcond0_0 t).mp h)) (fun h => h1 ((hcond0_1 t).mp h)) ((hcond0_2 t).mpr h2) (iblk m c 1 t) (iblk m c 2 t) (iblk m c 3 t) (castW (V m c main_v2)) (castW (V m c main_v3)) (castD (V m c main_v4))) W _)
  isplitl [H1]; · iexact H1
  isplitl [H2]; · iexact H2
  isplitl [H3]; · iexact H3
  isplitl [H5]; · iexists _; iexact H5
  isplitl [HS0]; · iexact HS0
  isplitl [HS1]; · iexact HS1
  isplitl [HS2]; · iexact HS2
  isplitl [HW]; · iexact HW
  iintro ⟨H1, H2, H3, H5, HS0, HS1, HS2, ⟨%W', HW'⟩⟩
  isplitl [HS0 HS1 HS2 Hr]
  · isplitl [HS0 HS1 HS2]
    · isplitl [HS0]; · iexact HS0
      isplitl [HS1]; · iexact HS1
      iexact HS2
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 17 := lt_of_lt_of_eq t.isLt (show cfg0.N = 17 from N_0)
  by_cases h1 : t.val < 16
  · by_cases h0 : t.val = 0
    · exact bodyA m c t h0 h1 (by omega)
    · exact bodyB m c t (by omega) h1 (by omega)
  · exact bodyC m c t (by omega) h1 (by omega)

theorem row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

theorem enter (c : Dev nD) : Pipeline.ΦD osem0 spec0 H0 (V m) c ⊢ (dats m 0 c).Φ 0 := by
  rw [PhiD0_eq, show (dats m 0 c).Φ 0 = iprop(held m c 0 ∗ rest m c) from rfl]
  unfold held rest
  iintro ⟨⟨HS0, HS1, HS2, HS3, HS4, HS5⟩, Hr⟩
  isplitl [HS0 HS1 HS2]
  · isplitl [HS0]; · iexact HS0
    isplitl [HS1]; · iexact HS1
    iexact HS2
  isplitl [HS3]; · iexact HS3
  isplitl [HS4]; · iexact HS4
  isplitl [HS5]; · iexact HS5
  iexact Hr

theorem leave (c : Dev nD) : (dats m 0 c).Φ (Fin.last cfg0.N) ⊢ Pipeline.ΦD osem0 spec0 H0 (V m) c := by
  rw [PhiD0_eq, show (dats m 0 c).Φ (Fin.last cfg0.N) = iprop(held m c (16 + 1) ∗ rest m c) from rfl]
  unfold held rest
  iintro ⟨⟨HS0, HS1, HS2⟩, HS3, HS4, HS5, Hr⟩
  isplitl [HS0 HS1 HS2 HS3 HS4 HS5]
  · isplitl [HS0]; · iexists _; iexact HS0
    isplitl [HS1]; · iexists _; iexact HS1
    isplitl [HS2]; · iexists _; iexact HS2
    isplitl [HS3]; · iexact HS3
    isplitl [HS4]; · iexact HS4
    iexact HS5
  iexact Hr

set_option backward.isDefEq.respectTransparency.types false in
/-- THE RUN, over any element interpretation: every weakly fair execution of @main ends with each array of the call at
    what the proof data names, every other argument as it was, and every counter at zero. -/
theorem run : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := enter m) (hout := leave m)

end Cert.Kernel2.Ffn

end
-- ==== Proof.Ffn.Ref.lean ====
module

public import proofs.«01_k».proof.Proof.Ffn.Math
public import proofs.«01_k».proof.Proof.Gen.Reference2Ideal.Run

@[expose] public section

set_option maxRecDepth 16384

noncomputable section

namespace Cert.Reference2Ideal.Ffn

open Idealize.ShloMosaic Idealize.ShloMosaic.TcCoe
open Cert.Reference2Ideal Cert.Reference2Ideal.Gen
open Cert.Kernel2.Ffn (rmsR hidR ffnR)

/-- The reference's norm of the prompt, -/
def rmsP (x : FVec Ideal S4x4096x1024 .f32) (g : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- its product into the hidden units, -/
def upP (h : FVec Ideal S4x4096x1024 .f32) (w : FVec Ideal S1x1024x2816 .f32) : FVec Ideal S4x4096x2816 .f32 :=
  Host.dotGeneral dot_S4x4096x1024_S1024x2816_S4x4096x2816_2_0_01_1_n_n none h (shapeCast _ w shapeCasts_S1x1024x2816_S1024x2816)

/-- its hidden units, -/
def hidP (g u : FVec Ideal S4x4096x2816 .f32) : FVec Ideal S4x4096x2816 .f32 :=
  mulf (mulf g (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf g))))) u

/-- and its product down. -/
def downP (u : FVec Ideal S4x4096x2816 .f32) (w : FVec Ideal S1x2816x1024 .f32) : FVec Ideal S4x4096x1024 .f32 :=
  Host.dotGeneral dot_S4x4096x2816_S2816x1024_S4x4096x1024_2_0_01_1_n_n none u (shapeCast _ w shapeCasts_S1x2816x1024_S2816x1024)

/-- The reference's half feed-forward block of the prompt. -/
def ffnP (x : FVec Ideal S4x4096x1024 .f32) (pre post : FVec Ideal S1x1024 .f32) (wg wu : FVec Ideal S1x1024x2816 .f32) (wd : FVec Ideal S1x2816x1024 .f32) : FVec Ideal S4x4096x1024 .f32 :=
  addf x (mulf (broadcastInDim S4x4096x1024 ![] bcast_S_S4x4096x1024 (constant S_ .f32 0x3F000000#32))
    (rmsP (downP (hidP (upP (rmsP x pre) wg) (upP (rmsP x pre) wu)) wd) post))

theorem rmsP_at (x : FVec Ideal S4x4096x1024 .f32) (g : FVec Ideal S1x1024 .f32) (a : Fin 4) (b : Fin 4096) (j : Fin 1024) :
    rmsP x g (ix3 a b j) = rmsR (fun k => x (ix3 a b k)) (fun k => g (ix2 0 k)) j := by
  pointwise [rmsP, rmsR]

theorem upP_at (h : FVec Ideal S4x4096x1024 .f32) (w : FVec Ideal S1x1024x2816 .f32) (a : Fin 4) (b : Fin 4096) (j : Fin 2816) :
    upP h w (ix3 a b j) = ∑ k : Fin 1024, h (ix3 a b k) * w (ix3 0 k j) := by
  pointwise [upP]

theorem hidP_at (g u : FVec Ideal S4x4096x2816 .f32) (a : Fin 4) (b : Fin 4096) (j : Fin 2816) :
    hidP g u (ix3 a b j) = g (ix3 a b j) * Ideal.logistic (g (ix3 a b j)) * u (ix3 a b j) := by
  pointwise [hidP, Ideal.logistic]

theorem downP_at (u : FVec Ideal S4x4096x2816 .f32) (w : FVec Ideal S1x2816x1024 .f32) (a : Fin 4) (b : Fin 4096) (j : Fin 1024) :
    downP u w (ix3 a b j) = ∑ k : Fin 2816, u (ix3 a b k) * w (ix3 0 k j) := by
  pointwise [downP]

/-- It is the block of every row. -/
theorem ffnP_at (x : FVec Ideal S4x4096x1024 .f32) (pre post : FVec Ideal S1x1024 .f32) (wg wu : FVec Ideal S1x1024x2816 .f32) (wd : FVec Ideal S1x2816x1024 .f32) (a : Fin 4) (b : Fin 4096) (j : Fin 1024) :
    ffnP x pre post wg wu wd (ix3 a b j)
      = ffnR (fun k => x (ix3 a b k)) (fun k => pre (ix2 0 k)) (fun k => post (ix2 0 k)) (fun k n => wg (ix3 0 k n)) (fun k n => wu (ix3 0 k n)) (fun n k => wd (ix3 0 n k)) j := by
  pointwise [ffnP, rmsP_at, downP_at, hidP_at, upP_at, ffnR, hidR]

/-- The reference's norm of the samples, -/
def rmsS (x : FVec Ideal S128x1x1024 .f32) (g : FVec Ideal S1x1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ g shapeCasts_S1x1024_S1024)))

/-- its product into the hidden units, -/
def upS (h : FVec Ideal S128x1x1024 .f32) (w : FVec Ideal S1x1024x2816 .f32) : FVec Ideal S128x1x2816 .f32 :=
  Host.dotGeneral dot_S128x1x1024_S1024x2816_S128x1x2816_2_0_01_1_n_n none h (shapeCast _ w shapeCasts_S1x1024x2816_S1024x2816)

/-- its hidden units, -/
def hidS (g u : FVec Ideal S128x1x2816 .f32) : FVec Ideal S128x1x2816 .f32 :=
  mulf (mulf g (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf g))))) u

/-- and its product down. -/
def downS (u : FVec Ideal S128x1x2816 .f32) (w : FVec Ideal S1x2816x1024 .f32) : FVec Ideal S128x1x1024 .f32 :=
  Host.dotGeneral dot_S128x1x2816_S2816x1024_S128x1x1024_2_0_01_1_n_n none u (shapeCast _ w shapeCasts_S1x2816x1024_S2816x1024)

/-- The reference's half feed-forward block of the samples. -/
def ffnS (x : FVec Ideal S128x1x1024 .f32) (pre post : FVec Ideal S1x1024 .f32) (wg wu : FVec Ideal S1x1024x2816 .f32) (wd : FVec Ideal S1x2816x1024 .f32) : FVec Ideal S128x1x1024 .f32 :=
  addf x (mulf (broadcastInDim S128x1x1024 ![] bcast_S_S128x1x1024 (constant S_ .f32 0x3F000000#32))
    (rmsS (downS (hidS (upS (rmsS x pre) wg) (upS (rmsS x pre) wu)) wd) post))

theorem rmsS_at (x : FVec Ideal S128x1x1024 .f32) (g : FVec Ideal S1x1024 .f32) (a : Fin 128) (j : Fin 1024) :
    rmsS x g (ix3 a 0 j) = rmsR (fun k => x (ix3 a 0 k)) (fun k => g (ix2 0 k)) j := by
  pointwise [rmsS, rmsR]

theorem upS_at (h : FVec Ideal S128x1x1024 .f32) (w : FVec Ideal S1x1024x2816 .f32) (a : Fin 128) (j : Fin 2816) :
    upS h w (ix3 a 0 j) = ∑ k : Fin 1024, h (ix3 a 0 k) * w (ix3 0 k j) := by
  pointwise [upS]

theorem hidS_at (g u : FVec Ideal S128x1x2816 .f32) (a : Fin 128) (j : Fin 2816) :
    hidS g u (ix3 a 0 j) = g (ix3 a 0 j) * Ideal.logistic (g (ix3 a 0 j)) * u (ix3 a 0 j) := by
  pointwise [hidS, Ideal.logistic]

theorem downS_at (u : FVec Ideal S128x1x2816 .f32) (w : FVec Ideal S1x2816x1024 .f32) (a : Fin 128) (j : Fin 1024) :
    downS u w (ix3 a 0 j) = ∑ k : Fin 2816, u (ix3 a 0 k) * w (ix3 0 k j) := by
  pointwise [downS]

/-- It is the block of every row. -/
theorem ffnS_at (x : FVec Ideal S128x1x1024 .f32) (pre post : FVec Ideal S1x1024 .f32) (wg wu : FVec Ideal S1x1024x2816 .f32) (wd : FVec Ideal S1x2816x1024 .f32) (a : Fin 128) (j : Fin 1024) :
    ffnS x pre post wg wu wd (ix3 a 0 j)
      = ffnR (fun k => x (ix3 a 0 k)) (fun k => pre (ix2 0 k)) (fun k => post (ix2 0 k)) (fun k n => wg (ix3 0 k n)) (fun k n => wu (ix3 0 k n)) (fun n k => wd (ix3 0 n k)) j := by
  pointwise [ffnS, rmsS_at, downS_at, hidS_at, upS_at, ffnR, hidR]

variable (m : (ℓ : Loc nD τ sig) → Buf (Elt Ideal) ℓ)

/-- The reference's two results are these. -/
theorem res0 (c : Dev nD) : Value.res_main_v73 m c = shapeCast S16384x1024 (ffnP (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) shapeCasts_S4x4096x1024_S16384x1024 := rfl
@[inherit_doc res0]
theorem res1 (c : Dev nD) : Value.res_main_v72 m c = ffnS (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

end Cert.Reference2Ideal.Ffn

end
-- ==== Proof.Ffn.Final.lean ====
module

public import proofs.«01_k».proof.Proof.Ffn.Run
public import proofs.«01_k».proof.Proof.Ffn.Ref
public import Idealize.ShloMosaic.Lib.Pipeline.ValueKit
public import Idealize.ShloMosaic.Lib.Claim

@[expose] public section

set_option maxRecDepth 16384

noncomputable section

namespace Cert.Kernel2.Ffn

open Idealize.ShloMosaic Idealize.ShloMosaic.TcCoe Idealize.SL.Sem
open Idealize.ShloMosaic.Pipeline (Dat)
open Cert.Kernel2 Cert.Kernel2.Gen

variable (m : (ℓ : Loc nD τ sig) → Buf (Elt Ideal) ℓ)

/-- Where the windows' blocks lie at each point. -/
theorem idx : ∀ t : Fin cfg0.N, win0_0.index t = ![min t.val 15, 0] ∧ win0_1.index t = ![0, 0] ∧ win0_2.index t = ![0, 0]
    ∧ win0_3.index t = ![0, 0] ∧ win0_4.index t = ![min t.val 15, 0] ∧ win0_5.index t = ![0, 0, 0] ∧ t.val < 17 :=
  (by decide +kernel : ∀ t : Fin grid0.N, _)

/-- The reshaped weights as the body reads them. -/
theorem wg_at (c : Dev nD) (a : Fin 1024) (b : Fin 2816) : (show FVec Ideal S1024x2816 .f32 from V m c main_v2) (ix2 a b) = (show FVec Ideal S1x1024x2816 .f32 from m ((c : Thread nD τ).loc main_arg4)) (ix3 0 a b) := by
  entry_read; pointwise
theorem wu_at (c : Dev nD) (a : Fin 1024) (b : Fin 2816) : (show FVec Ideal S1024x2816 .f32 from V m c main_v3) (ix2 a b) = (show FVec Ideal S1x1024x2816 .f32 from m ((c : Thread nD τ).loc main_arg5)) (ix3 0 a b) := by
  entry_read; pointwise
theorem wd_at (c : Dev nD) (a : Fin 2816) (b : Fin 1024) : (show FVec Ideal S2816x1024 .f32 from V m c main_v4) (ix2 a b) = (show FVec Ideal S1x2816x1024 .f32 from m ((c : Thread nD τ).loc main_arg6)) (ix3 0 a b) := by
  entry_read; pointwise
theorem x_at (c : Dev nD) (a : Fin 16384) (b : Fin 1024) : (show FVec Ideal S16384x1024 .f32 from V m c main_v0) (ix2 a b)
    = (show FVec Ideal S4x4096x1024 .f32 from m ((c : Thread nD τ).loc main_arg0)) (ix3 ⟨a.val / 4096, by omega⟩ ⟨a.val % 4096, by omega⟩ b) := by
  entry_read; pointwise
theorem s_at (c : Dev nD) (a : Fin 128) (b : Fin 1024) : (show FVec Ideal S128x1024 .f32 from V m c main_v1) (ix2 a b)
    = (show FVec Ideal S128x1x1024 .f32 from m ((c : Thread nD τ).loc main_arg1)) (ix3 a 0 b) := by
  entry_read; pointwise

/-- The prompt's tile at a point, the samples and the gains, as the body reads them. -/
theorem x0 (c : Dev nD) (t : Fin cfg0.N) (a b : Fin 1024) : (show FVec Ideal S1024x1024 .f32 from iblk m c 0 t) (ix2 a b)
    = (show FVec Ideal S16384x1024 .f32 from V m c main_v0) (ix2 ⟨min t.val 15 * 1024 + a.val, by omega⟩ b) := by
  blk_ext [iblk, idx t]
theorem x1 (c : Dev nD) (t : Fin cfg0.N) (a : Fin 128) (b : Fin 1024) : (show FVec Ideal S128x1024 .f32 from iblk m c 1 t) (ix2 a b)
    = (show FVec Ideal S128x1024 .f32 from V m c main_v1) (ix2 a b) := by
  blk_ext [iblk, idx t]
theorem x2 (c : Dev nD) (t : Fin cfg0.N) (b : Fin 1024) : (show FVec Ideal S1x1024 .f32 from iblk m c 2 t) (ix2 0 b)
    = (show FVec Ideal S1x1024 .f32 from m ((c : Thread nD τ).loc main_arg2)) (ix2 0 b) := by
  blk_ext [iblk, V, idx t]
theorem x3 (c : Dev nD) (t : Fin cfg0.N) (b : Fin 1024) : (show FVec Ideal S1x1024 .f32 from iblk m c 3 t) (ix2 0 b)
    = (show FVec Ideal S1x1024 .f32 from m ((c : Thread nD τ).loc main_arg3)) (ix2 0 b) := by
  blk_ext [iblk, V, idx t]

/-- The two results over the whole arrays, as functions of the arguments: the reference's. -/
def G0 (c : Dev nD) : FVec Ideal S16384x1024 .f32 :=
  shapeCast S16384x1024 (Cert.Reference2Ideal.Ffn.ffnP (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))) Cert.Reference2Ideal.Gen.shapeCasts_S4x4096x1024_S16384x1024
@[inherit_doc G0]
def G1 (c : Dev nD) : FVec Ideal S128x1x1024 .f32 :=
  Cert.Reference2Ideal.Ffn.ffnS (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

theorem G0_at (c : Dev nD) (a : Fin 16384) (j : Fin 1024) : G0 m c (ix2 a j)
    = Cert.Reference2Ideal.Ffn.ffnP (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
        (ix3 ⟨a.val / 4096, by omega⟩ ⟨a.val % 4096, by omega⟩ j) := by
  unfold G0; pointwise

/-- What the body leaves of a tile is the reference's rows there. -/
theorem outP_at (c : Dev nD) (t : Fin cfg0.N) (r j : Fin 1024) (h : min t.val 15 * 1024 + r.val < 16384) :
    outP m c t (ix2 r j) = G0 m c (ix2 ⟨min t.val 15 * 1024 + r.val, h⟩ j) := by
  refine (ffnP_at _ _ _ _ _ _ r j).trans (Eq.trans ?_ ((G0_at m c ⟨_, h⟩ j).trans (Cert.Reference2Ideal.Ffn.ffnP_at _ _ _ _ _ _ _ _ _)).symm)
  congr 1
  · exact funext fun k => (x0 m c t r k).trans (x_at m c _ k)
  · exact funext fun k => x2 m c t k
  · exact funext fun k => x3 m c t k
  · exact funext fun a => funext fun b => wg_at m c a b
  · exact funext fun a => funext fun b => wu_at m c a b
  · exact funext fun a => funext fun b => wd_at m c a b

/-- And of the samples. -/
theorem outS_at (c : Dev nD) (t : Fin cfg0.N) (r : Fin 128) (j : Fin 1024) : outS m c t (ix3 r 0 j) = G1 m c (ix3 r 0 j) := by
  refine (ffnS_at _ _ _ _ _ _ r j).trans (Eq.trans ?_ (Cert.Reference2Ideal.Ffn.ffnS_at _ _ _ _ _ _ _ _).symm)
  congr 1
  · exact funext fun k => (x1 m c t r k).trans (s_at m c _ k)
  · exact funext fun k => x2 m c t k
  · exact funext fun k => x3 m c t k
  · exact funext fun a => funext fun b => wg_at m c a b
  · exact funext fun a => funext fun b => wu_at m c a b
  · exact funext fun a => funext fun b => wd_at m c a b

/-- The prompt's result array after the run. -/
theorem final4 (c : Dev nD) : (dats m 0 c).arrAt 4 cfg0.N = G0 m c := by
  refine (dats m 0 c).arrAt_eq_of_covers 4 _ (by decide +kernel) fun t hf y => ?_
  blk_simp
  rw [after_4]
  have ht := (idx t).2.2.2.2.2.2
  have e := (idx t).2.2.2.2.1
  have hy : (y 0).val < 1024 := (y 0).isLt
  rw [show y = ix2 (y 0) (y 1) from eq_ix2 y]
  refine (outP_at m c t (y 0) (y 1) (by omega)).trans ?_
  blk_ext [e]

/-- The samples' result array after the run. -/
theorem final5 (c : Dev nD) : (dats m 0 c).arrAt 5 cfg0.N = G1 m c := by
  refine (dats m 0 c).arrAt_eq_of_covers 5 _ (by decide +kernel) fun t hf y => ?_
  blk_simp
  rw [after_5]
  have e := (idx t).2.2.2.2.2.1
  have hy : (y 1).val < 1 := (y 1).isLt
  rw [show y = ix3 (y 0) 0 (y 2) by idx_ext <;> omega]
  refine (outS_at m c t (y 0) (y 2)).trans ?_
  blk_ext [e]

end Cert.Kernel2.Ffn

end
-- ==== Proof.Ffn.Claims.lean ====
module

public import proofs.«01_k».proof.Defs
public import proofs.«01_k».proof.Proof.Ffn.Twin
public import proofs.«01_k».proof.Proof.Ffn.Final
public import Idealize.ShloMosaic.Lib.Quiescent

@[expose] public section

set_option maxRecDepth 16384

noncomputable section

namespace Cert.Kernel2.Ffn

open Idealize.ShloMosaic Idealize.ShloMosaic.TcCoe Idealize.SL.Sem
open Cert.Kernel2 Cert.Kernel2.Gen

/-- The call's run over any float values: the two result arrays as the pipeline leaves them, the arguments unchanged,
    every counter at zero. -/
theorem outcome {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v5_0) = (dats m 0 c).arrAt 4 cfg0.N
      ∧ r.2.mem ((c.tc : Thread nD τ).loc main_v5_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 4, (h.1 c).1 5,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run m ρ)

/-- The frames: the kernel's, -/
theorem quiet : Cert.quiescent_Kernel2 := fun m ρ _ =>
  (θ_run defs _ _).mono (fun _ h => ⟨fun c => (h.1 c).2.2, h.2⟩) (outcome m ρ)

/-- the idealized program's, which is the same text, -/
theorem quietI : Cert.quiescent_Kernel2Ideal := fun m ρ _ => by
  rw [twin_defs]
  exact (θ_run defs _ _).mono (fun _ h => ⟨fun c => (h.1 c).2.2, h.2⟩) (outcome (F := Ideal) m ρ)

/-- and the reference's. -/
theorem quietR : Cert.quiescent_Reference2Ideal := fun m ρ _ =>
  (θ_run _ _ _).mono (fun r h => ⟨fun c => (h c).2.2, sem_eq_zero_of_no_sems (by decide) r.2⟩) (Cert.Reference2Ideal.Value.run m ρ)

/-- The kernel computes the reference's function. -/
theorem algebraic : Cert.algebraic_Kernel2Ideal_Reference2Ideal := fun m g m' g' _ hag => by
  refine ⟨fun c => G0 m c, fun c => G1 m c, ?_, ?_⟩
  · rw [twin_defs]
    exact (θ_run defs _ _).mono (fun _ h c => ⟨(h.1 c).1.trans (final4 m c), (h.1 c).2.1.trans (final5 m c), (h.1 c).2.2⟩) (outcome (F := Ideal) m g)
  · refine (θ_run _ _ _).mono (fun r h c => ?_) (Cert.Reference2Ideal.Value.run m' g')
    obtain ⟨a0, a1, a2, a3, a4, a5, a6⟩ := hag c
    refine ⟨(h c).1.trans ?_, (h c).2.1.trans ?_, (h c).2.2⟩
    · rw [Cert.Reference2Ideal.Ffn.res0, a0, a2, a3, a4, a5, a6]; rfl
    · rw [Cert.Reference2Ideal.Ffn.res1, a1, a2, a3, a4, a5, a6]; rfl

end Cert.Kernel2.Ffn

end
-- ==== Proof.Pre.Twin.lean ====
module

public import proofs.«01_k».proof.Proof.Gen.Kernel3
public import proofs.«01_k».proof.Proof.Gen.Kernel3Ideal

@[expose] public section

set_option maxRecDepth 16384
set_option maxHeartbeats 0

noncomputable section

namespace Cert.Kernel3.Pre

open Idealize.ShloMosaic Idealize.ShloMosaic.TcCoe

variable {F : FTy → Type} [FloatOps F]

/-- The idealized program is the kernel's own text: the body, -/
theorem twin_body : Cert.Kernel3Ideal.cc0_mix_prompt (F := F) = Cert.Kernel3.cc0_mix_prompt (F := F) := rfl

/-- the body's table, -/
theorem twin_table : Cert.Kernel3Ideal.defs₀ (F := F) = Cert.Kernel3.defs₀ (F := F) := by
  refine congrArg Defs.onTc ?_
  funext l x
  match l, x with
  | 0, (t, s) => rfl

/-- the whole table, -/
theorem twin_defs : Cert.Kernel3Ideal.defs (F := F) = Cert.Kernel3.defs (F := F) :=
  congrArg (Pipeline.defs (Cert.Kernel3.pcfgs (F := F))) twin_table

/-- and the host program. -/
theorem twin_main : Cert.Kernel3Ideal.main (F := F) = Cert.Kernel3.main (F := F) := rfl

end Cert.Kernel3.Pre

end
-- ==== Proof.Pre.Kit.lean ====
/- The launch set-up of the prompts' mixer call, over any float model: the arrays when the region is entered, the
   blocks of the windows, the branch conditions over the points, and the region invariant taken apart into its scratch,
   semaphores and the operands the body copies itself. -/
module

public import proofs.«01_k».proof.Proof.Gen.Kernel3.Launch
public import proofs.«01_k».proof.Proof.Gen.Kernel3.Skeleton
public import proofs.«01_k».proof.Proof.Gen.Kernel3.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The weights are copied in: at the first point only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 := (by decide +kernel : ∀ t : Fin grid0.N, _)
/-- The windows and the state are cleared: at a prompt's first tile. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 := (by decide +kernel : ∀ t : Fin grid0.N, _)
/-- The windows and the state are stored: at a prompt's last tile. -/
abbrev cond0_2 (i : grid0.Coords) : Prop := k0_cond3 i = 1#1
theorem hcond0_2 : ∀ t : Fin cfg0.N, cond0_2 (grid0.coords t) ↔ t.val % 8 = 7 := (by decide +kernel : ∀ t : Fin grid0.N, _)

/-! ## Staging buffers, scratch and the operands left in HBM -/

abbrev ms0_0 (t : Fin cfg0.N) : Memref sig .tc .smem S1x8 .f32 := win0_0.stage (cfg0.slots t 0)
abbrev ms0_1 (t : Fin cfg0.N) : Memref sig .tc .vmem S512x1024 .f32 := win0_1.stage (cfg0.slots t 1)
abbrev ms0_2 (t : Fin cfg0.N) : Memref sig .tc .vmem S1x1024 .f32 := win0_2.stage (cfg0.slots t 2)
abbrev ms0_3 (t : Fin cfg0.N) : Memref sig .tc .vmem S1x1024 .f32 := win0_3.stage (cfg0.slots t 3)
abbrev ms0_4 (t : Fin cfg0.N) : Memref sig .tc .vmem S2x512 .f32 := win0_4.stage (cfg0.slots t 4)
abbrev ms0_5 (t : Fin cfg0.N) : Memref sig .tc .vmem S1x128 .f32 := win0_5.stage (cfg0.slots t 5)
abbrev ms0_6 (t : Fin cfg0.N) : Memref sig .tc .vmem S128x128 .i32 := win0_6.stage (cfg0.slots t 6)
abbrev ms0_7 (t : Fin cfg0.N) : Memref sig .tc .vmem S512x1024 .f32 := win0_7.stage (cfg0.slots t 7)
abbrev ms0_8 (t : Fin cfg0.N) : Memref sig .tc .vmem S1x128x128 .f32 := win0_8.stage (cfg0.slots t 8)
abbrev ms0_9 (t : Fin cfg0.N) : Memref sig .tc .vmem S1x128x128 .f32 := win0_9.stage (cfg0.slots t 9)
abbrev ms0_10 (t : Fin cfg0.N) : Memref sig .tc .vmem S1x512x128 .f32 := win0_10.stage (cfg0.slots t 10)
abbrev scM0_0 : Memref sig .tc .vmem S1024x4864 .bf16 := Memref.whole cc0_scratch0
abbrev scM0_1 : Memref sig .tc .vmem S512x1024 .bf16 := Memref.whole cc0_scratch1
abbrev scM0_2 : Memref sig .tc .vmem S512x1024 .bf16 := Memref.whole cc0_scratch2
abbrev scM0_3 : Memref sig .tc .vmem S1024x1024 .bf16 := Memref.whole cc0_scratch3
abbrev scM0_4 : Memref sig .tc .vmem S640x128 .f32 := Memref.whole cc0_scratch4
abbrev scM0_5 : Memref sig .tc .vmem S640x128 .f32 := Memref.whole cc0_scratch5
abbrev scM0_6 : Memref sig .tc .vmem S512x128 .f32 := Memref.whole cc0_scratch6
abbrev scM0_7 : Memref sig .tc .vmem S512x512 .f32 := Memref.whole cc0_scratch7
abbrev scM0_8 : Memref sig .tc .vmem S512x512 .f32 := Memref.whole cc0_scratch8
abbrev scM0_9 : Memref sig .tc .vmem S512x512 .f32 := Memref.whole cc0_scratch9
abbrev scM0_10 : Memref sig .tc .vmem S512x512 .f32 := Memref.whole cc0_scratch10
abbrev scM0_11 : Memref sig .tc .vmem S512x512 .f32 := Memref.whole cc0_scratch11
abbrev scM0_12 : Memref sig .tc .vmem S512x512 .f32 := Memref.whole cc0_scratch12
abbrev scM0_13 : Memref sig .tc .vmem S512x2560 .f32 := Memref.whole cc0_scratch13
abbrev scM0_14 : Memref sig .tc .vmem S512x512 .f32 := Memref.whole cc0_scratch14
abbrev scM0_15 : Memref sig .tc .vmem S7x512x512 .bf16 := Memref.whole cc0_scratch15
abbrev scM0_16 : Memref sig .tc .vmem S512x512 .bf16 := Memref.whole cc0_scratch16
abbrev scM0_17 : Memref sig .tc .vmem S512x512 .bf16 := Memref.whole cc0_scratch17
abbrev scM0_18 : Memref sig .tc .vmem S4x64x4864 .f32 := Memref.whole cc0_scoped0
abbrev scM0_19 : Memref sig .tc .vmem S1x512x1024 .f32 := Memref.whole cc0_scoped2
abbrev scM0_20 : Memref sig .tc .vmem S1x512x1024 .f32 := Memref.whole cc0_scoped4
abbrev scM0_21 : Memref sig .tc .vmem S2x512x1024 .f32 := Memref.whole cc0_scoped6
/-- The operands left in HBM that the body copies into scratch itself, whole. -/
abbrev hbM0_0 : Memref sig .tc .hbm S1024x4864 .f32 := Memref.whole main_v1
abbrev hbM0_1 : Memref sig .tc .hbm S512x1024 .f32 := Memref.whole main_v2
abbrev hbM0_2 : Memref sig .tc .hbm S512x1024 .f32 := Memref.whole main_v3
abbrev hbM0_3 : Memref sig .tc .hbm S1024x1024 .f32 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 8 → SemLoc sig := fun j => (![SemLoc.dma 16, SemLoc.dma 17, SemLoc.dma 18, SemLoc.dma 19, SemLoc.dma 20, SemLoc.dma 21, SemLoc.dma 22, SemLoc.dma 23] : Fin 8 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c osem0 [0, 1, 2, 3, 4, 5, 6, 7] (by decide) (by decide)]; rfl
/-- The HBM operands the body moves, as references: unscoped, no window's array (`Pipeline.restRefs`). -/
def H0 : Finset (Ref sig .tc) := {main_v1, main_v2, main_v3, main_v4}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v1) ∗ hbPt0 c hbM0_1 (V m c main_v2) ∗ hbPt0 c hbM0_2 (V m c main_v3) ∗ hbPt0 c hbM0_3 (V m c main_v4)) := by
  rw [BI.bigSep_eq_bigSepL_of_eq [main_v1, main_v2, main_v3, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(hbPt0 c hbM0_0 (V m c main_v1) ∗ hbPt0 c hbM0_1 (V m c main_v2) ∗ hbPt0 c hbM0_2 (V m c main_v3) ∗ hbPt0 c hbM0_3 (V m c main_v4))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, scM0_21, owns_whole]; try rfl

end Cert.Kernel3.Gen

end
-- ==== Proof.Pre.Pay.lean ====
/- What the prompt's mixer stores of a sequence's last window: the keys and the values of its last 128 tokens, from the block of
   tokens, the gains and the projections' matrix. -/
module

public import proofs.«01_k».proof.Proof.Pre.Kit
public import proofs.«01_k».proof.Proof.Ffn.Stage
public import Idealize.ShloMosaic.Lib.ValueIdx
public import Idealize.ShloMosaic.Lib.Pipeline.ValueKit.Tiles

@[expose] public section

set_option maxRecDepth 16384

noncomputable section

namespace Cert.Kernel3.Pre

open Idealize.ShloMosaic Idealize.ShloMosaic.TcCoe Idealize.ShloMosaic.ValueIdx
open Cert.Kernel3 Cert.Kernel3.Gen

variable {F : FTy → Type} [FloatOps F]

/-- The projections' matrix as the scratch holds it, rounded. -/
def castW (f : Vec F S1024x4864 .f32) : Vec F S1024x4864 .bf16 := truncf .bf16 f bitsLt_bf16_f32

/-- The matrix's columns of the queries, the keys and the values, -/
def colA (W : Vec F S1024x4864 .bf16) : Vec F S1024x768 .bf16 := View.ld W (Rect.unit (s := S1024x4864) ![0, 0] S1024x768.size inb_S1024x4864_S1024x768_0_0)
/-- the first half of a block of tokens -/
def rowsA (x : Vec F S512x1024 .f32) : Vec F S256x1024 .f32 := View.ld x (Rect.unit (s := S512x1024) ![0, 0] S256x1024.size inb_S512x1024_S256x1024_0_0)
/-- and the second. -/
def rowsB (x : Vec F S512x1024 .f32) : Vec F S256x1024 .f32 := View.ld x (Rect.unit (s := S512x1024) ![256, 0] S256x1024.size inb_S512x1024_S256x1024_256_0)

/-- The block's projections to queries, keys and values. -/
def qkvV (x : Vec F S512x1024 .f32) (g : Vec F S1x1024 .f32) (W : Vec F S1024x4864 .bf16) : FVec F S512x768 .f32 :=
  k0_pay38 (k0_pay33 (rowsA x) g (colA W)) (k0_pay34 (rowsB x)) g (k0_pay35 (rowsB x)) (Scalar.ofBits .f32 0x358637BD#32) (colA W)

/-- The last 128 of 512 rows. -/
def lastRows (a : Vec F S512x128 .f32) : Vec F S128x128 .f32 :=
  fun y => a (ix2 ⟨384 + (y 0).val, by have h : (y 0).val < 128 := (y 0).isLt; omega⟩ (y 1))

/-- The key window a block leaves, -/
def kT (x : Vec F S512x1024 .f32) (g : Vec F S1x1024 .f32) (W : Vec F S1024x4864 .bf16) : Vec F S1x128x128 .f32 :=
  k0_pay23 (k0_pay460 (lastRows (k0_pay58 (qkvV x g W))))
/-- and its value window. -/
def vT (x : Vec F S512x1024 .f32) (g : Vec F S1x1024 .f32) (W : Vec F S1024x4864 .bf16) : Vec F S1x128x128 .f32 :=
  k0_pay24 (k0_pay461 (lastRows (k0_pay59 (qkvV x g W))))

theorem full_of {M N : ℕ} {e : EltTy} (x : Vec F ⟨2, ![M, N]⟩ e) (h : ∀ a, (![0, 0] : Fin 2 → ℕ) a + (![M, N] : Fin 2 → ℕ) a ≤ (⟨2, ![M, N]⟩ : Shape).size a) :
    View.ld x (Rect.unit (s := ⟨2, ![M, N]⟩) ![0, 0] ![M, N] h) = x :=
  funext fun y => congrArg x (funext (Fin.forall_fin_two.mpr
    ⟨Fin.ext (by show 0 + 1 * (y 0).val = (y 0).val; omega), Fin.ext (by show 0 + 1 * (y 1).val = (y 1).val; omega)⟩))

/-- A load of all the gains is what they hold, -/
theorem full_g (x : Vec F S1x1024 .f32) : View.ld x (Rect.unit ![0, 0] ![1, 1024] inb_S1x1024_S1x1024_0_0) = x := full_of x _

/-- and a load of the end of a key or value history, after its last 512 rows were stored, is their last 128. -/
theorem read_last {κ : Kind} {sp : Space} (v : View sig κ sp S640x128 .f32) (a : Vec F S512x128 .f32) :
    v.readCov [(⟨Rect.unit (s := S640x128) ![128, 0] S512x128.size inb_S640x128_S512x128_128_0, a⟩ : View.Piece (Elt F) S640x128 .f32)]
      (Rect.unit (s := S640x128) ![512, 0] S128x128.size inb_S640x128_S128x128_512_0).toLoadRect = lastRows a := by
  rw [View.readCov_eq_canon']
  funext y
  have h : (y 0).val < 128 := (y 0).isLt
  refine (congrArg (View.canon _) (show _ = (Rect.unit (s := S640x128) ![128, 0] S512x128.size inb_S640x128_S512x128_128_0).emb
    (ix2 (⟨384 + (y 0).val, by omega⟩ : Fin 512) (y 1)) from ?_)).trans (View.canon_cons_emb _ _ _ _)
  exact funext (Fin.forall_fin_two.mpr ⟨Fin.ext (by show 512 + 1 * (y 0).val = 128 + 1 * (384 + (y 0).val); omega), Fin.ext rfl⟩)

/-- One store of a whole window leaves what was stored. -/
theorem canon_win (x : Vec F S1x128x128 .f32) :
    View.canon [(⟨Rect.unit (s := S1x128x128) ![0, 0, 0] S1x128x128.size inb_S1x128x128_S1x128x128_0_0_0, x⟩ : View.Piece (Elt F) S1x128x128 .f32)] = x :=
  View.canon_unit_zero (funext fun a => by fin_cases a <;> rfl) _ x

end Cert.Kernel3.Pre

end
-- ==== Proof.Pre.RunA.lean ====
module

public import proofs.«01_k».proof.Proof.Pre.Pay

@[expose] public section

set_option maxRecDepth 16384

noncomputable section

namespace Cert.Kernel3.Pre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3 Cert.Kernel3.Gen

variable {F : FTy → Type} [FloatOps F]

local notation "𝕄" => MT nD τ sig Unit (Elt F) ℕ (Pipeline.UD sig nD τ) ℕ

set_option maxHeartbeats 0 in
set_option sl_exec.dmaWindow true in set_option sl_exec.dmaWindowSet true in
/-- The first point: the matrix of the projections comes in and is rounded. -/
theorem runA (c : Dev nD) (i : grid0.Coords) (arg2 : Memref sig .tc .smem S1x8 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S128x128 .i32) (harg8 : arg8.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x512x128 .f32) (harg16 : arg16.IsWhole) (arg17 : Memref sig .tc .vmem S1024x4864 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1024x1024 .bf16) (harg20 : arg20.IsWhole) (arg21 : Memref sig .tc .vmem S640x128 .f32) (harg21 : arg21.IsWhole) (arg22 : Memref sig .tc .vmem S640x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x2560 .f32) (harg30 : arg30.IsWhole) (arg31 : Memref sig .tc .vmem S512x512 .f32) (harg31 : arg31.IsWhole) (arg32 : Memref sig .tc .vmem S7x512x512 .bf16) (harg32 : arg32.IsWhole) (arg33 : Memref sig .tc .vmem S512x512 .bf16) (harg33 : arg33.IsWhole) (arg34 : Memref sig .tc .vmem S512x512 .bf16) (harg34 : arg34.IsWhole) (alloca_r0 : Memref sig .tc .vmem S4x64x4864 .f32) (halloca_r0 : alloca_r0.IsWhole) (alloca_r1 : Memref sig .tc .vmem S1x512x1024 .f32) (halloca_r1 : alloca_r1.IsWhole) (alloca_r2 : Memref sig .tc .vmem S1x512x1024 .f32) (halloca_r2 : alloca_r2.IsWhole) (alloca_r3 : Memref sig .tc .vmem S2x512x1024 .f32) (halloca_r3 : alloca_r3.IsWhole) (hc0 : cond0_0 i) (hc1 : cond0_1 i) (hc2 : ¬cond0_2 i)
    (x0 : Vec F S1x8 .f32) (x1 : Vec F S512x1024 .f32) (x2 : Vec F S1x1024 .f32) (x3 : Vec F S1x1024 .f32) (x4 : Vec F S2x512 .f32) (x5 : Vec F S1x128 .f32) (x6 : Vec F S128x128 .i32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ owns (c : Thread nD τ) arg17 fullShare (castW fh0) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_mix_prompt i arg2 harg2 arg3 harg3 arg4 harg4 arg5 harg5 arg6 harg6 arg7 harg7 arg8 harg8 (Memref.whole main_v1) (Memref.isWhole_whole _) (Memref.whole main_v2) (Memref.isWhole_whole _) (Memref.whole main_v3) (Memref.isWhole_whole _) (Memref.whole main_v4) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 alloca_r2 halloca_r2 cc0_scoped5 alloca_r3 halloca_r3 cc0_scoped7) K := by
    intro W K
    simp only [cc0_mix_prompt_eq_skeleton]; unfold cc0_mix_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%dS0, %fS0, -, HS0⟩, ⟨%dS1, %fS1, -, HS1⟩, ⟨%dS2, %fS2, -, HS2⟩, ⟨%dS3, %fS3, -, HS3⟩, ⟨%dS4, %fS4, -, HS4⟩, ⟨%dS5, %fS5, -, HS5⟩, ⟨%dS6, %fS6, -, HS6⟩, ⟨%dS7, %fS7, -, HS7⟩, ⟨%dS8, %fS8, -, HS8⟩, ⟨%dS9, %fS9, -, HS9⟩, ⟨%dS10, %fS10, -, HS10⟩, ⟨%dS11, %fS11, -, HS11⟩, ⟨%dS12, %fS12, -, HS12⟩, ⟨%dS13, %fS13, -, HS13⟩, ⟨%dS14, %fS14, -, HS14⟩, ⟨%dS15, %fS15, -, HS15⟩, ⟨%dS16, %fS16, -, HS16⟩, ⟨%dS17, %fS17, -, HS17⟩, ⟨%dS18, %fS18, -, HS18⟩, ⟨%dS19, %fS19, -, HS19⟩, ⟨%dS20, %fS20, -, HS20⟩, ⟨%dS21, %fS21, -, HS21⟩, Hq0, Hq1, Hq2, Hq3, Hq4, Hq5, Hq6, Hq7, Hh0, Hh1, Hh2, Hh3, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1 | sl_exact hc2)
    sl_step
    have t0 : View.canon (runA.sl.HS0_16 c alloca_r0 fh0 fS18) = castW fh0 := by
      refine Stage.canon_of_agree _ _ ?_ (View.cover_of_tiled_head _ _ _ rfl)
      have e0 : k0_pay3 (runA.sl.v3449_r0 c alloca_r0 fh0 fS18) = truncf .bf16 (runA.sl.dma0 c fh0) bitsLt_bf16_f32 := by
        unfold k0_pay3 runA.sl.v3449_r0
        simp only [shapeCast_self]
        repeat rw [Stage.slot_other (a := 0) (hd := by decide)]
        rw [Stage.slot_same]
      have e1 : k0_pay4 (runA.sl.v3465_r0 c alloca_r0 fh0 fS18) = truncf .bf16 (runA.sl.dma0_1 c fh0) bitsLt_bf16_f32 := by
        unfold k0_pay4 runA.sl.v3465_r0
        simp only [shapeCast_self]
        repeat rw [Stage.slot_other (a := 0) (hd := by decide)]
        rw [Stage.slot_same]
      have e2 : k0_pay5 (runA.sl.v3481_r0 c alloca_r0 fh0 fS18) = truncf .bf16 (runA.sl.dma0_2 c fh0) bitsLt_bf16_f32 := by
        unfold k0_pay5 runA.sl.v3481_r0
        simp only [shapeCast_self]
        repeat rw [Stage.slot_other (a := 0) (hd := by decide)]
        rw [Stage.slot_same]
      have e3 : k0_pay6 (runA.sl.v3497_r0 c alloca_r0 fh0 fS18) = truncf .bf16 (runA.sl.dma0_3 c fh0) bitsLt_bf16_f32 := by
        unfold k0_pay6 runA.sl.v3497_r0
        simp only [shapeCast_self]
        repeat rw [Stage.slot_other (a := 0) (hd := by decide)]
        rw [Stage.slot_same]
      have e4 : k0_pay7 (runA.sl.v3513_r0 c alloca_r0 fh0 fS18) = truncf .bf16 (runA.sl.dma3 c fh0) bitsLt_bf16_f32 := by
        unfold k0_pay7 runA.sl.v3513_r0
        simp only [shapeCast_self]
        repeat rw [Stage.slot_other (a := 0) (hd := by decide)]
        rw [Stage.slot_same]
      have e5 : k0_pay8 (runA.sl.v3529_r0 c alloca_r0 fh0 fS18) = truncf .bf16 (runA.sl.dma6 c fh0) bitsLt_bf16_f32 := by
        unfold k0_pay8 runA.sl.v3529_r0
        simp only [shapeCast_self]
        repeat rw [Stage.slot_other (a := 0) (hd := by decide)]
        rw [Stage.slot_same]
      have e6 : k0_pay9 (runA.sl.v3545_r0 c alloca_r0 fh0 fS18) = truncf .bf16 (runA.sl.dma9 c fh0) bitsLt_bf16_f32 := by
        unfold k0_pay9 runA.sl.v3545_r0
        simp only [shapeCast_self]
        repeat rw [Stage.slot_other (a := 0) (hd := by decide)]
        rw [Stage.slot_same]
      have e7 : k0_pay10 (runA.sl.v3561_r0 c alloca_r0 fh0 fS18) = truncf .bf16 (runA.sl.dma12 c fh0) bitsLt_bf16_f32 := by
        unfold k0_pay10 runA.sl.v3561_r0
        simp only [shapeCast_self]
        repeat rw [Stage.slot_other (a := 0) (hd := by decide)]
        rw [Stage.slot_same]
      have e8 : k0_pay11 (runA.sl.v3577_r0 c alloca_r0 fh0 fS18) = truncf .bf16 (runA.sl.dma15 c fh0) bitsLt_bf16_f32 := by
        unfold k0_pay11 runA.sl.v3577_r0
        simp only [shapeCast_self]
        repeat rw [Stage.slot_other (a := 0) (hd := by decide)]
        rw [Stage.slot_same]
      have e9 : k0_pay12 (runA.sl.v3593_r0 c alloca_r0 fh0 fS18) = truncf .bf16 (runA.sl.dma18 c fh0) bitsLt_bf16_f32 := by
        unfold k0_pay12 runA.sl.v3593_r0
        simp only [shapeCast_self]
        repeat rw [Stage.slot_other (a := 0) (hd := by decide)]
        rw [Stage.slot_same]
      have e10 : k0_pay13 (runA.sl.v3609_r0 c alloca_r0 fh0 fS18) = truncf .bf16 (runA.sl.dma21 c fh0) bitsLt_bf16_f32 := by
        unfold k0_pay13 runA.sl.v3609_r0
        simp only [shapeCast_self]
        repeat rw [Stage.slot_other (a := 0) (hd := by decide)]
        rw [Stage.slot_same]
      have e11 : k0_pay14 (runA.sl.v3625_r0 c alloca_r0 fh0 fS18) = truncf .bf16 (runA.sl.dma24 c fh0) bitsLt_bf16_f32 := by
        unfold k0_pay14 runA.sl.v3625_r0
        simp only [shapeCast_self]
        repeat rw [Stage.slot_other (a := 0) (hd := by decide)]
        rw [Stage.slot_same]
      have e12 : k0_pay15 (runA.sl.v3641_r0 c alloca_r0 fh0 fS18) = truncf .bf16 (runA.sl.dma27 c fh0) bitsLt_bf16_f32 := by
        unfold k0_pay15 runA.sl.v3641_r0
        simp only [shapeCast_self]
        repeat rw [Stage.slot_other (a := 0) (hd := by decide)]
        rw [Stage.slot_same]
      have e13 : k0_pay16 (runA.sl.v3652_r0 c alloca_r0 fh0 fS18) = truncf .bf16 (runA.sl.dma30 c fh0) bitsLt_bf16_f32 := by
        unfold k0_pay16 runA.sl.v3652_r0
        simp only [shapeCast_self]
        repeat rw [Stage.slot_other (a := 0) (hd := by decide)]
        rw [Stage.slot_same]
      have e14 : k0_pay17 (runA.sl.v3663_r0 c alloca_r0 fh0 fS18) = truncf .bf16 (runA.sl.dma33 c fh0) bitsLt_bf16_f32 := by
        unfold k0_pay17 runA.sl.v3663_r0
        simp only [shapeCast_self]
        repeat rw [Stage.slot_other (a := 0) (hd := by decide)]
        rw [Stage.slot_same]
      have e15 : k0_pay18 (runA.sl.v3674_r0 c alloca_r0 fh0 fS18) = truncf .bf16 (runA.sl.dma36 c fh0) bitsLt_bf16_f32 := by
        unfold k0_pay18 runA.sl.v3674_r0
        simp only [shapeCast_self]
        repeat rw [Stage.slot_other (a := 0) (hd := by decide)]
        rw [Stage.slot_same]
      unfold runA.sl.HS0_16
      simp only [e0, e1, e2, e3, e4, e5, e6, e7, e8, e9, e10, e11, e12, e13, e14, e15, List.forall_mem_cons]
      refine ⟨fun x => rfl, fun x => rfl, fun x => rfl, fun x => rfl, fun x => rfl, fun x => rfl, fun x => rfl, fun x => rfl, fun x => rfl, fun x => rfl, fun x => rfl, fun x => rfl, fun x => rfl, fun x => rfl, fun x => rfl, fun x => rfl,
        fun p hp => absurd hp List.not_mem_nil⟩
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexists _; isplitr; swap; · iexact H7
      ipureintro; rfl
    isplitl [HS0]
    · iexists _; isplitr; swap; · iexact HS0
      ipureintro
      exact (View.read_writes_eq_canon _ _ _ (View.cover_of_tiled_head _ _ _ rfl)).trans t0
    isplitl [HS1]
    · iexists _; iexists _; isplitr; swap; · iexact HS1
      ipureintro; rfl
    isplitl [HS2]
    · iexists _; iexists _; isplitr; swap; · iexact HS2
      ipureintro; rfl
    isplitl [HS3]
    · iexists _; iexists _; isplitr; swap; · iexact HS3
      ipureintro; rfl
    isplitl [HS4]
    · iexists _; iexists _; isplitr; swap; · iexact HS4
      ipureintro; rfl
    isplitl [HS5]
    · iexists _; iexists _; isplitr; swap; · iexact HS5
      ipureintro; rfl
    isplitl [HS6]
    · iexists _; iexists _; isplitr; swap; · iexact HS6
      ipureintro; rfl
    isplitl [HS7]
    · iexists _; iexists _; isplitr; swap; · iexact HS7
      ipureintro; rfl
    isplitl [HS8]
    · iexists _; iexists _; isplitr; swap; · iexact HS8
      ipureintro; rfl
    isplitl [HS9]
    · iexists _; iexists _; isplitr; swap; · iexact HS9
      ipureintro; rfl
    isplitl [HS10]
    · iexists _; iexists _; isplitr; swap; · iexact HS10
      ipureintro; rfl
    isplitl [HS11]
    · iexists _; iexists _; isplitr; swap; · iexact HS11
      ipureintro; rfl
    isplitl [HS12]
    · iexists _; iexists _; isplitr; swap; · iexact HS12
      ipureintro; rfl
    isplitl [HS13]
    · iexists _; iexists _; isplitr; swap; · iexact HS13
      ipureintro; rfl
    isplitl [HS14]
    · iexists _; iexists _; isplitr; swap; · iexact HS14
      ipureintro; rfl
    isplitl [HS15]
    · iexists _; iexists _; isplitr; swap; · iexact HS15
      ipureintro; rfl
    isplitl [HS16]
    · iexists _; iexists _; isplitr; swap; · iexact HS16
      ipureintro; rfl
    isplitl [HS17]
    · iexists _; iexists _; isplitr; swap; · iexact HS17
      ipureintro; rfl
    isplitl [HS18]
    · iexists _; iexists _; isplitr; swap; · iexact HS18
      ipureintro; rfl
    isplitl [HS19]
    · iexists _; iexists _; isplitr; swap; · iexact HS19
      ipureintro; rfl
    isplitl [HS20]
    · iexists _; iexists _; isplitr; swap; · iexact HS20
      ipureintro; rfl
    isplitl [HS21]
    · iexists _; iexists _; isplitr; swap; · iexact HS21
      ipureintro; rfl
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    isplitl [Hq6]
    · iexact Hq6
    isplitl [Hq7]
    · iexact Hq7
    isplitl [Hh0]
    · iexact Hh0
    isplitl [Hh1]
    · iexact Hh1
    isplitl [Hh2]
    · iexact Hh2
    isplitl [Hh3]
    · iexact Hh3
    iexists _; iexact HW

end Cert.Kernel3.Pre

end
-- ==== Proof.Pre.RunB.lean ====
module

public import proofs.«01_k».proof.Proof.Pre.Pay

@[expose] public section

set_option maxRecDepth 16384

noncomputable section

namespace Cert.Kernel3.Pre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3 Cert.Kernel3.Gen

variable {F : FTy → Type} [FloatOps F]

local notation "𝕄" => MT nD τ sig Unit (Elt F) ℕ (Pipeline.UD sig nD τ) ℕ

set_option maxHeartbeats 0 in
/-- A point which is neither the first nor a sequence's last: the rounded matrix is kept. -/
theorem runB (c : Dev nD) (i : grid0.Coords) (arg2 : Memref sig .tc .smem S1x8 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S128x128 .i32) (harg8 : arg8.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x512x128 .f32) (harg16 : arg16.IsWhole) (arg17 : Memref sig .tc .vmem S1024x4864 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1024x1024 .bf16) (harg20 : arg20.IsWhole) (arg21 : Memref sig .tc .vmem S640x128 .f32) (harg21 : arg21.IsWhole) (arg22 : Memref sig .tc .vmem S640x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x2560 .f32) (harg30 : arg30.IsWhole) (arg31 : Memref sig .tc .vmem S512x512 .f32) (harg31 : arg31.IsWhole) (arg32 : Memref sig .tc .vmem S7x512x512 .bf16) (harg32 : arg32.IsWhole) (arg33 : Memref sig .tc .vmem S512x512 .bf16) (harg33 : arg33.IsWhole) (arg34 : Memref sig .tc .vmem S512x512 .bf16) (harg34 : arg34.IsWhole) (alloca_r0 : Memref sig .tc .vmem S4x64x4864 .f32) (halloca_r0 : alloca_r0.IsWhole) (alloca_r1 : Memref sig .tc .vmem S1x512x1024 .f32) (halloca_r1 : alloca_r1.IsWhole) (alloca_r2 : Memref sig .tc .vmem S1x512x1024 .f32) (halloca_r2 : alloca_r2.IsWhole) (alloca_r3 : Memref sig .tc .vmem S2x512x1024 .f32) (halloca_r3 : alloca_r3.IsWhole) (hc0 : ¬cond0_0 i) (hc2 : ¬cond0_2 i)
    (x0 : Vec F S1x8 .f32) (x1 : Vec F S512x1024 .f32) (x2 : Vec F S1x1024 .f32) (x3 : Vec F S1x1024 .f32) (x4 : Vec F S2x512 .f32) (x5 : Vec F S1x128 .f32) (x6 : Vec F S128x128 .i32) (w : Vec F S1024x4864 .bf16) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ owns (c : Thread nD τ) arg17 fullShare w ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ owns (c : Thread nD τ) arg17 fullShare w ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ W', owes (c : Thread nD τ) 0 W')) -∗ K ⟨⟩))
          ⊢ wp frame (wpE (defs₀ (F := F)) Variants.none c none) Set.univ (cc0_mix_prompt i arg2 harg2 arg3 harg3 arg4 harg4 arg5 harg5 arg6 harg6 arg7 harg7 arg8 harg8 (Memref.whole main_v1) (Memref.isWhole_whole _) (Memref.whole main_v2) (Memref.isWhole_whole _) (Memref.whole main_v3) (Memref.isWhole_whole _) (Memref.whole main_v4) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 alloca_r2 halloca_r2 cc0_scoped5 alloca_r3 halloca_r3 cc0_scoped7) K := by
    intro W K
    simp only [cc0_mix_prompt_eq_skeleton]; unfold cc0_mix_prompt_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fS0, %hfS0, HS0⟩, ⟨%dS1, %fS1, -, HS1⟩, ⟨%dS2, %fS2, -, HS2⟩, ⟨%dS3, %fS3, -, HS3⟩, ⟨%dS4, %fS4, -, HS4⟩, ⟨%dS5, %fS5, -, HS5⟩, ⟨%dS6, %fS6, -, HS6⟩, ⟨%dS7, %fS7, -, HS7⟩, ⟨%dS8, %fS8, -, HS8⟩, ⟨%dS9, %fS9, -, HS9⟩, ⟨%dS10, %fS10, -, HS10⟩, ⟨%dS11, %fS11, -, HS11⟩, ⟨%dS12, %fS12, -, HS12⟩, ⟨%dS13, %fS13, -, HS13⟩, ⟨%dS14, %fS14, -, HS14⟩, ⟨%dS15, %fS15, -, HS15⟩, ⟨%dS16, %fS16, -, HS16⟩, ⟨%dS17, %fS17, -, HS17⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg17.eq_unread hfS0
    by_cases hc1 : cond0_1 i
    all_goals
      sl_exec (disch := first | sl_exact hc0 | sl_exact hc1 | sl_exact hc2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; iexists _; isplitr; swap; · iexact H7
        ipureintro; rfl
      isplitl [HS0]
      · iexists _; isplitr; · ipureintro; exact harg17.read_unread _
        iexact HS0
      isplitl [HS1]
      · iexists _; iexists _; isplitr; swap; · iexact HS1
        ipureintro; rfl
      isplitl [HS2]
      · iexists _; iexists _; isplitr; swap; · iexact HS2
        ipureintro; rfl
      isplitl [HS3]
      · iexists _; iexists _; isplitr; swap; · iexact HS3
        ipureintro; rfl
      isplitl [HS4]
      · iexists _; iexists _; isplitr; swap; · iexact HS4
        ipureintro; rfl
      isplitl [HS5]
      · iexists _; iexists _; isplitr; swap; · iexact HS5
        ipureintro; rfl
      isplitl [HS6]
      · iexists _; iexists _; isplitr; swap; · iexact HS6
        ipureintro; rfl
      isplitl [HS7]
      · iexists _; iexists _; isplitr; swap; · iexact HS7
        ipureintro; rfl
      isplitl [HS8]
      · iexists _; iexists _; isplitr; swap; · iexact HS8
        ipureintro; rfl
      isplitl [HS9]
      · iexists _; iexists _; isplitr; swap; · iexact HS9
        ipureintro; rfl
      isplitl [HS10]
      · iexists _; iexists _; isplitr; swap; · iexact HS10
        ipureintro; rfl
      isplitl [HS11]
      · iexists _; iexists _; isplitr; swap; · iexact HS11
        ipureintro; rfl
      isplitl [HS12]
      · iexists _; iexists _; isplitr; swap; · iexact HS12
        ipureintro; rfl
      isplitl [HS13]
      · iexists _; iexists _; isplitr; swap; · iexact HS13
        ipureintro; rfl
      isplitl [HS14]
      · iexists _; iexists _; isplitr; swap; · iexact HS14
        ipureintro; rfl
      isplitl [HS15]
      · iexists _; iexists _; isplitr; swap; · iexact HS15
        ipureintro; rfl
      isplitl [HS16]
      · iexists _; iexists _; isplitr; swap; · iexact HS16
        ipureintro; rfl
      isplitl [HS17]
      · iexists _; iexists _; isplitr; swap; · iexact HS17
        ipureintro; rfl
      iexists _; iexact HW

end Cert.Kernel3.Pre

end
-- ==== Proof.Pre.RunD.lean ====
module

public import proofs.«01_k».proof.Proof.Pre.Pay

@[expose] public section

set_option maxRecDepth 16384

noncomputable section

namespace Cert.Kernel3.Pre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel3 Cert.Kernel3.Gen

variable {F : FTy → Type} [FloatOps F]

local notation "𝕄" => MT nD τ sig Unit (Elt F) ℕ (Pipeline.UD sig nD τ) ℕ

set_option maxHeartbeats 0 in
/-- A sequence's last point: its key and value windows are its last rows' keys and values. -/
theorem runD (c : Dev nD) (i : grid0.Coords) (arg2 : Memref sig .tc .smem S1x8 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S2x512 .f32) (harg6 : arg6.IsWhole) (arg7 : Memref sig .tc .vmem S1x128 .f32) (harg7 : arg7.IsWhole) (arg8 : Memref sig .tc .vmem S128x128 .i32) (harg8 : arg8.IsWhole) (arg13 : Memref sig .tc .vmem S512x1024 .f32) (harg13 : arg13.IsWhole) (arg14 : Memref sig .tc .vmem S1x128x128 .f32) (harg14 : arg14.IsWhole) (arg15 : Memref sig .tc .vmem S1x128x128 .f32) (harg15 : arg15.IsWhole) (arg16 : Memref sig .tc .vmem S1x512x128 .f32) (harg16 : arg16.IsWhole) (arg17 : Memref sig .tc .vmem S1024x4864 .bf16) (harg17 : arg17.IsWhole) (arg18 : Memref sig .tc .vmem S512x1024 .bf16) (harg18 : arg18.IsWhole) (arg19 : Memref sig .tc .vmem S512x1024 .bf16) (harg19 : arg19.IsWhole) (arg20 : Memref sig .tc .vmem S1024x1024 .bf16) (harg20 : arg20.IsWhole) (arg21 : Memref sig .tc .vmem S640x128 .f32) (harg21 : arg21.IsWhole) (arg22 : Memref sig .tc .vmem S640x128 .f32) (harg22 : arg22.IsWhole) (arg23 : Memref sig .tc .vmem S512x128 .f32) (harg23 : arg23.IsWhole) (arg24 : Memref sig .tc .vmem S512x512 .f32) (harg24 : arg24.IsWhole) (arg25 : Memref sig .tc .vmem S512x512 .f32) (harg25 : arg25.IsWhole) (arg26 : Memref sig .tc .vmem S512x512 .f32) (harg26 : arg26.IsWhole) (arg27 : Memref sig .tc .vmem S512x512 .f32) (harg27 : arg27.IsWhole) (arg28 : Memref sig .tc .vmem S512x512 .f32) (harg28 : arg28.IsWhole) (arg29 : Memref sig .tc .vmem S512x512 .f32) (harg29 : arg29.IsWhole) (arg30 : Memref sig .tc .vmem S512x2560 .f32) (harg30 : arg30.IsWhole) (arg31 : Memref sig .tc .vmem S512x512 .f32) (harg31 : arg31.IsWhole) (arg32 : Memref sig .tc .vmem S7x512x512 .bf16) (harg32 : arg32.IsWhole) (arg33 : Memref sig .tc .vmem S512x512 .bf16) (harg33 : arg33.IsWhole) (arg34 : Memref sig .tc .vmem S512x512 .bf16) (harg34 : arg34.IsWhole) (alloca_r0 : Memref sig .tc .vmem S4x64x4864 .f32) (halloca_r0 : alloca_r0.IsWhole) (alloca_r1 : Memref sig .tc .vmem S1x512x1024 .f32) (halloca_r1 : alloca_r1.IsWhole) (alloca_r2 : Memref sig .tc .vmem S1x512x1024 .f32) (halloca_r2 : alloca_r2.IsWhole) (alloca_r3 : Memref sig .tc .vmem S2x512x1024 .f32) (halloca_r3 : alloca_r3.IsWhole) (hc0 : ¬cond0_0 i) (hc1 : ¬cond0_1 i) (hc2 : cond0_2 i)
    (x0 : Vec F S1x8 .f32) (x1 : Vec F S512x1024 .f32) (x2 : Vec F S1x1024 .f32) (x3 : Vec F S1x1024 .f32) (x4 : Vec F S2x512 .f32) (x5 : Vec F S1x128 .f32) (x6 : Vec F S128x128 .i32) (w : Vec F S1024x4864 .bf16) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare w ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg13 fullShare d) ∗ owns (c : Thread nD τ) arg14 fullShare (kT x1 x2 w) ∗ owns (c : Thread nD τ) arg15 fullShare (vT x1 x2 w) ∗ (∃ d, owns (c : Thread nD τ) arg16 fullShare d) ∗ owns (c : Thread nD τ) arg17 fullShare w ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ W', owes (c : Thread nD τ) 0 W')) -∗ K ⟨⟩))
          ⊢ wp frame (wpE (defs₀ (F := F)) Variants.none c none) Set.univ (cc0_mix_prompt i arg2 harg2 arg3 harg3 arg4 harg4 arg5 harg5 arg6 harg6 arg7 harg7 arg8 harg8 (Memref.whole main_v1) (Memref.isWhole_whole _) (Memref.whole main_v2) (Memref.isWhole_whole _) (Memref.whole main_v3) (Memref.isWhole_whole _) (Memref.whole main_v4) (Memref.isWhole_whole _) arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 alloca_r0 halloca_r0 cc0_scoped1 alloca_r1 halloca_r1 cc0_scoped3 alloca_r2 halloca_r2 cc0_scoped5 alloca_r3 halloca_r3 cc0_scoped7) K := by
    intro W K
    simp only [cc0_mix_prompt_eq_skeleton]; unfold cc0_mix_prompt_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fS0, %hfS0, HS0⟩, ⟨%dS1, %fS1, -, HS1⟩, ⟨%dS2, %fS2, -, HS2⟩, ⟨%dS3, %fS3, -, HS3⟩, ⟨%dS4, %fS4, -, HS4⟩, ⟨%dS5, %fS5, -, HS5⟩, ⟨%dS6, %fS6, -, HS6⟩, ⟨%dS7, %fS7, -, HS7⟩, ⟨%dS8, %fS8, -, HS8⟩, ⟨%dS9, %fS9, -, HS9⟩, ⟨%dS10, %fS10, -, HS10⟩, ⟨%dS11, %fS11, -, HS11⟩, ⟨%dS12, %fS12, -, HS12⟩, ⟨%dS13, %fS13, -, HS13⟩, ⟨%dS14, %fS14, -, HS14⟩, ⟨%dS15, %fS15, -, HS15⟩, ⟨%dS16, %fS16, -, HS16⟩, ⟨%dS17, %fS17, -, HS17⟩, HW, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg17.eq_unread hfS0
    sl_exec (disch := first | sl_exact hc0 | sl_exact hc1 | sl_exact hc2)
    sl_step
    have q : runD.sl.r_6 c arg3 harg3 arg4 harg4 arg17 harg17 x1 x2 w = qkvV x1 x2 w := by
      unfold runD.sl.r_6 runD.sl.r_1 runD.sl.r_2 runD.sl.r_3 runD.sl.r_4 runD.sl.cst_17
      simp only [View.readAt_eq_ld, Memref.IsWhole.read_unread, full_g]
      rfl
    have ek : runD.sl.v3423 c arg3 harg3 arg4 harg4 arg17 harg17 arg21 x1 x2 w = k0_pay460 (lastRows (k0_pay58 (qkvV x1 x2 w))) := by
      unfold runD.sl.v3423 runD.sl.HS4_2
      rw [View.readCov_cons_toLoadRect]
      unfold runD.sl.v2715 runD.sl.HS4_1
      rw [read_last]
      simp only [q]
    have ev : runD.sl.v3428 c arg3 harg3 arg4 harg4 arg17 harg17 arg22 x1 x2 w = k0_pay461 (lastRows (k0_pay59 (qkvV x1 x2 w))) := by
      unfold runD.sl.v3428 runD.sl.HS5_2
      rw [View.readCov_cons_toLoadRect]
      unfold runD.sl.v2719 runD.sl.HS5_1
      rw [read_last]
      simp only [q]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; iexists _; isplitr; swap; · iexact H7
      ipureintro; rfl
    isplitl [H8]
    · iexists _; isplitr; swap; · iexact H8
      ipureintro
      rw [ek]
      exact (View.read_writes_eq_canon _ _ _ (View.cover_of_tiled_head _ _ _ rfl)).trans (canon_win _)
    isplitl [H9]
    · iexists _; isplitr; swap; · iexact H9
      ipureintro
      rw [ev]
      exact (View.read_writes_eq_canon _ _ _ (View.cover_of_tiled_head _ _ _ rfl)).trans (canon_win _)
    isplitl [H10]
    · iexists _; iexists _; isplitr; swap; · iexact H10
      ipureintro; rfl
    isplitl [HS0]
    · iexists _; isplitr; · ipureintro; exact harg17.read_unread _
      iexact HS0
    isplitl [HS1]
    · iexists _; iexists _; isplitr; swap; · iexact HS1
      ipureintro; rfl
    isplitl [HS2]
    · iexists _; iexists _; isplitr; swap; · iexact HS2
      ipureintro; rfl
    isplitl [HS3]
    · iexists _; iexists _; isplitr; swap; · iexact HS3
      ipureintro; rfl
    isplitl [HS4]
    · iexists _; iexists _; isplitr; swap; · iexact HS4
      ipureintro; rfl
    isplitl [HS5]
    · iexists _; iexists _; isplitr; swap; · iexact HS5
      ipureintro; rfl
    isplitl [HS6]
    · iexists _; iexists _; isplitr; swap; · iexact HS6
      ipureintro; rfl
    isplitl [HS7]
    · iexists _; iexists _; isplitr; swap; · iexact HS7
      ipureintro; rfl
    isplitl [HS8]
    · iexists _; iexists _; isplitr; swap; · iexact HS8
      ipureintro; rfl
    isplitl [HS9]
    · iexists _; iexists _; isplitr; swap; · iexact HS9
      ipureintro; rfl
    isplitl [HS10]
    · iexists _; iexists _; isplitr; swap; · iexact HS10
      ipureintro; rfl
    isplitl [HS11]
    · iexists _; iexists _; isplitr; swap; · iexact HS11
      ipureintro; rfl
    isplitl [HS12]
    · iexists _; iexists _; isplitr; swap; · iexact HS12
      ipureintro; rfl
    isplitl [HS13]
    · iexists _; iexists _; isplitr; swap; · iexact HS13
      ipureintro; rfl
    isplitl [HS14]
    · iexists _; iexists _; isplitr; swap; · iexact HS14
      ipureintro; rfl
    isplitl [HS15]
    · iexists _; iexists _; isplitr; swap; · iexact HS15
      ipureintro; rfl
    isplitl [HS16]
    · iexists _; iexists _; isplitr; swap; · iexact HS16
      ipureintro; rfl
    isplitl [HS17]
    · iexists _; iexists _; isplitr; swap; · iexact HS17
      ipureintro; rfl
    iexists _; iexact HW

end Cert.Kernel3.Pre

end
-- ==== Proof.Pre.Run.lean ====
module

public import proofs.«01_k».proof.Proof.Pre.RunA
public import proofs.«01_k».proof.Proof.Pre.RunB
public import proofs.«01_k».proof.Proof.Pre.RunD
public import Idealize.ShloMosaic.Lib.Claim

@[expose] public section

set_option maxRecDepth 16384

noncomputable section

namespace Cert.Kernel3.Pre

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3 Cert.Kernel3.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The scratch of the projections' matrix: anything before the first point, the rounded matrix after it. -/
def held (c : Dev nD) : ℕ → sProp 𝕄
  | 0 => iprop(∃ d, owns (c : Thread nD τ) scM0_0 fullShare d)
  | _ + 1 => owns (c : Thread nD τ) scM0_0 fullShare (castW (V m c main_v1))

theorem held_zero (c : Dev nD) : held m c 0 = iprop(∃ d, owns (c : Thread nD τ) scM0_0 fullShare d) := rfl
theorem held_succ (c : Dev nD) (k : ℕ) : held m c (k + 1) = owns (c : Thread nD τ) scM0_0 fullShare (castW (V m c main_v1)) := rfl

/-- What the body carries beside it: the other scratch, the generator's register, its copies' counters at zero and the
    four matrices in HBM. -/
def rest (c : Dev nD) : sProp 𝕄 :=
  iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
    ∗ iprop(hbPt0 c hbM0_0 (V m c main_v1) ∗ hbPt0 c hbM0_1 (V m c main_v2) ∗ hbPt0 c hbM0_2 (V m c main_v3) ∗ hbPt0 c hbM0_3 (V m c main_v4)))

/-- What the body leaves of the key window at a sequence's last block, -/
def outK (c : Dev nD) (t : Fin cfg0.N) : Vec F S1x128x128 .f32 := kT (iblk m c 1 t) (iblk m c 2 t) (castW (V m c main_v1))
/-- and of the value window. -/
def outV (c : Dev nD) (t : Fin cfg0.N) : Vec F S1x128x128 .f32 := vT (iblk m c 1 t) (iblk m c 2 t) (castW (V m c main_v1))

/-- The windows of the mixer's output and of its states, of which nothing is said. -/
def forgets0 : Fin 11 → Bool := fun w => w.val == 7 || w.val == 10

/-- The call's proof data: the arrays as it finds them, each input's block left in place, two of the results named. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, _⟩ => outK m c t
    | ⟨9, _⟩ => outV m c t
    | ⟨10, h⟩ => Pipeline.Dat.unnamed (cfg := cfg0) ⟨10, h⟩ t
  Φ t := iprop(held m c t.val ∗ rest m c)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_8 (c : Dev nD) (t : Fin cfg0.N) : (dats m 0 c).after 8 t = outK m c t := by dsimp only [dats]
theorem after_9 (c : Dev nD) (t : Fin cfg0.N) : (dats m 0 c).after 9 t = outV m c t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after_0]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after_1]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after_2]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after_3]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after_4]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after_5]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after_6]

/-- The key and the value window are stored at a sequence's last block only. -/
theorem idle_8 : ∀ t : Fin grid0.N, idle0 8 (grid0.coords t) = decide (¬t.val % 8 = 7) := by decide +kernel
@[inherit_doc idle_8]
theorem idle_9 : ∀ t : Fin grid0.N, idle0 9 (grid0.coords t) = decide (¬t.val % 8 = 7) := by decide +kernel
theorem leaves_8 (c : Dev nD) (t : Fin cfg0.N) (h : t.val % 8 = 7) :
    (dats m 0 c).leavesExact 8 t = owns (c : Thread nD τ) (ms0_8 t) fullShare (outK m c t) := by
  unfold Dat.leavesExact; rw [show cfg0.idle 8 (grid0.coords t) = false from (idle_8 t).trans (decide_eq_false (not_not_intro h)), after_8]
theorem found_8 (c : Dev nD) (t : Fin cfg0.N) (h : ¬t.val % 8 = 7) :
    (dats m 0 c).leavesExact 8 t = iprop(∃ d, owns (c : Thread nD τ) (ms0_8 t) fullShare ((dats m 0 c).before 8 t d)) :=
  Dat.leavesExact_idle _ 8 t ((idle_8 t).trans (decide_eq_true h)) (Bool.eq_false_iff.mpr fun hf => h ((flush0_8 t).mp hf))
theorem leaves_9 (c : Dev nD) (t : Fin cfg0.N) (h : t.val % 8 = 7) :
    (dats m 0 c).leavesExact 9 t = owns (c : Thread nD τ) (ms0_9 t) fullShare (outV m c t) := by
  unfold Dat.leavesExact; rw [show cfg0.idle 9 (grid0.coords t) = false from (idle_9 t).trans (decide_eq_false (not_not_intro h)), after_9]
theorem found_9 (c : Dev nD) (t : Fin cfg0.N) (h : ¬t.val % 8 = 7) :
    (dats m 0 c).leavesExact 9 t = iprop(∃ d, owns (c : Thread nD τ) (ms0_9 t) fullShare ((dats m 0 c).before 9 t d)) :=
  Dat.leavesExact_idle _ 9 t ((idle_9 t).trans (decide_eq_true h)) (Bool.eq_false_iff.mpr fun hf => h ((flush0_9 t).mp hf))

theorem Phi_castSucc (c : Dev nD) (t : Fin cfg0.N) : (dats m 0 c).Φ t.castSucc = iprop(held m c t.val ∗ rest m c) := rfl
theorem Phi_succ (c : Dev nD) (t : Fin cfg0.N) : (dats m 0 c).Φ t.succ = iprop(held m c (t.val + 1) ∗ rest m c) := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (dats m 0 c).leavesExact 8 t
    ∗ (dats m 0 c).leavesExact 9 t
    ∗ (∃ d, owns (c : Thread nD τ) (ms0_10 t) fullShare d))

set_option maxHeartbeats 3600000 in
/-- The body at the first point. -/
theorem bodyA (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_0, leaves_1, leaves_2, leaves_3, leaves_4, leaves_5, leaves_6, found_8 m c t (by omega), found_9 m c t (by omega), Phi_castSucc, Phi_succ]
  unfold Dat.owesAt Pipeline.owesWithin
  rw [show (dats m 0 c).owed t.castSucc = 0 from rfl, show (dats m 0 c).owed t.succ = 0 from rfl]
  rw [show t.val = 0 from h0, held_zero, held_succ]; unfold rest
  iintro ⟨⟨HS0, HS1, HS2, HS3, HS4, HS5, HS6, HS7, HS8, HS9, HS10, HS11, HS12, HS13, HS14, HS15, HS16, HS17, HS18, HS19, HS20, HS21, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr (by omega)) (fun h => by have := (hcond0_2 t).mp h; omega) (iblk m c 0 t) (iblk m c 1 t) (iblk m c 2 t) (iblk m c 3 t) (iblk m c 4 t) (iblk m c 5 t) (iblk m c 6 t) (V m c main_v1) (V m c main_v2) (V m c main_v3) (V m c main_v4)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, HS0, HS1, HS2, HS3, HS4, HS5, HS6, HS7, HS8, HS9, HS10, HS11, HS12, HS13, HS14, HS15, HS16, HS17, HS18, HS19, HS20, HS21, Hq0, Hq1, Hq2, Hq3, Hq4, Hq5, Hq6, Hq7, Hh0, Hh1, Hh2, Hh3, ⟨%W', HW'⟩⟩
  isplitl [HS0 HS1 HS2 HS3 HS4 HS5 HS6 HS7 HS8 HS9 HS10 HS11 HS12 HS13 HS14 HS15 HS16 HS17 HS18 HS19 HS20 HS21 Hg Hq0 Hq1 Hq2 Hq3 Hq4 Hq5 Hq6 Hq7 Hh0 Hh1 Hh2 Hh3]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 3600000 in
/-- The body at a point between. -/
theorem bodyB (c : Dev nD) (t : Fin cfg0.N) (h0 : ¬t.val = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_0, leaves_1, leaves_2, leaves_3, leaves_4, leaves_5, leaves_6, found_8 m c t h1, found_9 m c t h1, Phi_castSucc, Phi_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [hk, held_succ, held_succ]; unfold rest
  iintro ⟨⟨HS0, HS1, HS2, HS3, HS4, HS5, HS6, HS7, HS8, HS9, HS10, HS11, HS12, HS13, HS14, HS15, HS16, HS17, HS18, HS19, HS20, HS21, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_2 t).mp h)) (iblk m c 0 t) (iblk m c 1 t) (iblk m c 2 t) (iblk m c 3 t) (iblk m c 4 t) (iblk m c 5 t) (iblk m c 6 t) (castW (V m c main_v1))) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HW]; · iexact HW
  iintro ⟨H0, H1, H2, H3, H4, H5, H6, H7, HS0, HS1, HS2, HS3, HS4, HS5, HS6, HS7, HS8, HS9, HS10, HS11, HS12, HS13, HS14, HS15, HS16, HS17, ⟨%W', HW'⟩⟩
  isplitl [HS0 HS1 HS2 HS3 HS4 HS5 HS6 HS7 HS8 HS9 HS10 HS11 HS12 HS13 HS14 HS15 HS16 HS17 HS18 HS19 HS20 HS21 Hg Hq0 Hq1 Hq2 Hq3 Hq4 Hq5 Hq6 Hq7 Hh0 Hh1 Hh2 Hh3]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 3600000 in
/-- The body at a sequence's last block. -/
theorem bodyD (c : Dev nD) (t : Fin cfg0.N) (h0 : ¬t.val = 0) (h1 : t.val % 8 = 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [leaves_0, leaves_1, leaves_2, leaves_3, leaves_4, leaves_5, leaves_6, leaves_8 m c t h1, leaves_9 m c t h1, Phi_castSucc, Phi_succ]
  unfold Dat.owesAt Pipeline.owesWithin
  rw [show (dats m 0 c).owed t.castSucc = 0 from rfl, show (dats m 0 c).owed t.succ = 0 from rfl]
  obtain ⟨k, hk⟩ : ∃ k, t.val = k + 1 := ⟨t.val - 1, by omega⟩
  rw [hk, held_succ, held_succ]; unfold rest outK outV
  iintro ⟨⟨HS0, HS1, HS2, HS3, HS4, HS5, HS6, HS7, HS8, HS9, HS10, HS11, HS12, HS13, HS14, HS15, HS16, HS17, HS18, HS19, HS20, HS21, Hg, ⟨Hq0, Hq1, Hq2, Hq3, Hq4, Hq5, Hq6, Hq7⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((runD c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => by have := (hcond0_1 t).mp h; omega) ((hcond0_2 t).mpr h1) (iblk m c 0 t) (iblk m c 1 t) (iblk m c 2 t) (iblk m c 3 t) (iblk m c 4 t) (iblk m c 5 t) (iblk m c 6 t) (castW (V m c main_v1))) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HW]; · iexact HW
  iintro ⟨H0, H1, H2, H3, H4, H5, H6, H7, H8, H9, H10, HS0, HS1, HS2, HS3, HS4, HS5, HS6, HS7, HS8, HS9, HS10, HS11, HS12, HS13, HS14, HS15, HS16, HS17, ⟨%W', HW'⟩⟩
  isplitl [HS0 HS1 HS2 HS3 HS4 HS5 HS6 HS7 HS8 HS9 HS10 HS11 HS12 HS13 HS14 HS15 HS16 HS17 HS18 HS19 HS20 HS21 Hg Hq0 Hq1 Hq2 Hq3 Hq4 Hq5 Hq6 Hq7 Hh0 Hh1 Hh2 Hh3]
  · isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    isplitl [HS21]; · iexact HS21
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact bodyA m c t h0
  · by_cases h1 : t.val % 8 = 7
    · exact bodyD m c t h0 h1
    · exact bodyB m c t h0 h1

theorem row (t : Fin cfg0.N) : defs₀ (F := F) .tc cfg0.body (cfg0.bodyArgs t (cfg0.slots t)) = bodyAt0 t := by
  unfold defs₀; rw [Defs.onTc_tc]

/-- The library's obligation of the body, at every point. -/
theorem body_obligation (c : Dev nD) : BodyObligation (dats (F := F) m 0 c) (defs₀ (F := F)) Variants.none () Set.univ forgets0 := fun t => by
  rw [bigSep_W0, bigSep_W0, row]
  exact triple_restated (sound_body m c t) rfl .rfl fun _ => .rfl

theorem enter (c : Dev nD) : Pipeline.ΦD osem0 spec0 H0 (V m) c ⊢ (dats m 0 c).Φ 0 := by
  rw [PhiD0_eq, show (dats m 0 c).Φ 0 = iprop(held m c 0 ∗ rest m c) from rfl]
  unfold held rest
  iintro ⟨⟨HS0, HS1, HS2, HS3, HS4, HS5, HS6, HS7, HS8, HS9, HS10, HS11, HS12, HS13, HS14, HS15, HS16, HS17, HS18, HS19, HS20, HS21⟩, Hr⟩
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  iexact Hr

theorem leave (c : Dev nD) : (dats m 0 c).Φ (Fin.last cfg0.N) ⊢ Pipeline.ΦD osem0 spec0 H0 (V m) c := by
  rw [PhiD0_eq, show (dats m 0 c).Φ (Fin.last cfg0.N) = iprop(held m c (31 + 1) ∗ rest m c) from rfl]
  unfold held rest
  iintro ⟨HS0, HS1, HS2, HS3, HS4, HS5, HS6, HS7, HS8, HS9, HS10, HS11, HS12, HS13, HS14, HS15, HS16, HS17, HS18, HS19, HS20, HS21, Hr⟩
  isplitl [HS0 HS1 HS2 HS3 HS4 HS5 HS6 HS7 HS8 HS9 HS10 HS11 HS12 HS13 HS14 HS15 HS16 HS17 HS18 HS19 HS20 HS21]
  · isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    isplitl [HS20]; · iexact HS20
    iexact HS21
  iexact Hr

set_option backward.isDefEq.respectTransparency.types false in
/-- THE RUN, over any element interpretation: every weakly fair execution of @main ends with each array of the call that is named at
    what the proof data names, every other argument as it was, and every counter at zero. -/
theorem run : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := enter m) (hout := leave m)

end Cert.Kernel3.Pre

end
-- ==== Proof.Pre.Math.lean ====
module

public import proofs.«01_k».proof.Proof.Pre.Pay
public import proofs.«01_k».proof.Proof.Mix.Math

@[expose] public section

set_option maxRecDepth 16384

noncomputable section

namespace Cert.Kernel3.Pre

open Idealize.ShloMosaic Idealize.ShloMosaic.TcCoe
open Cert.Kernel3 Cert.Kernel3.Gen
open Cert.Kernel2.Ffn (rmsR)
open Cert.Kernel.Mix (projR)

variable (x : FVec Ideal S512x1024 .f32) (g : FVec Ideal S1x1024 .f32) (W : FVec Ideal S1024x4864 .bf16)

theorem rowsB_at (r : Fin 256) (k : Fin 1024) : rowsB (F := Ideal) x (ix2 r k) = x (ix2 ⟨256 + r.val, by omega⟩ k) :=
  congrArg x (funext (Fin.forall_fin_two.mpr ⟨Fin.ext (by show 256 + 1 * r.val = 256 + r.val; omega), Fin.ext (by show 0 + 1 * k.val = k.val; omega)⟩))
theorem colA_at (a : Fin 1024) (b : Fin 768) : colA (F := Ideal) W (ix2 a b) = W (ix2 a ⟨b.val, by omega⟩) :=
  congrArg W (funext (Fin.forall_fin_two.mpr ⟨Fin.ext (by show 0 + 1 * a.val = a.val; omega), Fin.ext (by show 0 + 1 * b.val = b.val; omega)⟩))

/-- The second half's normed rows, -/
theorem normB_at (r : Fin 256) (k : Fin 1024) :
    k0_pay36 (F := Ideal) (k0_pay34 (rowsB (F := Ideal) x)) g (k0_pay35 (rowsB (F := Ideal) x)) (Scalar.ofBits .f32 0x358637BD#32) (ix2 r k)
      = rmsR (fun k => x (ix2 ⟨256 + r.val, by omega⟩ k)) (fun k => g (ix2 0 k)) k := by
  pointwise! [k0_pay36, k0_pay35, k0_pay34, rowsB_at, rmsR]

/-- the last rows' projections, -/
theorem qkvV_at (r : Fin 128) (j : Fin 768) : qkvV (F := Ideal) x g W (ix2 ⟨384 + r.val, by omega⟩ j)
    = projR (fun k => x (ix2 ⟨384 + r.val, by omega⟩ k)) (fun k => g (ix2 0 k)) (fun a b => W (ix2 a b)) ⟨j.val, by omega⟩ := by
  pointwise [qkvV, k0_pay38, colA_at, projR]
  rw [dif_neg (show ¬384 + r.val < 256 by omega)]
  refine Finset.sum_congr rfl fun k _ => congrArg (· * W (ix2 k ⟨j.val, by omega⟩)) ((normB_at x g _ k).trans ?_)
  have e : (⟨256 + (384 + r.val - 256), by omega⟩ : Fin 512) = ⟨384 + r.val, by omega⟩ := Fin.ext (by show 256 + (384 + r.val - 256) = 384 + r.val; omega)
  exact congrArg (fun z => rmsR (fun k => x (ix2 z k)) (fun k => g (ix2 0 k)) k) e

/-- and the windows that are stored of them. -/
theorem kT_at (d p : Fin 128) : kT (F := Ideal) x g W (ix3 0 d p)
    = projR (fun k => x (ix2 ⟨384 + p.val, by omega⟩ k)) (fun k => g (ix2 0 k)) (fun a b => W (ix2 a b)) ⟨512 + d.val, by omega⟩ := by
  pointwise! [kT, k0_pay23, k0_pay460, lastRows, k0_pay58, qkvV_at]
theorem vT_at (d p : Fin 128) : vT (F := Ideal) x g W (ix3 0 d p)
    = projR (fun k => x (ix2 ⟨384 + p.val, by omega⟩ k)) (fun k => g (ix2 0 k)) (fun a b => W (ix2 a b)) ⟨640 + d.val, by omega⟩ := by
  pointwise! [vT, k0_pay24, k0_pay461, lastRows, k0_pay59, qkvV_at]

end Cert.Kernel3.Pre

end
-- ==== Proof.Pre.Ref.lean ====
module

public import proofs.«01_k».proof.Proof.Mix.Math
public import proofs.«01_k».proof.Proof.Gen.Reference3Ideal.Run

@[expose] public section

set_option maxRecDepth 16384

noncomputable section

namespace Cert.Reference3Ideal.Pre

open Idealize.ShloMosaic Idealize.ShloMosaic.TcCoe
open Cert.Reference3Ideal Cert.Reference3Ideal.Gen
open Cert.Kernel2.Ffn (rmsR)
open Cert.Kernel.Mix (projR)

/-- The reference's projections of the prompts, all 4864 columns, -/
def projP (x : FVec Ideal S4x4096x1024 .f32) (pre : FVec Ideal S1x1024 .f32) (W : FVec Ideal S1x1024x4864 .f32) : FVec Ideal S4x4096x4864 .f32 :=
  Host.dotGeneral dot_S4x4096x1024_S1024x4864_S4x4096x4864_2_0_01_1_n_n none (mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ pre shapeCasts_S1x1024_S1024)))) (shapeCast _ W shapeCasts_S1x1024x4864_S1024x4864)

/-- its key windows -/
def outK (x : FVec Ideal S4x4096x1024 .f32) (pre : FVec Ideal S1x1024 .f32) (W : FVec Ideal S1x1024x4864 .f32) : FVec Ideal S4x128x128 .f32 :=
  transpose S4x128x128 [0, 2, 1] (shapeCast _ (extractStridedSlice S4x128x2x64 ![0, 3968, 0, 0] (shapeCast _ (extractStridedSlice S4x4096x128 ![0, 0, 512] (projP x pre W) slices_S4x4096x4864_S4x4096x128_0_0_512) shapeCasts_S4x4096x128_S4x4096x2x64) slices_S4x4096x2x64_S4x128x2x64_0_3968_0_0) shapeCasts_S4x128x2x64_S4x128x128) transposes_S4x128x128_S4x128x128_0_2_1
/-- and its value windows. -/
def outV (x : FVec Ideal S4x4096x1024 .f32) (pre : FVec Ideal S1x1024 .f32) (W : FVec Ideal S1x1024x4864 .f32) : FVec Ideal S4x128x128 .f32 :=
  transpose S4x128x128 [0, 2, 1] (shapeCast _ (extractStridedSlice S4x128x2x64 ![0, 3968, 0, 0] (shapeCast _ (extractStridedSlice S4x4096x128 ![0, 0, 640] (projP x pre W) slices_S4x4096x4864_S4x4096x128_0_0_640) shapeCasts_S4x4096x128_S4x4096x2x64) slices_S4x4096x2x64_S4x128x2x64_0_3968_0_0) shapeCasts_S4x128x2x64_S4x128x128) transposes_S4x128x128_S4x128x128_0_2_1

variable (x : FVec Ideal S4x4096x1024 .f32) (pre : FVec Ideal S1x1024 .f32) (W : FVec Ideal S1x1024x4864 .f32)

theorem projP_at (s : Fin 4) (r : Fin 4096) (j : Fin 4864) : projP x pre W (ix3 s r j)
    = projR (fun k => x (ix3 s r k)) (fun k => pre (ix2 0 k)) (fun a b => W (ix3 0 a b)) j := by
  pointwise [projP, projR, rmsR]

theorem outK_at (s : Fin 4) (d p : Fin 128) : outK x pre W (ix3 s d p)
    = projR (fun k => x (ix3 s ⟨3968 + p.val, by omega⟩ k)) (fun k => pre (ix2 0 k)) (fun a b => W (ix3 0 a b)) ⟨512 + d.val, by omega⟩ := by
  pointwise [outK, projP_at]
theorem outV_at (s : Fin 4) (d p : Fin 128) : outV x pre W (ix3 s d p)
    = projR (fun k => x (ix3 s ⟨3968 + p.val, by omega⟩ k)) (fun k => pre (ix2 0 k)) (fun a b => W (ix3 0 a b)) ⟨640 + d.val, by omega⟩ := by
  pointwise [outV, projP_at]

end Cert.Reference3Ideal.Pre

end
-- ==== Proof.Pre.Final.lean ====
module

public import proofs.«01_k».proof.Proof.Pre.Run
public import proofs.«01_k».proof.Proof.Pre.Math
public import proofs.«01_k».proof.Proof.Pre.Ref
public import Idealize.ShloMosaic.Lib.Pipeline.ValueKit
public import Idealize.ShloMosaic.Lib.Claim

@[expose] public section

set_option maxRecDepth 16384

noncomputable section

namespace Cert.Kernel3.Pre

open Idealize.ShloMosaic Idealize.ShloMosaic.TcCoe Idealize.SL.Sem
open Idealize.ShloMosaic.Pipeline (Dat)
open Cert.Kernel3 Cert.Kernel3.Gen
open Cert.Kernel.Mix (projR)

variable (m : (ℓ : Loc nD τ sig) → Buf (Elt Ideal) ℓ)

/-- Where the windows' blocks lie at each point. -/
theorem idx : ∀ t : Fin cfg0.N, win0_1.index t = ![t.val, 0] ∧ win0_2.index t = ![0, 0]
    ∧ win0_8.index t = ![t.val / 8, 0, 0] ∧ win0_9.index t = ![t.val / 8, 0, 0] ∧ t.val < 32 :=
  (by decide +kernel : ∀ t : Fin grid0.N, _)

/-- The two reshapes the body's reads come from -/
def reshapes : List (HloOp τ sig (Elt Ideal)) :=
  [StableHlo.reshape main_arg0 main_v0 (rfl : (.f32 : EltTy) = .f32) shapeCasts_S4x4096x1024_S16384x1024,
    StableHlo.reshape main_arg6 main_v1 (rfl : (.f32 : EltTy) = .f32) shapeCasts_S1x1024x4864_S1024x4864]

/-- are not written again before the call. -/
theorem V_of (c : Dev nD) (b : Ref sig .tc) (hb : b = main_v0 ∨ b = main_v1) : V m c b = StableHlo.after reshapes (fun b => m (c, b)) b :=
  (congrFun (StableHlo.after_append reshapes ((List.flatten [hostOps0, hostOps0_1] : List (HloOp τ sig (Elt Ideal))).drop 2) _) _).trans
    (StableHlo.after_of_forall_not_mem _ _ (List.forall_iff_forall_mem.mp (by
      obtain rfl | rfl := hb
      all_goals
        simp only [hostOps0, hostOps0_1, List.flatten_cons, List.flatten_nil, List.append_nil, List.cons_append, List.nil_append, List.drop_succ_cons, List.drop_zero,
          List.Forall, StableHlo.nullary_writes, StableHlo.unary_writes, StableHlo.binary_writes, StableHlo.ternary_writes, StableHlo.quaternary_writes, StableHlo.reshape_writes, StableHlo.binaryIndexed_writes, Finset.mem_singleton]
        repeat' apply And.intro
        all_goals exact StableHlo.devRef_ne_of_ne (by decide))))

/-- The reshaped arguments as the body reads them. -/
theorem w_at (c : Dev nD) (a : Fin 1024) (b : Fin 4864) : (show FVec Ideal S1024x4864 .f32 from V m c main_v1) (ix2 a b)
    = (show FVec Ideal S1x1024x4864 .f32 from m ((c : Thread nD τ).loc main_arg6)) (ix3 0 a b) := by
  rw [V_of m c main_v1 (.inr rfl)]; unfold reshapes; entry_read; pointwise
theorem x_at (c : Dev nD) (a : Fin 16384) (b : Fin 1024) : (show FVec Ideal S16384x1024 .f32 from V m c main_v0) (ix2 a b)
    = (show FVec Ideal S4x4096x1024 .f32 from m ((c : Thread nD τ).loc main_arg0)) (ix3 ⟨a.val / 4096, by omega⟩ ⟨a.val % 4096, by omega⟩ b) := by
  rw [V_of m c main_v0 (.inl rfl)]; unfold reshapes; entry_read; pointwise

/-- The windows' blocks as the body reads them. -/
theorem b1 (c : Dev nD) (t : Fin cfg0.N) (a : Fin 512) (b : Fin 1024) (h : 512 * t.val + a.val < 16384) : (show FVec Ideal S512x1024 .f32 from iblk m c 1 t) (ix2 a b)
    = (show FVec Ideal S16384x1024 .f32 from V m c main_v0) (ix2 ⟨512 * t.val + a.val, h⟩ b) := by
  blk_ext [iblk, idx t]
theorem b2 (c : Dev nD) (t : Fin cfg0.N) (b : Fin 1024) : (show FVec Ideal S1x1024 .f32 from iblk m c 2 t) (ix2 0 b)
    = (show FVec Ideal S1x1024 .f32 from m ((c : Thread nD τ).loc main_arg2)) (ix2 0 b) := by
  blk_ext [iblk, V, idx t]

/-- The two results over the whole arrays, as functions of the arguments: the reference's. -/
def GK (c : Dev nD) : FVec Ideal S4x128x128 .f32 := Cert.Reference3Ideal.Pre.outK (m ((c : Thread nD τ).loc main_arg0)) (m ((c : Thread nD τ).loc main_arg2)) (m ((c : Thread nD τ).loc main_arg6))
@[inherit_doc GK]
def GV (c : Dev nD) : FVec Ideal S4x128x128 .f32 := Cert.Reference3Ideal.Pre.outV (m ((c : Thread nD τ).loc main_arg0)) (m ((c : Thread nD τ).loc main_arg2)) (m ((c : Thread nD τ).loc main_arg6))

/-- A projection of one of a sequence's last rows, from the arguments. -/
theorem proj_eq (c : Dev nD) (t : Fin cfg0.N) (ht : t.val % 8 = 7) (s : Fin 4) (hs : s.val = t.val / 8) (p : Fin 128) :
    projR (fun k => (show FVec Ideal S512x1024 .f32 from iblk m c 1 t) (ix2 ⟨384 + p.val, by omega⟩ k)) (fun k => (show FVec Ideal S1x1024 .f32 from iblk m c 2 t) (ix2 0 k))
        (fun a b => (show FVec Ideal S1024x4864 .bf16 from castW (F := Ideal) (V m c main_v1)) (ix2 a b))
      = projR (fun k => (show FVec Ideal S4x4096x1024 .f32 from m ((c : Thread nD τ).loc main_arg0)) (ix3 s ⟨3968 + p.val, by omega⟩ k))
          (fun k => (show FVec Ideal S1x1024 .f32 from m ((c : Thread nD τ).loc main_arg2)) (ix2 0 k))
          (fun a b => (show FVec Ideal S1x1024x4864 .f32 from m ((c : Thread nD τ).loc main_arg6)) (ix3 0 a b)) := by
  have hN := (idx t).2.2.2.2
  congr 1
  · refine funext fun k => (b1 m c t ⟨384 + p.val, by omega⟩ k (by show 512 * t.val + (384 + p.val) < 16384; omega)).trans ((x_at m c _ k).trans ?_)
    refine congrArg₂ (fun a b => (show FVec Ideal S4x4096x1024 .f32 from m ((c : Thread nD τ).loc main_arg0)) (ix3 a b k)) (Fin.ext ?_) (Fin.ext ?_)
    · show (512 * t.val + (384 + p.val)) / 4096 = s.val; omega
    · show (512 * t.val + (384 + p.val)) % 4096 = 3968 + p.val; omega
  · exact funext fun k => b2 m c t k
  · exact funext fun a => funext fun b => w_at m c a b

/-- What the body leaves of a sequence's windows is the reference's there. -/
theorem outK_at (c : Dev nD) (t : Fin cfg0.N) (ht : t.val % 8 = 7) (s : Fin 4) (hs : s.val = t.val / 8) (d p : Fin 128) :
    outK m c t (ix3 0 d p) = GK m c (ix3 s d p) :=
  (kT_at _ _ _ d p).trans ((congrFun (proj_eq m c t ht s hs p) _).trans (Cert.Reference3Ideal.Pre.outK_at _ _ _ s d p).symm)
theorem outV_at (c : Dev nD) (t : Fin cfg0.N) (ht : t.val % 8 = 7) (s : Fin 4) (hs : s.val = t.val / 8) (d p : Fin 128) :
    outV m c t (ix3 0 d p) = GV m c (ix3 s d p) :=
  (vT_at _ _ _ d p).trans ((congrFun (proj_eq m c t ht s hs p) _).trans (Cert.Reference3Ideal.Pre.outV_at _ _ _ s d p).symm)

/-- The result array of window 8 after the run. -/
theorem final8 (c : Dev nD) : (dats m 0 c).arrAt 8 cfg0.N = GK m c := by
  refine (dats m 0 c).arrAt_eq_of_covers 8 _ (by decide +kernel) fun t hf y => ?_
  have ht := (flush0_8 t).mp hf
  blk_simp
  rw [after_8]
  have hN := (idx t).2.2.2.2
  have e := (idx t).2.2.1
  have hy : (y 0).val < 1 := (y 0).isLt
  rw [show y = ix3 0 (y 1) (y 2) from (eq_ix3 y).trans (congrArg (fun z => ix3 z (y 1) (y 2)) (Fin.ext (by show (y 0).val = 0; omega)))]
  refine (outK_at m c t ht ⟨t.val / 8, by omega⟩ rfl (y 1) (y 2)).trans ?_
  blk_ext [e]

/-- The result array of window 9 after the run. -/
theorem final9 (c : Dev nD) : (dats m 0 c).arrAt 9 cfg0.N = GV m c := by
  refine (dats m 0 c).arrAt_eq_of_covers 9 _ (by decide +kernel) fun t hf y => ?_
  have ht := (flush0_9 t).mp hf
  blk_simp
  rw [after_9]
  have hN := (idx t).2.2.2.2
  have e := (idx t).2.2.2.1
  have hy : (y 0).val < 1 := (y 0).isLt
  rw [show y = ix3 0 (y 1) (y 2) from (eq_ix3 y).trans (congrArg (fun z => ix3 z (y 1) (y 2)) (Fin.ext (by show (y 0).val = 0; omega)))]
  refine (outV_at m c t ht ⟨t.val / 8, by omega⟩ rfl (y 1) (y 2)).trans ?_
  blk_ext [e]

end Cert.Kernel3.Pre

end
-- ==== Proof.Pre.Claims.lean ====
module

public import proofs.«01_k».proof.Defs
public import proofs.«01_k».proof.Proof.Pre.Twin
public import proofs.«01_k».proof.Proof.Pre.Final
public import Idealize.ShloMosaic.Lib.Quiescent

@[expose] public section

set_option maxRecDepth 16384
set_option maxHeartbeats 0

noncomputable section

namespace Cert.Kernel3.Pre

open Idealize.ShloMosaic Idealize.ShloMosaic.TcCoe Idealize.SL.Sem
open Cert.Kernel3 Cert.Kernel3.Gen

/-- An array the run names ends as the pipeline leaves it. -/
theorem named {F : FTy → Type} [FloatOps F] (m : (ℓ : Loc nD τ sig) → Buf (Elt F) ℓ) {c : Dev nD} {v : (w : Fin cfg0.W) → Buf (Elt F) ((cfg0.win w).arr.view.loc (c.tc : Thread nD τ))}
    (h : ∀ w, ((dats m 0 c).toRForget forgets0).ArrAt w cfg0.N (v w)) (w : Fin cfg0.W) (hw : forgets0 w = false) : v w = (dats m 0 c).arrAt w cfg0.N :=
  ((dats m 0 c).toRForget_arrAt_iff hw _ _).mp (h w)

/-- The call's run over any float values: the two result arrays as the pipeline leaves them, the arguments unchanged,
    every counter at zero. -/
theorem outcome {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v21_1) = (dats m 0 c).arrAt 8 cfg0.N
      ∧ r.2.mem ((c.tc : Thread nD τ).loc main_v21_2) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨named m (h.1 c).1 8 rfl, named m (h.1 c).1 9 rfl,
      ((h.1 c).2 main_arg0 (Pipeline.mem_restRefs_of main_arg0 (by decide) (by decide))).trans (V_main_arg0 m c),
      (named m (h.1 c).1 0 rfl).trans (((dats m 0 c).arrAt_in 0 rfl _).trans ((A_eq m c 0).trans (V_main_arg1 m c))),
      (named m (h.1 c).1 2 rfl).trans (((dats m 0 c).arrAt_in 2 rfl _).trans ((A_eq m c 2).trans (V_main_arg2 m c))),
      (named m (h.1 c).1 3 rfl).trans (((dats m 0 c).arrAt_in 3 rfl _).trans ((A_eq m c 3).trans (V_main_arg3 m c))),
      (named m (h.1 c).1 4 rfl).trans (((dats m 0 c).arrAt_in 4 rfl _).trans ((A_eq m c 4).trans (V_main_arg4 m c))),
      (named m (h.1 c).1 5 rfl).trans (((dats m 0 c).arrAt_in 5 rfl _).trans ((A_eq m c 5).trans (V_main_arg5 m c))),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run m ρ)

/-- The frames: the kernel's, -/
theorem quiet : Cert.quiescent_Kernel3 := fun m ρ _ =>
  (θ_run defs _ _).mono (fun _ h => ⟨fun c => (h.1 c).2.2, h.2⟩) (outcome m ρ)

/-- the idealized program's, which is the same text, -/
theorem quietI : Cert.quiescent_Kernel3Ideal := fun m ρ _ => by
  rw [twin_defs, twin_main]
  exact (θ_run defs _ _).mono (fun _ h => ⟨fun c => (h.1 c).2.2, h.2⟩) (outcome (F := Ideal) m ρ)

/-- and the reference's. -/
theorem quietR : Cert.quiescent_Reference3Ideal := fun m ρ _ =>
  (θ_run _ _ _).mono (fun r h => ⟨fun c => (h c).2.2, sem_eq_zero_of_no_sems (by decide) r.2⟩) (Cert.Reference3Ideal.Value.run m ρ)

/-- The kernel computes the reference's function. -/
theorem algebraic : Cert.algebraic_Kernel3Ideal_Reference3Ideal := fun m g m' g' _ hag => by
  refine ⟨fun c => GK m c, fun c => GV m c, ?_, ?_⟩
  · rw [twin_defs, twin_main]
    exact (θ_run defs _ _).mono (fun _ h c => ⟨(h.1 c).1.trans (final8 m c), (h.1 c).2.1.trans (final9 m c), (h.1 c).2.2⟩)
      (outcome (F := Ideal) m g)
  · refine (θ_run _ _ _).mono (fun r h c => ?_) (Cert.Reference3Ideal.Value.run m' g')
    obtain ⟨a0, a1, a2, a3, a4, a5, a6, a7, a8, a9⟩ := hag c
    refine ⟨(h c).1.trans ?_, (h c).2.1.trans ?_, (h c).2.2⟩
    · rw [a0, a2, a6]; rfl
    · rw [a0, a2, a6]; rfl

end Cert.Kernel3.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Launch
public import proofs.«01_k».proof.Proof.Gen.Reference3Ideal
public import proofs.«01_k».proof.Proof.Gen.Reference3Ideal.Run
public import proofs.«01_k».proof.Proof.Mix.Claims
public import proofs.«01_k».proof.Proof.Ffn.Claims
public import proofs.«01_k».proof.Proof.Pre.Claims

@[expose] public section

noncomputable section

namespace Cert.Proof

/-- Everything the certificate claims, from the modules of the two mixers and of the feed-forward block. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel.Mix.quiet, Cert.Kernel.Mix.quietI, Cert.Kernel.Mix.quietR,
    Cert.Kernel2.Ffn.quiet, Cert.Kernel2.Ffn.quietI, Cert.Kernel2.Ffn.quietR,
    Cert.Kernel3.Pre.quiet, Cert.Kernel3.Pre.quietI, Cert.Kernel3.Pre.quietR,
    trivial, Cert.Kernel.Mix.algebraic, trivial, Cert.Kernel2.Ffn.algebraic, trivial, Cert.Kernel3.Pre.algebraic⟩

end Cert.Proof

end
